-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite_qk [hPre_finite_qk : Cert.Pre_finite_qk.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite_qk.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite_qk [hPre_finite_qk : Cert.Pre_finite_qk.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite_qk.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite_qk [hAttentionIdeal : Cert.AttentionIdeal.Facts] [hPre_finite_qk : Cert.Pre_finite_qk.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite_qk m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_AttentionRefIdeal_pre_finite_qk [hAttentionRefIdeal : Cert.AttentionRefIdeal.Facts] [hPre_finite_qk : Cert.Pre_finite_qk.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite_qk m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5))
      ∧ r.2.sem = fun _ => 0)

def preserves_Attention_AttentionIdeal : Prop :=
  IdealRules.named_const.Statement Cert.AttentionIdeal.κ "mask" .f32 0xF149F2CA#32 ⊥

def algebraic_AttentionIdeal_AttentionRefIdeal_pre_finite_qk [hAttentionIdeal : Cert.AttentionIdeal.Facts] [hAttentionRefIdeal : Cert.AttentionRefIdeal.Facts] [hPre_finite_qk : Cert.Pre_finite_qk.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite_qk m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v28) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v10)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v10) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v317) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v89_1)) (v1 : (c : Dev Cert.InprojIdeal.nD) → Buf (Elt Ideal) ((c.tc : Thread Cert.InprojIdeal.nD Cert.InprojIdeal.τ).loc Cert.InprojIdeal.main_v89_2)) (v2 : (c : Dev Cert.InprojIdeal.nD) → Buf (Elt Ideal) ((c.tc : Thread Cert.InprojIdeal.nD Cert.InprojIdeal.τ).loc Cert.InprojIdeal.main_v89_5)) (v3 : (c : Dev Cert.InprojIdeal.nD) → Buf (Elt Ideal) ((c.tc : Thread Cert.InprojIdeal.nD Cert.InprojIdeal.τ).loc Cert.InprojIdeal.main_v89_6)) (v4 : (c : Dev Cert.InprojIdeal.nD) → Buf (Elt Ideal) ((c.tc : Thread Cert.InprojIdeal.nD Cert.InprojIdeal.τ).loc Cert.InprojIdeal.main_v89_7)) (v5 : (c : Dev Cert.InprojIdeal.nD) → Buf (Elt Ideal) ((c.tc : Thread Cert.InprojIdeal.nD Cert.InprojIdeal.τ).loc Cert.InprojIdeal.main_v89_8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v89_1) = v0 c
          ∧ r.2.mem ((c.tc : Thread Cert.InprojIdeal.nD Cert.InprojIdeal.τ).loc Cert.InprojIdeal.main_v89_2) = v1 c
          ∧ r.2.mem ((c.tc : Thread Cert.InprojIdeal.nD Cert.InprojIdeal.τ).loc Cert.InprojIdeal.main_v89_5) = v2 c
          ∧ r.2.mem ((c.tc : Thread Cert.InprojIdeal.nD Cert.InprojIdeal.τ).loc Cert.InprojIdeal.main_v89_6) = v3 c
          ∧ r.2.mem ((c.tc : Thread Cert.InprojIdeal.nD Cert.InprojIdeal.τ).loc Cert.InprojIdeal.main_v89_7) = v4 c
          ∧ r.2.mem ((c.tc : Thread Cert.InprojIdeal.nD Cert.InprojIdeal.τ).loc Cert.InprojIdeal.main_v89_8) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v43) = v0 c
          ∧ r.2.mem ((c.tc : Thread Cert.InprojRefIdeal.nD Cert.InprojRefIdeal.τ).loc Cert.InprojRefIdeal.main_v44) = v1 c
          ∧ r.2.mem ((c.tc : Thread Cert.InprojRefIdeal.nD Cert.InprojRefIdeal.τ).loc Cert.InprojRefIdeal.main_v45) = v2 c
          ∧ r.2.mem ((c.tc : Thread Cert.InprojRefIdeal.nD Cert.InprojRefIdeal.τ).loc Cert.InprojRefIdeal.main_v53) = v3 c
          ∧ r.2.mem ((c.tc : Thread Cert.InprojRefIdeal.nD Cert.InprojRefIdeal.τ).loc Cert.InprojRefIdeal.main_v60) = v4 c
          ∧ r.2.mem ((c.tc : Thread Cert.InprojRefIdeal.nD Cert.InprojRefIdeal.τ).loc Cert.InprojRefIdeal.main_v61) = v5 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)) →
    ∃ (v0 : (c : Dev Cert.SampleIdeal.nD) → Buf (Elt Ideal) ((c.tc : Thread Cert.SampleIdeal.nD Cert.SampleIdeal.τ).loc Cert.SampleIdeal.main_v98_1)) (v1 : (c : Dev Cert.SampleIdeal.nD) → Buf (Elt Ideal) ((c.tc : Thread Cert.SampleIdeal.nD Cert.SampleIdeal.τ).loc Cert.SampleIdeal.main_v98_2)) (v2 : (c : Dev Cert.SampleIdeal.nD) → Buf (Elt Ideal) ((c.tc : Thread Cert.SampleIdeal.nD Cert.SampleIdeal.τ).loc Cert.SampleIdeal.main_v98_3)) (v3 : (c : Dev Cert.SampleIdeal.nD) → Buf (Elt Ideal) ((c.tc : Thread Cert.SampleIdeal.nD Cert.SampleIdeal.τ).loc Cert.SampleIdeal.main_v98_4)) (v4 : (c : Dev Cert.SampleIdeal.nD) → Buf (Elt Ideal) ((c.tc : Thread Cert.SampleIdeal.nD Cert.SampleIdeal.τ).loc Cert.SampleIdeal.main_v98_5)) (v5 : (c : Dev Cert.SampleIdeal.nD) → Buf (Elt Ideal) ((c.tc : Thread Cert.SampleIdeal.nD Cert.SampleIdeal.τ).loc Cert.SampleIdeal.main_v98_6)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v98_1) = v0 c
          ∧ r.2.mem ((c.tc : Thread Cert.SampleIdeal.nD Cert.SampleIdeal.τ).loc Cert.SampleIdeal.main_v98_2) = v1 c
          ∧ r.2.mem ((c.tc : Thread Cert.SampleIdeal.nD Cert.SampleIdeal.τ).loc Cert.SampleIdeal.main_v98_3) = v2 c
          ∧ r.2.mem ((c.tc : Thread Cert.SampleIdeal.nD Cert.SampleIdeal.τ).loc Cert.SampleIdeal.main_v98_4) = v3 c
          ∧ r.2.mem ((c.tc : Thread Cert.SampleIdeal.nD Cert.SampleIdeal.τ).loc Cert.SampleIdeal.main_v98_5) = v4 c
          ∧ r.2.mem ((c.tc : Thread Cert.SampleIdeal.nD Cert.SampleIdeal.τ).loc Cert.SampleIdeal.main_v98_6) = v5 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v43) = v0 c
          ∧ r.2.mem ((c.tc : Thread Cert.SampleRefIdeal.nD Cert.SampleRefIdeal.τ).loc Cert.SampleRefIdeal.main_v44) = v1 c
          ∧ r.2.mem ((c.tc : Thread Cert.SampleRefIdeal.nD Cert.SampleRefIdeal.τ).loc Cert.SampleRefIdeal.main_v45) = v2 c
          ∧ r.2.mem ((c.tc : Thread Cert.SampleRefIdeal.nD Cert.SampleRefIdeal.τ).loc Cert.SampleRefIdeal.main_v53) = v3 c
          ∧ r.2.mem ((c.tc : Thread Cert.SampleRefIdeal.nD Cert.SampleRefIdeal.τ).loc Cert.SampleRefIdeal.main_v60) = v4 c
          ∧ r.2.mem ((c.tc : Thread Cert.SampleRefIdeal.nD Cert.SampleRefIdeal.τ).loc Cert.SampleRefIdeal.main_v61) = v5 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5))

def Claim : Prop :=
  ∃ (hAttention : Cert.Attention.Facts) (hAttentionIdeal : Cert.AttentionIdeal.Facts) (hAttentionRefIdeal : Cert.AttentionRefIdeal.Facts) (hExperts : Cert.Experts.Facts) (hExpertsIdeal : Cert.ExpertsIdeal.Facts) (hExpertsRefIdeal : Cert.ExpertsRefIdeal.Facts) (hInproj : Cert.Inproj.Facts) (hInprojIdeal : Cert.InprojIdeal.Facts) (hInprojRefIdeal : Cert.InprojRefIdeal.Facts) (hSample : Cert.Sample.Facts) (hSampleIdeal : Cert.SampleIdeal.Facts) (hSampleRefIdeal : Cert.SampleRefIdeal.Facts) (hPre_finite_qk : Cert.Pre_finite_qk.Facts),
    quiescent_Attention (hAttention := hAttention)
    ∧ quiescent_AttentionIdeal (hAttentionIdeal := hAttentionIdeal)
    ∧ quiescent_AttentionIdeal_pre_finite_qk (hAttentionIdeal := hAttentionIdeal) (hPre_finite_qk := hPre_finite_qk)
    ∧ quiescent_AttentionRefIdeal (hAttentionRefIdeal := hAttentionRefIdeal)
    ∧ quiescent_AttentionRefIdeal_pre_finite_qk (hAttentionRefIdeal := hAttentionRefIdeal) (hPre_finite_qk := hPre_finite_qk)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Sample (hSample := hSample)
    ∧ quiescent_SampleIdeal (hSampleIdeal := hSampleIdeal)
    ∧ quiescent_SampleRefIdeal (hSampleRefIdeal := hSampleRefIdeal)
    ∧ preserves_Attention_AttentionIdeal
    ∧ algebraic_AttentionIdeal_AttentionRefIdeal_pre_finite_qk (hAttentionIdeal := hAttentionIdeal) (hAttentionRefIdeal := hAttentionRefIdeal) (hPre_finite_qk := hPre_finite_qk)
    ∧ preserves_Experts_ExpertsIdeal
    ∧ algebraic_ExpertsIdeal_ExpertsRefIdeal (hExpertsIdeal := hExpertsIdeal) (hExpertsRefIdeal := hExpertsRefIdeal)
    ∧ preserves_Inproj_InprojIdeal
    ∧ algebraic_InprojIdeal_InprojRefIdeal (hInprojIdeal := hInprojIdeal) (hInprojRefIdeal := hInprojRefIdeal)
    ∧ preserves_Sample_SampleIdeal
    ∧ algebraic_SampleIdeal_SampleRefIdeal (hSampleIdeal := hSampleIdeal) (hSampleRefIdeal := hSampleRefIdeal)
-- ==== Pre_finite_qk.lean ====
abbrev S16384x1024 : Shape := ⟨2, ![16384, 1024]⟩
abbrev S16384x512 : Shape := ⟨2, ![16384, 512]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .bf16) (main_arg1 : FVec F S16384x1024 .bf16) (main_arg2 : FVec F S16384x512 .bf16) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  main_v10
-- ==== Attention.lean ====
abbrev S16384x1024 : Shape := ⟨2, ![16384, 1024]⟩
abbrev S16384x512 : Shape := ⟨2, ![16384, 512]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S2x512x1 : Shape := ⟨3, ![2, 512, 1]⟩
abbrev S2x512x128 : Shape := ⟨3, ![2, 512, 128]⟩
abbrev S512x1 : Shape := ⟨2, ![512, 1]⟩
abbrev S1x512x1 : Shape := ⟨3, ![1, 512, 1]⟩
abbrev S1x512x128 : Shape := ⟨3, ![1, 512, 128]⟩
abbrev S512x512 : Shape := ⟨2, ![512, 512]⟩
abbrev S512 : Shape := ⟨1, ![512]⟩

abbrev nBuf : Space → Nat
  | .hbm => 4
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x512, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S2x512x1, .f32⟩
  | .local _ .vmem, ⟨9, _⟩ => ⟨S2x512x1, .f32⟩
  | .local _ .vmem, ⟨10, _⟩ => ⟨S2x512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_21 : BitVec 32 := 0#32
  let arg2 : BitVec 32 := BitVec.ofNat 32 (i 2).val
  let v24 : BitVec 32 := Scalar.subi arg2 c0_i32_21
  let c1_i32 : BitVec 32 := 1#32
  let v26 : BitVec 32 := Scalar.divsi v24 c1_i32
  let v27 : BitVec 32 := Scalar.muli v26 c1_i32
  let v28 : BitVec 32 := Scalar.addi c0_i32_21 v27
  let c1_i32_22 : BitVec 32 := 1#32
  ⟨c0_i32_21, v28, c1_i32_22⟩
def k0_mult1 (i : grid0.Coords) (k0_t1 : Fin (k0_t1_loop i).trips) : BitVec 32 :=
  let c0_i32_21 : BitVec 32 := 0#32
  let c1_i32_22 : BitVec 32 := 1#32
  let arg10 : BitVec 32 := Scf.iv c0_i32_21 c1_i32_22 k0_t1
  let c512_i32_89 : BitVec 32 := 512#32
  let v133 : BitVec 32 := Scalar.muli arg10 c512_i32_89
  v133
def k0_off1 (i : grid0.Coords) (k0_t1 : Fin (k0_t1_loop i).trips) : Fin 2 → Nat :=
  let c0_i32_21 : BitVec 32 := 0#32
  let c1_i32_22 : BitVec 32 := 1#32
  let arg10 : BitVec 32 := Scf.iv c0_i32_21 c1_i32_22 k0_t1
  let c512_i32_89 : BitVec 32 := 512#32
  let v133 : BitVec 32 := Scalar.muli arg10 c512_i32_89
  let v134 : BitVec 32 := v133
  let v135 : Index := Scalar.indexCast v134
  let c0_90 : Index := 0#32
  ![v135.toNat, 0]
def k0_off2 (i : grid0.Coords) (k0_t1 : Fin (k0_t1_loop i).trips) : Fin 2 → Nat :=
  let c0_i32_21 : BitVec 32 := 0#32
  let c1_i32_22 : BitVec 32 := 1#32
  let arg10 : BitVec 32 := Scf.iv c0_i32_21 c1_i32_22 k0_t1
  let c512_i32_89 : BitVec 32 := 512#32
  let v133 : BitVec 32 := Scalar.muli arg10 c512_i32_89
  let v134 : BitVec 32 := v133
  let v137 : Index := Scalar.indexCast v134
  let c0_91 : Index := 0#32
  ![v137.toNat, 0]
@[reducible] def k0_t2_loop (i : grid0.Coords) : Scf.Loop 32 :=
  let c0_i32_21 : BitVec 32 := 0#32
  let arg2 : BitVec 32 := BitVec.ofNat 32 (i 2).val
  let v24 : BitVec 32 := Scalar.subi arg2 c0_i32_21
  let c1_i32 : BitVec 32 := 1#32
  let v26 : BitVec 32 := Scalar.divsi v24 c1_i32
  let v27 : BitVec 32 := Scalar.muli v26 c1_i32
  let v28 : BitVec 32 := Scalar.addi c0_i32_21 v27
  let v25 : BitVec 32 := Scalar.addi c0_i32_21 v24
  let c1_i32_23 : BitVec 32 := 1#32
  ⟨v28, v25, c1_i32_23⟩
def k0_mult2 (i : grid0.Coords) (k0_t2 : Fin (k0_t2_loop i).trips) : BitVec 32 :=
  let c0_i32_21 : BitVec 32 := 0#32
  let arg2 : BitVec 32 := BitVec.ofNat 32 (i 2).val
  let v24 : BitVec 32 := Scalar.subi arg2 c0_i32_21
  let c1_i32 : BitVec 32 := 1#32
  let v26 : BitVec 32 := Scalar.divsi v24 c1_i32
  let v27 : BitVec 32 := Scalar.muli v26 c1_i32
  let v28 : BitVec 32 := Scalar.addi c0_i32_21 v27
  let c1_i32_23 : BitVec 32 := 1#32
  let arg10 : BitVec 32 := Scf.iv v28 c1_i32_23 k0_t2
  let c512_i32_89 : BitVec 32 := 512#32
  let v133 : BitVec 32 := Scalar.muli arg10 c512_i32_89
  v133
def k0_off3 (i : grid0.Coords) (k0_t2 : Fin (k0_t2_loop i).trips) : Fin 2 → Nat :=
  let c0_i32_21 : BitVec 32 := 0#32
  let arg2 : BitVec 32 := BitVec.ofNat 32 (i 2).val
  let v24 : BitVec 32 := Scalar.subi arg2 c0_i32_21
  let c1_i32 : BitVec 32 := 1#32
  let v26 : BitVec 32 := Scalar.divsi v24 c1_i32
  let v27 : BitVec 32 := Scalar.muli v26 c1_i32
  let v28 : BitVec 32 := Scalar.addi c0_i32_21 v27
  let c1_i32_23 : BitVec 32 := 1#32
  let arg10 : BitVec 32 := Scf.iv v28 c1_i32_23 k0_t2
  let c512_i32_89 : BitVec 32 := 512#32
  let v133 : BitVec 32 := Scalar.muli arg10 c512_i32_89
  let v134 : BitVec 32 := v133
  let v135 : Index := Scalar.indexCast v134
  let c0_90 : Index := 0#32
  ![v135.toNat, 0]
def k0_off4 (i : grid0.Coords) (k0_t2 : Fin (k0_t2_loop i).trips) : Fin 2 → Nat :=
  let c0_i32_21 : BitVec 32 := 0#32
  let arg2 : BitVec 32 := BitVec.ofNat 32 (i 2).val
  let v24 : BitVec 32 := Scalar.subi arg2 c0_i32_21
  let c1_i32 : BitVec 32 := 1#32
  let v26 : BitVec 32 := Scalar.divsi v24 c1_i32
  let v27 : BitVec 32 := Scalar.muli v26 c1_i32
  let v28 : BitVec 32 := Scalar.addi c0_i32_21 v27
  let c1_i32_23 : BitVec 32 := 1#32
  let arg10 : BitVec 32 := Scf.iv v28 c1_i32_23 k0_t2
  let c512_i32_89 : BitVec 32 := 512#32
  let v133 : BitVec 32 := Scalar.muli arg10 c512_i32_89
  let v134 : BitVec 32 := v133
  let v137 : Index := Scalar.indexCast v134
  let c0_91 : Index := 0#32
  ![v137.toNat, 0]
def k0_mult3 (i : grid0.Coords) : BitVec 32 :=
  let arg2 : BitVec 32 := BitVec.ofNat 32 (i 2).val
  let c512_i32 : BitVec 32 := 512#32
  let v29 : BitVec 32 := Scalar.muli arg2 c512_i32
  v29
def k0_off5 (i : grid0.Coords) : Fin 2 → Nat :=
  let arg2 : BitVec 32 := BitVec.ofNat 32 (i 2).val
  let c512_i32 : BitVec 32 := 512#32
  let v29 : BitVec 32 := Scalar.muli arg2 c512_i32
  let v30 : BitVec 32 := v29
  let v31 : Index := Scalar.indexCast v30
  let c0_24 : Index := 0#32
  ![v31.toNat, 0]
def k0_off6 (i : grid0.Coords) : Fin 2 → Nat :=
  let arg2 : BitVec 32 := BitVec.ofNat 32 (i 2).val
  let c512_i32 : BitVec 32 := 512#32
  let v29 : BitVec 32 := Scalar.muli arg2 c512_i32
  let v30 : BitVec 32 := v29
  let v33 : Index := Scalar.indexCast v30
  let c0_25 : Index := 0#32
  ![v33.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttentionIdeal.lean ====
variable {F : FTy → Type} [FloatOps F] [Named F]
def κ : String → Option EReal := fun
  | "mask" => some ⊥
  | _ => none
-- ==== AttentionRefIdeal.lean ====
abbrev S16384x1024 : Shape := ⟨2, ![16384, 1024]⟩
abbrev S16384x512 : Shape := ⟨2, ![16384, 512]⟩
abbrev S4x4096x8x128 : Shape := ⟨4, ![4, 4096, 8, 128]⟩
abbrev S4x4096x8x64 : Shape := ⟨4, ![4, 4096, 8, 64]⟩
abbrev S4096 : Shape := ⟨1, ![4096]⟩
abbrev S4x8x4096x4096 : Shape := ⟨4, ![4, 8, 4096, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x1024, .f32⟩
  | .hbm, ⟨4, _⟩ => ⟨S4x4096x8x128, .f32⟩
  | .hbm, ⟨5, _⟩ => ⟨S16384x1024, .f32⟩
  | .hbm, ⟨6, _⟩ => ⟨S4x4096x8x128, .f32⟩
  | .hbm, ⟨7, _⟩ => ⟨S16384x512, .f32⟩
  | .hbm, ⟨8, _⟩ => ⟨S4x4096x8x64, .f32⟩
  | .hbm, ⟨9, _⟩ => ⟨S4096, .i32⟩
  | .hbm, ⟨10, _⟩ => ⟨S4x8x4096x4096, .f32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S4x8x4096x4096, .i1⟩
  | .hbm, ⟨19, _⟩ => ⟨S4x8x4096x4096, .f32⟩
  | .hbm, ⟨20, _⟩ => ⟨S4x8x4096x4096, .f32⟩
  | .hbm, ⟨21, _⟩ => ⟨S_, .f32⟩
  | .hbm, ⟨22, _⟩ => ⟨S4x8x4096, .f32⟩
  | .hbm, ⟨23, _⟩ => ⟨S_, .f32⟩
  | .hbm, ⟨24, _⟩ => ⟨S4x8x4096, .f32⟩
  | .hbm, ⟨25, _⟩ => ⟨S4x8x4096, .f32⟩
  | .hbm, ⟨26, _⟩ => ⟨S4x8x4096x1, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S_, .f32⟩
  | .hbm, ⟨31, _⟩ => ⟨S4x8x4096, .f32⟩
  | .hbm, ⟨32, _⟩ => ⟨S4x8x4096x1, .f32⟩
  | .hbm, ⟨33, _⟩ => ⟨S4x8x4096x4096, .f32⟩
  | .hbm, ⟨34, _⟩ => ⟨S4x8x4096x4096, .f32⟩
  | .hbm, ⟨35, _⟩ => ⟨S4x8x64x4096, .f32⟩
  | .hbm, ⟨36, _⟩ => ⟨S4x4096x8x64, .f32⟩
  | .hbm, ⟨37, _⟩ => ⟨S16384x512, .f32⟩
  | .hbm, ⟨38, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Experts.lean ====
abbrev S16384x1024 : Shape := ⟨2, ![16384, 1024]⟩
abbrev S16384x128 : Shape := ⟨2, ![16384, 128]⟩
abbrev S1x16x1024x512 : Shape := ⟨4, ![1, 16, 1024, 512]⟩
abbrev S1x16x512x1024 : Shape := ⟨4, ![1, 16, 512, 1024]⟩
abbrev S1x1024 : Shape := ⟨2, ![1, 1024]⟩
abbrev S16x1024x512 : Shape := ⟨3, ![16, 1024, 512]⟩
abbrev S16x512x1024 : Shape := ⟨3, ![16, 512, 1024]⟩
abbrev S1024 : Shape := ⟨1, ![1024]⟩
abbrev S512x1024 : Shape := ⟨2, ![512, 1024]⟩
abbrev S512x128 : Shape := ⟨2, ![512, 128]⟩
abbrev S1x1024x512 : Shape := ⟨3, ![1, 1024, 512]⟩
abbrev S1x512x1024 : Shape := ⟨3, ![1, 512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S1x16x1024x512, .f32⟩
  | .hbm, ⟨3, _⟩ => ⟨S1x16x1024x512, .f32⟩
  | .hbm, ⟨4, _⟩ => ⟨S1x16x512x1024, .f32⟩
  | .hbm, ⟨5, _⟩ => ⟨S1x1024, .f32⟩
  | .hbm, ⟨6, _⟩ => ⟨S1x1024, .f32⟩
  | .hbm, ⟨7, _⟩ => ⟨S16x1024x512, .f32⟩
  | .hbm, ⟨8, _⟩ => ⟨S16x1024x512, .bf16⟩
  | .hbm, ⟨9, _⟩ => ⟨S16x1024x512, .f32⟩
  | .hbm, ⟨10, _⟩ => ⟨S16x1024x512, .bf16⟩
  | .hbm, ⟨11, _⟩ => ⟨S16x512x1024, .f32⟩
  | .hbm, ⟨12, _⟩ => ⟨S16x512x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ExpertsRefIdeal.lean ====
abbrev S16384x1024 : Shape := ⟨2, ![16384, 1024]⟩
abbrev S16384x128 : Shape := ⟨2, ![16384, 128]⟩
abbrev S1x16x1024x512 : Shape := ⟨4, ![1, 16, 1024, 512]⟩
abbrev S1x16x512x1024 : Shape := ⟨4, ![1, 16, 512, 1024]⟩
abbrev S1x1024 : Shape := ⟨2, ![1, 1024]⟩
abbrev S_ : Shape := ⟨0, ![]⟩
abbrev S16x1024x512 : Shape := ⟨3, ![16, 1024, 512]⟩
abbrev S1x1024x512 : Shape := ⟨3, ![1, 1024, 512]⟩
abbrev S1024x512 : Shape := ⟨2, ![1024, 512]⟩
abbrev S16384x512 : Shape := ⟨2, ![16384, 512]⟩
abbrev S16384x1 : Shape := ⟨2, ![16384, 1]⟩
abbrev S16x512x1024 : Shape := ⟨3, ![16, 512, 1024]⟩
abbrev S1x512x1024 : Shape := ⟨3, ![1, 512, 1024]⟩
abbrev S512x1024 : Shape := ⟨2, ![512, 1024]⟩
abbrev S1024 : Shape := ⟨1, ![1024]⟩
abbrev S16384 : Shape := ⟨1, ![16384]⟩

abbrev nBuf : Space → Nat
  | .hbm => 460
  | .vmem => 0
  | .smem => 0
  | _ => 0

abbrev hbmTy0_0 (i : Nat) : BufTy := match i % 128 with
  | 0 => ⟨S16384x1024, .f32⟩
  | 1 => ⟨S16384x128, .f32⟩
  | 2 => ⟨S1x16x1024x512, .f32⟩
  | 3 => ⟨S1x16x1024x512, .f32⟩
  | 4 => ⟨S1x16x512x1024, .f32⟩
  | 5 => ⟨S1x1024, .f32⟩
  | 6 => ⟨S1x1024, .f32⟩
  | 7 => ⟨S_, .f32⟩
  | 8 => ⟨S16384x1024, .f32⟩
  | 9 => ⟨S16x1024x512, .f32⟩
  | 10 => ⟨S1x1024x512, .f32⟩
  | 11 => ⟨S1024x512, .f32⟩
  | 12 => ⟨S16384x512, .f32⟩
  | 13 => ⟨S16384x512, .f32⟩
  | 14 => ⟨S16384x512, .f32⟩
  | 15 => ⟨S_, .f32⟩
  | 16 => ⟨S16384x512, .f32⟩
  | 17 => ⟨S16384x512, .f32⟩
  | 18 => ⟨S_, .f32⟩
  | 19 => ⟨S16384x512, .f32⟩
  | 20 => ⟨S16384x512, .f32⟩
  | 21 => ⟨S16384x512, .f32⟩
  | 22 => ⟨S16x1024x512, .f32⟩
  | 23 => ⟨S1x1024x512, .f32⟩
  | 24 => ⟨S1024x512, .f32⟩
  | 25 => ⟨S16384x512, .f32⟩
  | 26 => ⟨S16384x512, .f32⟩
  | 27 => ⟨S16384x1, .f32⟩
  | 28 => ⟨S16x512x1024, .f32⟩
  | 29 => ⟨S1x512x1024, .f32⟩
  | 30 => ⟨S512x1024, .f32⟩
  | 31 => ⟨S16384x1024, .f32⟩
  | 32 => ⟨S16384x1024, .f32⟩
  | 33 => ⟨S16384x1024, .f32⟩
  | 34 => ⟨S16384x1024, .f32⟩
  | 35 => ⟨S16x1024x512, .f32⟩
  | 36 => ⟨S1x1024x512, .f32⟩
  | 37 => ⟨S1024x512, .f32⟩
  | 38 => ⟨S16384x512, .f32⟩
  | 39 => ⟨S16384x512, .f32⟩
  | 40 => ⟨S16384x512, .f32⟩
  | 41 => ⟨S_, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S16384x512, .f32⟩
  | 48 => ⟨S16x1024x512, .f32⟩
  | 49 => ⟨S1x1024x512, .f32⟩
  | 50 => ⟨S1024x512, .f32⟩
  | 51 => ⟨S16384x512, .f32⟩
  | 52 => ⟨S16384x512, .f32⟩
  | 53 => ⟨S16384x1, .f32⟩
  | 54 => ⟨S16x512x1024, .f32⟩
  | 55 => ⟨S1x512x1024, .f32⟩
  | 56 => ⟨S512x1024, .f32⟩
  | 57 => ⟨S16384x1024, .f32⟩
  | 58 => ⟨S16384x1024, .f32⟩
  | 59 => ⟨S16384x1024, .f32⟩
  | 60 => ⟨S16384x1024, .f32⟩
  | 61 => ⟨S16x1024x512, .f32⟩
  | 62 => ⟨S1x1024x512, .f32⟩
  | 63 => ⟨S1024x512, .f32⟩
  | 64 => ⟨S16384x512, .f32⟩
  | 65 => ⟨S16384x512, .f32⟩
  | 66 => ⟨S16384x512, .f32⟩
  | 67 => ⟨S_, .f32⟩
  | 68 => ⟨S16384x512, .f32⟩
  | 69 => ⟨S16384x512, .f32⟩
  | 70 => ⟨S_, .f32⟩
  | 71 => ⟨S16384x512, .f32⟩
  | 72 => ⟨S16384x512, .f32⟩
  | 73 => ⟨S16384x512, .f32⟩
  | 74 => ⟨S16x1024x512, .f32⟩
  | 75 => ⟨S1x1024x512, .f32⟩
  | 76 => ⟨S1024x512, .f32⟩
  | 77 => ⟨S16384x512, .f32⟩
  | 78 => ⟨S16384x512, .f32⟩
  | 79 => ⟨S16384x1, .f32⟩
  | 80 => ⟨S16x512x1024, .f32⟩
  | 81 => ⟨S1x512x1024, .f32⟩
  | 82 => ⟨S512x1024, .f32⟩
  | 83 => ⟨S16384x1024, .f32⟩
  | 84 => ⟨S16384x1024, .f32⟩
  | 85 => ⟨S16384x1024, .f32⟩
  | 86 => ⟨S16384x1024, .f32⟩
  | 87 => ⟨S16x1024x512, .f32⟩
  | 88 => ⟨S1x1024x512, .f32⟩
  | 89 => ⟨S1024x512, .f32⟩
  | 90 => ⟨S16384x512, .f32⟩
  | 91 => ⟨S16384x512, .f32⟩
  | 92 => ⟨S16384x512, .f32⟩
  | 93 => ⟨S_, .f32⟩
  | 94 => ⟨S16384x512, .f32⟩
  | 95 => ⟨S16384x512, .f32⟩
  | 96 => ⟨S_, .f32⟩
  | 97 => ⟨S16384x512, .f32⟩
  | 98 => ⟨S16384x512, .f32⟩
  | 99 => ⟨S16384x512, .f32⟩
  | 100 => ⟨S16x1024x512, .f32⟩
  | 101 => ⟨S1x1024x512, .f32⟩
  | 102 => ⟨S1024x512, .f32⟩
  | 103 => ⟨S16384x512, .f32⟩
  | 104 => ⟨S16384x512, .f32⟩
  | 105 => ⟨S16384x1, .f32⟩
  | 106 => ⟨S16x512x1024, .f32⟩
  | 107 => ⟨S1x512x1024, .f32⟩
  | 108 => ⟨S512x1024, .f32⟩
  | 109 => ⟨S16384x1024, .f32⟩
  | 110 => ⟨S16384x1024, .f32⟩
  | 111 => ⟨S16384x1024, .f32⟩
  | 112 => ⟨S16384x1024, .f32⟩
  | 113 => ⟨S16x1024x512, .f32⟩
  | 114 => ⟨S1x1024x512, .f32⟩
  | 115 => ⟨S1024x512, .f32⟩
  | 116 => ⟨S16384x512, .f32⟩
  | 117 => ⟨S16384x512, .f32⟩
  | 118 => ⟨S16384x512, .f32⟩
  | 119 => ⟨S_, .f32⟩
  | 120 => ⟨S16384x512, .f32⟩
  | 121 => ⟨S16384x512, .f32⟩
  | 122 => ⟨S_, .f32⟩
  | 123 => ⟨S16384x512, .f32⟩
  | 124 => ⟨S16384x512, .f32⟩
  | 125 => ⟨S16384x512, .f32⟩
  | 126 => ⟨S16x1024x512, .f32⟩
  | 127 => ⟨S1x1024x512, .f32⟩
  | _ => ⟨S16384x1024, .f32⟩

abbrev hbmTy0_1 (i : Nat) : BufTy := match i % 128 with
  | 0 => ⟨S1024x512, .f32⟩
  | 1 => ⟨S16384x512, .f32⟩
  | 2 => ⟨S16384x512, .f32⟩
  | 3 => ⟨S16384x1, .f32⟩
  | 4 => ⟨S16x512x1024, .f32⟩
  | 5 => ⟨S1x512x1024, .f32⟩
  | 6 => ⟨S512x1024, .f32⟩
  | 7 => ⟨S16384x1024, .f32⟩
  | 8 => ⟨S16384x1024, .f32⟩
  | 9 => ⟨S16384x1024, .f32⟩
  | 10 => ⟨S16384x1024, .f32⟩
  | 11 => ⟨S16x1024x512, .f32⟩
  | 12 => ⟨S1x1024x512, .f32⟩
  | 13 => ⟨S1024x512, .f32⟩
  | 14 => ⟨S16384x512, .f32⟩
  | 15 => ⟨S16384x512, .f32⟩
  | 16 => ⟨S16384x512, .f32⟩
  | 17 => ⟨S_, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S16384x512, .f32⟩
  | 24 => ⟨S16x1024x512, .f32⟩
  | 25 => ⟨S1x1024x512, .f32⟩
  | 26 => ⟨S1024x512, .f32⟩
  | 27 => ⟨S16384x512, .f32⟩
  | 28 => ⟨S16384x512, .f32⟩
  | 29 => ⟨S16384x1, .f32⟩
  | 30 => ⟨S16x512x1024, .f32⟩
  | 31 => ⟨S1x512x1024, .f32⟩
  | 32 => ⟨S512x1024, .f32⟩
  | 33 => ⟨S16384x1024, .f32⟩
  | 34 => ⟨S16384x1024, .f32⟩
  | 35 => ⟨S16384x1024, .f32⟩
  | 36 => ⟨S16384x1024, .f32⟩
  | 37 => ⟨S16x1024x512, .f32⟩
  | 38 => ⟨S1x1024x512, .f32⟩
  | 39 => ⟨S1024x512, .f32⟩
  | 40 => ⟨S16384x512, .f32⟩
  | 41 => ⟨S16384x512, .f32⟩
  | 42 => ⟨S16384x512, .f32⟩
  | 43 => ⟨S_, .f32⟩
  | 44 => ⟨S16384x512, .f32⟩
  | 45 => ⟨S16384x512, .f32⟩
  | 46 => ⟨S_, .f32⟩
  | 47 => ⟨S16384x512, .f32⟩
  | 48 => ⟨S16384x512, .f32⟩
  | 49 => ⟨S16384x512, .f32⟩
  | 50 => ⟨S16x1024x512, .f32⟩
  | 51 => ⟨S1x1024x512, .f32⟩
  | 52 => ⟨S1024x512, .f32⟩
  | 53 => ⟨S16384x512, .f32⟩
  | 54 => ⟨S16384x512, .f32⟩
  | 55 => ⟨S16384x1, .f32⟩
  | 56 => ⟨S16x512x1024, .f32⟩
  | 57 => ⟨S1x512x1024, .f32⟩
  | 58 => ⟨S512x1024, .f32⟩
  | 59 => ⟨S16384x1024, .f32⟩
  | 60 => ⟨S16384x1024, .f32⟩
  | 61 => ⟨S16384x1024, .f32⟩
  | 62 => ⟨S16384x1024, .f32⟩
  | 63 => ⟨S16x1024x512, .f32⟩
  | 64 => ⟨S1x1024x512, .f32⟩
  | 65 => ⟨S1024x512, .f32⟩
  | 66 => ⟨S16384x512, .f32⟩
  | 67 => ⟨S16384x512, .f32⟩
  | 68 => ⟨S16384x512, .f32⟩
  | 69 => ⟨S_, .f32⟩
  | 70 => ⟨S16384x512, .f32⟩
  | 71 => ⟨S16384x512, .f32⟩
  | 72 => ⟨S_, .f32⟩
  | 73 => ⟨S16384x512, .f32⟩
  | 74 => ⟨S16384x512, .f32⟩
  | 75 => ⟨S16384x512, .f32⟩
  | 76 => ⟨S16x1024x512, .f32⟩
  | 77 => ⟨S1x1024x512, .f32⟩
  | 78 => ⟨S1024x512, .f32⟩
  | 79 => ⟨S16384x512, .f32⟩
  | 80 => ⟨S16384x512, .f32⟩
  | 81 => ⟨S16384x1, .f32⟩
  | 82 => ⟨S16x512x1024, .f32⟩
  | 83 => ⟨S1x512x1024, .f32⟩
  | 84 => ⟨S512x1024, .f32⟩
  | 85 => ⟨S16384x1024, .f32⟩
  | 86 => ⟨S16384x1024, .f32⟩
  | 87 => ⟨S16384x1024, .f32⟩
  | 88 => ⟨S16384x1024, .f32⟩
  | 89 => ⟨S16x1024x512, .f32⟩
  | 90 => ⟨S1x1024x512, .f32⟩
  | 91 => ⟨S1024x512, .f32⟩
  | 92 => ⟨S16384x512, .f32⟩
  | 93 => ⟨S16384x512, .f32⟩
  | 94 => ⟨S16384x512, .f32⟩
  | 95 => ⟨S_, .f32⟩
  | 96 => ⟨S16384x512, .f32⟩
  | 97 => ⟨S16384x512, .f32⟩
  | 98 => ⟨S_, .f32⟩
  | 99 => ⟨S16384x512, .f32⟩
  | 100 => ⟨S16384x512, .f32⟩
  | 101 => ⟨S16384x512, .f32⟩
  | 102 => ⟨S16x1024x512, .f32⟩
  | 103 => ⟨S1x1024x512, .f32⟩
  | 104 => ⟨S1024x512, .f32⟩
  | 105 => ⟨S16384x512, .f32⟩
  | 106 => ⟨S16384x512, .f32⟩
  | 107 => ⟨S16384x1, .f32⟩
  | 108 => ⟨S16x512x1024, .f32⟩
  | 109 => ⟨S1x512x1024, .f32⟩
  | 110 => ⟨S512x1024, .f32⟩
  | 111 => ⟨S16384x1024, .f32⟩
  | 112 => ⟨S16384x1024, .f32⟩
  | 113 => ⟨S16384x1024, .f32⟩
  | 114 => ⟨S16384x1024, .f32⟩
  | 115 => ⟨S16x1024x512, .f32⟩
  | 116 => ⟨S1x1024x512, .f32⟩
  | 117 => ⟨S1024x512, .f32⟩
  | 118 => ⟨S16384x512, .f32⟩
  | 119 => ⟨S16384x512, .f32⟩
  | 120 => ⟨S16384x512, .f32⟩
  | 121 => ⟨S_, .f32⟩
  | 122 => ⟨S16384x512, .f32⟩
  | 123 => ⟨S16384x512, .f32⟩
  | 124 => ⟨S_, .f32⟩
  | 125 => ⟨S16384x512, .f32⟩
  | 126 => ⟨S16384x512, .f32⟩
  | 127 => ⟨S16384x512, .f32⟩
  | _ => ⟨S16384x1024, .f32⟩

abbrev hbmTy0_2 (i : Nat) : BufTy := match i % 128 with
  | 0 => ⟨S16x1024x512, .f32⟩
  | 1 => ⟨S1x1024x512, .f32⟩
  | 2 => ⟨S1024x512, .f32⟩
  | 3 => ⟨S16384x512, .f32⟩
  | 4 => ⟨S16384x512, .f32⟩
  | 5 => ⟨S16384x1, .f32⟩
  | 6 => ⟨S16x512x1024, .f32⟩
  | 7 => ⟨S1x512x1024, .f32⟩
  | 8 => ⟨S512x1024, .f32⟩
  | 9 => ⟨S16384x1024, .f32⟩
  | 10 => ⟨S16384x1024, .f32⟩
  | 11 => ⟨S16384x1024, .f32⟩
  | 12 => ⟨S16384x1024, .f32⟩
  | 13 => ⟨S16x1024x512, .f32⟩
  | 14 => ⟨S1x1024x512, .f32⟩
  | 15 => ⟨S1024x512, .f32⟩
  | 16 => ⟨S16384x512, .f32⟩
  | 17 => ⟨S16384x512, .f32⟩
  | 18 => ⟨S16384x512, .f32⟩
  | 19 => ⟨S_, .f32⟩
  | 20 => ⟨S16384x512, .f32⟩
  | 21 => ⟨S16384x512, .f32⟩
  | 22 => ⟨S_, .f32⟩
  | 23 => ⟨S16384x512, .f32⟩
  | 24 => ⟨S16384x512, .f32⟩
  | 25 => ⟨S16384x512, .f32⟩
  | 26 => ⟨S16x1024x512, .f32⟩
  | 27 => ⟨S1x1024x512, .f32⟩
  | 28 => ⟨S1024x512, .f32⟩
  | 29 => ⟨S16384x512, .f32⟩
  | 30 => ⟨S16384x512, .f32⟩
  | 31 => ⟨S16384x1, .f32⟩
  | 32 => ⟨S16x512x1024, .f32⟩
  | 33 => ⟨S1x512x1024, .f32⟩
  | 34 => ⟨S512x1024, .f32⟩
  | 35 => ⟨S16384x1024, .f32⟩
  | 36 => ⟨S16384x1024, .f32⟩
  | 37 => ⟨S16384x1024, .f32⟩
  | 38 => ⟨S16384x1024, .f32⟩
  | 39 => ⟨S16x1024x512, .f32⟩
  | 40 => ⟨S1x1024x512, .f32⟩
  | 41 => ⟨S1024x512, .f32⟩
  | 42 => ⟨S16384x512, .f32⟩
  | 43 => ⟨S16384x512, .f32⟩
  | 44 => ⟨S16384x512, .f32⟩
  | 45 => ⟨S_, .f32⟩
  | 46 => ⟨S16384x512, .f32⟩
  | 47 => ⟨S16384x512, .f32⟩
  | 48 => ⟨S_, .f32⟩
  | 49 => ⟨S16384x512, .f32⟩
  | 50 => ⟨S16384x512, .f32⟩
  | 51 => ⟨S16384x512, .f32⟩
  | 52 => ⟨S16x1024x512, .f32⟩
  | 53 => ⟨S1x1024x512, .f32⟩
  | 54 => ⟨S1024x512, .f32⟩
  | 55 => ⟨S16384x512, .f32⟩
  | 56 => ⟨S16384x512, .f32⟩
  | 57 => ⟨S16384x1, .f32⟩
  | 58 => ⟨S16x512x1024, .f32⟩
  | 59 => ⟨S1x512x1024, .f32⟩
  | 60 => ⟨S512x1024, .f32⟩
  | 61 => ⟨S16384x1024, .f32⟩
  | 62 => ⟨S16384x1024, .f32⟩
  | 63 => ⟨S16384x1024, .f32⟩
  | 64 => ⟨S16384x1024, .f32⟩
  | 65 => ⟨S16x1024x512, .f32⟩
  | 66 => ⟨S1x1024x512, .f32⟩
  | 67 => ⟨S1024x512, .f32⟩
  | 68 => ⟨S16384x512, .f32⟩
  | 69 => ⟨S16384x512, .f32⟩
  | 70 => ⟨S16384x512, .f32⟩
  | 71 => ⟨S_, .f32⟩
  | 72 => ⟨S16384x512, .f32⟩
  | 73 => ⟨S16384x512, .f32⟩
  | 74 => ⟨S_, .f32⟩
  | 75 => ⟨S16384x512, .f32⟩
  | 76 => ⟨S16384x512, .f32⟩
  | 77 => ⟨S16384x512, .f32⟩
  | 78 => ⟨S16x1024x512, .f32⟩
  | 79 => ⟨S1x1024x512, .f32⟩
  | 80 => ⟨S1024x512, .f32⟩
  | 81 => ⟨S16384x512, .f32⟩
  | 82 => ⟨S16384x512, .f32⟩
  | 83 => ⟨S16384x1, .f32⟩
  | 84 => ⟨S16x512x1024, .f32⟩
  | 85 => ⟨S1x512x1024, .f32⟩
  | 86 => ⟨S512x1024, .f32⟩
  | 87 => ⟨S16384x1024, .f32⟩
  | 88 => ⟨S16384x1024, .f32⟩
  | 89 => ⟨S16384x1024, .f32⟩
  | 90 => ⟨S16384x1024, .f32⟩
  | 91 => ⟨S16x1024x512, .f32⟩
  | 92 => ⟨S1x1024x512, .f32⟩
  | 93 => ⟨S1024x512, .f32⟩
  | 94 => ⟨S16384x512, .f32⟩
  | 95 => ⟨S16384x512, .f32⟩
  | 96 => ⟨S16384x512, .f32⟩
  | 97 => ⟨S_, .f32⟩
  | 98 => ⟨S16384x512, .f32⟩
  | 99 => ⟨S16384x512, .f32⟩
  | 100 => ⟨S_, .f32⟩
  | 101 => ⟨S16384x512, .f32⟩
  | 102 => ⟨S16384x512, .f32⟩
  | 103 => ⟨S16384x512, .f32⟩
  | 104 => ⟨S16x1024x512, .f32⟩
  | 105 => ⟨S1x1024x512, .f32⟩
  | 106 => ⟨S1024x512, .f32⟩
  | 107 => ⟨S16384x512, .f32⟩
  | 108 => ⟨S16384x512, .f32⟩
  | 109 => ⟨S16384x1, .f32⟩
  | 110 => ⟨S16x512x1024, .f32⟩
  | 111 => ⟨S1x512x1024, .f32⟩
  | 112 => ⟨S512x1024, .f32⟩
  | 113 => ⟨S16384x1024, .f32⟩
  | 114 => ⟨S16384x1024, .f32⟩
  | 115 => ⟨S16384x1024, .f32⟩
  | 116 => ⟨S16384x1024, .f32⟩
  | 117 => ⟨S16x1024x512, .f32⟩
  | 118 => ⟨S1x1024x512, .f32⟩
  | 119 => ⟨S1024x512, .f32⟩
  | 120 => ⟨S16384x512, .f32⟩
  | 121 => ⟨S16384x512, .f32⟩
  | 122 => ⟨S16384x512, .f32⟩
  | 123 => ⟨S_, .f32⟩
  | 124 => ⟨S16384x512, .f32⟩
  | 125 => ⟨S16384x512, .f32⟩
  | 126 => ⟨S_, .f32⟩
  | 127 => ⟨S16384x512, .f32⟩
  | _ => ⟨S16384x1024, .f32⟩

abbrev hbmTy0_3 (i : Nat) : BufTy := match i % 128 with
  | 0 => ⟨S16384x512, .f32⟩
  | 1 => ⟨S16384x512, .f32⟩
  | 2 => ⟨S16x1024x512, .f32⟩
  | 3 => ⟨S1x1024x512, .f32⟩
  | 4 => ⟨S1024x512, .f32⟩
  | 5 => ⟨S16384x512, .f32⟩
  | 6 => ⟨S16384x512, .f32⟩
  | 7 => ⟨S16384x1, .f32⟩
  | 8 => ⟨S16x512x1024, .f32⟩
  | 9 => ⟨S1x512x1024, .f32⟩
  | 10 => ⟨S512x1024, .f32⟩
  | 11 => ⟨S16384x1024, .f32⟩
  | 12 => ⟨S16384x1024, .f32⟩
  | 13 => ⟨S16384x1024, .f32⟩
  | 14 => ⟨S16384x1024, .f32⟩
  | 15 => ⟨S16x1024x512, .f32⟩
  | 16 => ⟨S1x1024x512, .f32⟩
  | 17 => ⟨S1024x512, .f32⟩
  | 18 => ⟨S16384x512, .f32⟩
  | 19 => ⟨S16384x512, .f32⟩
  | 20 => ⟨S16384x512, .f32⟩
  | 21 => ⟨S_, .f32⟩
  | 22 => ⟨S16384x512, .f32⟩
  | 23 => ⟨S16384x512, .f32⟩
  | 24 => ⟨S_, .f32⟩
  | 25 => ⟨S16384x512, .f32⟩
  | 26 => ⟨S16384x512, .f32⟩
  | 27 => ⟨S16384x512, .f32⟩
  | 28 => ⟨S16x1024x512, .f32⟩
  | 29 => ⟨S1x1024x512, .f32⟩
  | 30 => ⟨S1024x512, .f32⟩
  | 31 => ⟨S16384x512, .f32⟩
  | 32 => ⟨S16384x512, .f32⟩
  | 33 => ⟨S16384x1, .f32⟩
  | 34 => ⟨S16x512x1024, .f32⟩
  | 35 => ⟨S1x512x1024, .f32⟩
  | 36 => ⟨S512x1024, .f32⟩
  | 37 => ⟨S16384x1024, .f32⟩
  | 38 => ⟨S16384x1024, .f32⟩
  | 39 => ⟨S16384x1024, .f32⟩
  | 40 => ⟨S16384x1024, .f32⟩
  | 41 => ⟨S_, .f32⟩
  | 42 => ⟨S16384x1024, .f32⟩
  | 43 => ⟨S16384x1024, .f32⟩
  | 44 => ⟨S16384x1024, .f32⟩
  | 45 => ⟨S1024, .f32⟩
  | 46 => ⟨S1024, .f32⟩
  | 47 => ⟨S_, .f32⟩
  | 48 => ⟨S16384, .f32⟩
  | 49 => ⟨S16384x1, .f32⟩
  | 50 => ⟨S_, .f32⟩
  | 51 => ⟨S16384x1, .f32⟩
  | 52 => ⟨S16384x1, .f32⟩
  | 53 => ⟨S16384x1024, .f32⟩
  | 54 => ⟨S16384x1024, .f32⟩
  | 55 => ⟨S16384x1024, .f32⟩
  | 56 => ⟨S_, .f32⟩
  | 57 => ⟨S16384, .f32⟩
  | 58 => ⟨S16384x1, .f32⟩
  | 59 => ⟨S_, .f32⟩
  | 60 => ⟨S16384x1, .f32⟩
  | 61 => ⟨S16384x1, .f32⟩
  | 62 => ⟨S16384x1024, .f32⟩
  | 63 => ⟨S16384x1024, .f32⟩
  | 64 => ⟨S_, .f32⟩
  | 65 => ⟨S16384x1, .f32⟩
  | 66 => ⟨S16384x1, .f32⟩
  | 67 => ⟨S16384x1, .f32⟩
  | 68 => ⟨S16384x1024, .f32⟩
  | 69 => ⟨S16384x1024, .f32⟩
  | 70 => ⟨S1x1024, .f32⟩
  | 71 => ⟨S16384x1024, .f32⟩
  | 72 => ⟨S16384x1024, .f32⟩
  | 73 => ⟨S1x1024, .f32⟩
  | 74 => ⟨S16384x1024, .f32⟩
  | 75 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_call2_v5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_call3_v0 : Ref sig .tc := ⟨.hbm, 91, rfl⟩
abbrev main_call3_v1 : Ref sig .tc := ⟨.hbm, 92, rfl⟩
abbrev main_call3_cst : Ref sig .tc := ⟨.hbm, 93, rfl⟩
abbrev main_call3_v2 : Ref sig .tc := ⟨.hbm, 94, rfl⟩
abbrev main_call3_v3 : Ref sig .tc := ⟨.hbm, 95, rfl⟩
abbrev main_call3_cst_0 : Ref sig .tc := ⟨.hbm, 96, rfl⟩
abbrev main_call3_v4 : Ref sig .tc := ⟨.hbm, 97, rfl⟩
abbrev main_call3_v5 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_call4_v0 : Ref sig .tc := ⟨.hbm, 117, rfl⟩
abbrev main_call4_v1 : Ref sig .tc := ⟨.hbm, 118, rfl⟩
abbrev main_call4_cst : Ref sig .tc := ⟨.hbm, 119, rfl⟩
abbrev main_call4_v2 : Ref sig .tc := ⟨.hbm, 120, rfl⟩
abbrev main_call4_v3 : Ref sig .tc := ⟨.hbm, 121, rfl⟩
abbrev main_call4_cst_0 : Ref sig .tc := ⟨.hbm, 122, rfl⟩
abbrev main_call4_v4 : Ref sig .tc := ⟨.hbm, 123, rfl⟩
abbrev main_call4_v5 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_call5_v0 : Ref sig .tc := ⟨.hbm, 143, rfl⟩
abbrev main_call5_v1 : Ref sig .tc := ⟨.hbm, 144, rfl⟩
abbrev main_call5_cst : Ref sig .tc := ⟨.hbm, 145, rfl⟩
abbrev main_call5_v2 : Ref sig .tc := ⟨.hbm, 146, rfl⟩
abbrev main_call5_v3 : Ref sig .tc := ⟨.hbm, 147, rfl⟩
abbrev main_call5_cst_0 : Ref sig .tc := ⟨.hbm, 148, rfl⟩
abbrev main_call5_v4 : Ref sig .tc := ⟨.hbm, 149, rfl⟩
abbrev main_call5_v5 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_call6_v0 : Ref sig .tc := ⟨.hbm, 169, rfl⟩
abbrev main_call6_v1 : Ref sig .tc := ⟨.hbm, 170, rfl⟩
abbrev main_call6_cst : Ref sig .tc := ⟨.hbm, 171, rfl⟩
abbrev main_call6_v2 : Ref sig .tc := ⟨.hbm, 172, rfl⟩
abbrev main_call6_v3 : Ref sig .tc := ⟨.hbm, 173, rfl⟩
abbrev main_call6_cst_0 : Ref sig .tc := ⟨.hbm, 174, rfl⟩
abbrev main_call6_v4 : Ref sig .tc := ⟨.hbm, 175, rfl⟩
abbrev main_call6_v5 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_call7_v0 : Ref sig .tc := ⟨.hbm, 195, rfl⟩
abbrev main_call7_v1 : Ref sig .tc := ⟨.hbm, 196, rfl⟩
abbrev main_call7_cst : Ref sig .tc := ⟨.hbm, 197, rfl⟩
abbrev main_call7_v2 : Ref sig .tc := ⟨.hbm, 198, rfl⟩
abbrev main_call7_v3 : Ref sig .tc := ⟨.hbm, 199, rfl⟩
abbrev main_call7_cst_0 : Ref sig .tc := ⟨.hbm, 200, rfl⟩
abbrev main_call7_v4 : Ref sig .tc := ⟨.hbm, 201, rfl⟩
abbrev main_call7_v5 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_call8_v0 : Ref sig .tc := ⟨.hbm, 221, rfl⟩
abbrev main_call8_v1 : Ref sig .tc := ⟨.hbm, 222, rfl⟩
abbrev main_call8_cst : Ref sig .tc := ⟨.hbm, 223, rfl⟩
abbrev main_call8_v2 : Ref sig .tc := ⟨.hbm, 224, rfl⟩
abbrev main_call8_v3 : Ref sig .tc := ⟨.hbm, 225, rfl⟩
abbrev main_call8_cst_0 : Ref sig .tc := ⟨.hbm, 226, rfl⟩
abbrev main_call8_v4 : Ref sig .tc := ⟨.hbm, 227, rfl⟩
abbrev main_call8_v5 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_call9_v0 : Ref sig .tc := ⟨.hbm, 247, rfl⟩
abbrev main_call9_v1 : Ref sig .tc := ⟨.hbm, 248, rfl⟩
abbrev main_call9_cst : Ref sig .tc := ⟨.hbm, 249, rfl⟩
abbrev main_call9_v2 : Ref sig .tc := ⟨.hbm, 250, rfl⟩
abbrev main_call9_v3 : Ref sig .tc := ⟨.hbm, 251, rfl⟩
abbrev main_call9_cst_0 : Ref sig .tc := ⟨.hbm, 252, rfl⟩
abbrev main_call9_v4 : Ref sig .tc := ⟨.hbm, 253, rfl⟩
abbrev main_call9_v5 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_call10_v0 : Ref sig .tc := ⟨.hbm, 273, rfl⟩
abbrev main_call10_v1 : Ref sig .tc := ⟨.hbm, 274, rfl⟩
abbrev main_call10_cst : Ref sig .tc := ⟨.hbm, 275, rfl⟩
abbrev main_call10_v2 : Ref sig .tc := ⟨.hbm, 276, rfl⟩
abbrev main_call10_v3 : Ref sig .tc := ⟨.hbm, 277, rfl⟩
abbrev main_call10_cst_0 : Ref sig .tc := ⟨.hbm, 278, rfl⟩
abbrev main_call10_v4 : Ref sig .tc := ⟨.hbm, 279, rfl⟩
abbrev main_call10_v5 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_v190 : Ref sig .tc := ⟨.hbm, 286, rfl⟩
abbrev main_v191 : Ref sig .tc := ⟨.hbm, 287, rfl⟩
abbrev main_v192 : Ref sig .tc := ⟨.hbm, 288, rfl⟩
abbrev main_v193 : Ref sig .tc := ⟨.hbm, 289, rfl⟩
abbrev main_v194 : Ref sig .tc := ⟨.hbm, 290, rfl⟩
abbrev main_v195 : Ref sig .tc := ⟨.hbm, 291, rfl⟩
abbrev main_v196 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_v202 : Ref sig .tc := ⟨.hbm, 298, rfl⟩
abbrev main_call11_v0 : Ref sig .tc := ⟨.hbm, 299, rfl⟩
abbrev main_call11_v1 : Ref sig .tc := ⟨.hbm, 300, rfl⟩
abbrev main_call11_cst : Ref sig .tc := ⟨.hbm, 301, rfl⟩
abbrev main_call11_v2 : Ref sig .tc := ⟨.hbm, 302, rfl⟩
abbrev main_call11_v3 : Ref sig .tc := ⟨.hbm, 303, rfl⟩
abbrev main_call11_cst_0 : Ref sig .tc := ⟨.hbm, 304, rfl⟩
abbrev main_call11_v4 : Ref sig .tc := ⟨.hbm, 305, rfl⟩
abbrev main_call11_v5 : Ref sig .tc := ⟨.hbm, 306, rfl⟩
abbrev main_v203 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_v207 : Ref sig .tc := ⟨.hbm, 311, rfl⟩
abbrev main_v208 : Ref sig .tc := ⟨.hbm, 312, rfl⟩
abbrev main_v209 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_call12_v0 : Ref sig .tc := ⟨.hbm, 325, rfl⟩
abbrev main_call12_v1 : Ref sig .tc := ⟨.hbm, 326, rfl⟩
abbrev main_call12_cst : Ref sig .tc := ⟨.hbm, 327, rfl⟩
abbrev main_call12_v2 : Ref sig .tc := ⟨.hbm, 328, rfl⟩
abbrev main_call12_v3 : Ref sig .tc := ⟨.hbm, 329, rfl⟩
abbrev main_call12_cst_0 : Ref sig .tc := ⟨.hbm, 330, rfl⟩
abbrev main_call12_v4 : Ref sig .tc := ⟨.hbm, 331, rfl⟩
abbrev main_call12_v5 : Ref sig .tc := ⟨.hbm, 332, rfl⟩
abbrev main_v221 : Ref sig .tc := ⟨.hbm, 333, rfl⟩
abbrev main_v222 : Ref sig .tc := ⟨.hbm, 334, rfl⟩
abbrev main_v223 : Ref sig .tc := ⟨.hbm, 335, rfl⟩
abbrev main_v224 : Ref sig .tc := ⟨.hbm, 336, rfl⟩
abbrev main_v225 : Ref sig .tc := ⟨.hbm, 337, rfl⟩
abbrev main_v226 : Ref sig .tc := ⟨.hbm, 338, rfl⟩
abbrev main_v227 : Ref sig .tc := ⟨.hbm, 339, rfl⟩
abbrev main_v228 : Ref sig .tc := ⟨.hbm, 340, rfl⟩
abbrev main_v229 : Ref sig .tc := ⟨.hbm, 341, rfl⟩
abbrev main_v230 : Ref sig .tc := ⟨.hbm, 342, rfl⟩
abbrev main_v231 : Ref sig .tc := ⟨.hbm, 343, rfl⟩
abbrev main_v232 : Ref sig .tc := ⟨.hbm, 344, rfl⟩
abbrev main_v233 : Ref sig .tc := ⟨.hbm, 345, rfl⟩
abbrev main_v234 : Ref sig .tc := ⟨.hbm, 346, rfl⟩
abbrev main_v235 : Ref sig .tc := ⟨.hbm, 347, rfl⟩
abbrev main_v236 : Ref sig .tc := ⟨.hbm, 348, rfl⟩
abbrev main_v237 : Ref sig .tc := ⟨.hbm, 349, rfl⟩
abbrev main_v238 : Ref sig .tc := ⟨.hbm, 350, rfl⟩
abbrev main_call13_v0 : Ref sig .tc := ⟨.hbm, 351, rfl⟩
abbrev main_call13_v1 : Ref sig .tc := ⟨.hbm, 352, rfl⟩
abbrev main_call13_cst : Ref sig .tc := ⟨.hbm, 353, rfl⟩
abbrev main_call13_v2 : Ref sig .tc := ⟨.hbm, 354, rfl⟩
abbrev main_call13_v3 : Ref sig .tc := ⟨.hbm, 355, rfl⟩
abbrev main_call13_cst_0 : Ref sig .tc := ⟨.hbm, 356, rfl⟩
abbrev main_call13_v4 : Ref sig .tc := ⟨.hbm, 357, rfl⟩
abbrev main_call13_v5 : Ref sig .tc := ⟨.hbm, 358, rfl⟩
abbrev main_v239 : Ref sig .tc := ⟨.hbm, 359, rfl⟩
abbrev main_v240 : Ref sig .tc := ⟨.hbm, 360, rfl⟩
abbrev main_v241 : Ref sig .tc := ⟨.hbm, 361, rfl⟩
abbrev main_v242 : Ref sig .tc := ⟨.hbm, 362, rfl⟩
abbrev main_v243 : Ref sig .tc := ⟨.hbm, 363, rfl⟩
abbrev main_v244 : Ref sig .tc := ⟨.hbm, 364, rfl⟩
abbrev main_v245 : Ref sig .tc := ⟨.hbm, 365, rfl⟩
abbrev main_v246 : Ref sig .tc := ⟨.hbm, 366, rfl⟩
abbrev main_v247 : Ref sig .tc := ⟨.hbm, 367, rfl⟩
abbrev main_v248 : Ref sig .tc := ⟨.hbm, 368, rfl⟩
abbrev main_v249 : Ref sig .tc := ⟨.hbm, 369, rfl⟩
abbrev main_v250 : Ref sig .tc := ⟨.hbm, 370, rfl⟩
abbrev main_v251 : Ref sig .tc := ⟨.hbm, 371, rfl⟩
abbrev main_v252 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_v256 : Ref sig .tc := ⟨.hbm, 376, rfl⟩
abbrev main_call14_v0 : Ref sig .tc := ⟨.hbm, 377, rfl⟩
abbrev main_call14_v1 : Ref sig .tc := ⟨.hbm, 378, rfl⟩
abbrev main_call14_cst : Ref sig .tc := ⟨.hbm, 379, rfl⟩
abbrev main_call14_v2 : Ref sig .tc := ⟨.hbm, 380, rfl⟩
abbrev main_call14_v3 : Ref sig .tc := ⟨.hbm, 381, rfl⟩
abbrev main_call14_cst_0 : Ref sig .tc := ⟨.hbm, 382, rfl⟩
abbrev main_call14_v4 : Ref sig .tc := ⟨.hbm, 383, rfl⟩
abbrev main_call14_v5 : Ref sig .tc := ⟨.hbm, 384, rfl⟩
abbrev main_v257 : Ref sig .tc := ⟨.hbm, 385, rfl⟩
abbrev main_v258 : Ref sig .tc := ⟨.hbm, 386, rfl⟩
abbrev main_v259 : Ref sig .tc := ⟨.hbm, 387, rfl⟩
abbrev main_v260 : Ref sig .tc := ⟨.hbm, 388, rfl⟩
abbrev main_v261 : Ref sig .tc := ⟨.hbm, 389, rfl⟩
abbrev main_v262 : Ref sig .tc := ⟨.hbm, 390, rfl⟩
abbrev main_v263 : Ref sig .tc := ⟨.hbm, 391, rfl⟩
abbrev main_v264 : Ref sig .tc := ⟨.hbm, 392, rfl⟩
abbrev main_v265 : Ref sig .tc := ⟨.hbm, 393, rfl⟩
abbrev main_v266 : Ref sig .tc := ⟨.hbm, 394, rfl⟩
abbrev main_v267 : Ref sig .tc := ⟨.hbm, 395, rfl⟩
abbrev main_v268 : Ref sig .tc := ⟨.hbm, 396, rfl⟩
abbrev main_v269 : Ref sig .tc := ⟨.hbm, 397, rfl⟩
abbrev main_v270 : Ref sig .tc := ⟨.hbm, 398, rfl⟩
abbrev main_v271 : Ref sig .tc := ⟨.hbm, 399, rfl⟩
abbrev main_v272 : Ref sig .tc := ⟨.hbm, 400, rfl⟩
abbrev main_v273 : Ref sig .tc := ⟨.hbm, 401, rfl⟩
abbrev main_v274 : Ref sig .tc := ⟨.hbm, 402, rfl⟩
abbrev main_call15_v0 : Ref sig .tc := ⟨.hbm, 403, rfl⟩
abbrev main_call15_v1 : Ref sig .tc := ⟨.hbm, 404, rfl⟩
abbrev main_call15_cst : Ref sig .tc := ⟨.hbm, 405, rfl⟩
abbrev main_call15_v2 : Ref sig .tc := ⟨.hbm, 406, rfl⟩
abbrev main_call15_v3 : Ref sig .tc := ⟨.hbm, 407, rfl⟩
abbrev main_call15_cst_0 : Ref sig .tc := ⟨.hbm, 408, rfl⟩
abbrev main_call15_v4 : Ref sig .tc := ⟨.hbm, 409, rfl⟩
abbrev main_call15_v5 : Ref sig .tc := ⟨.hbm, 410, rfl⟩
abbrev main_v275 : Ref sig .tc := ⟨.hbm, 411, rfl⟩
abbrev main_v276 : Ref sig .tc := ⟨.hbm, 412, rfl⟩
abbrev main_v277 : Ref sig .tc := ⟨.hbm, 413, rfl⟩
abbrev main_v278 : Ref sig .tc := ⟨.hbm, 414, rfl⟩
abbrev main_v279 : Ref sig .tc := ⟨.hbm, 415, rfl⟩
abbrev main_v280 : Ref sig .tc := ⟨.hbm, 416, rfl⟩
abbrev main_v281 : Ref sig .tc := ⟨.hbm, 417, rfl⟩
abbrev main_v282 : Ref sig .tc := ⟨.hbm, 418, rfl⟩
abbrev main_v283 : Ref sig .tc := ⟨.hbm, 419, rfl⟩
abbrev main_v284 : Ref sig .tc := ⟨.hbm, 420, rfl⟩
abbrev main_v285 : Ref sig .tc := ⟨.hbm, 421, rfl⟩
abbrev main_v286 : Ref sig .tc := ⟨.hbm, 422, rfl⟩
abbrev main_v287 : Ref sig .tc := ⟨.hbm, 423, rfl⟩
abbrev main_v288 : Ref sig .tc := ⟨.hbm, 424, rfl⟩
abbrev main_cst_0 : Ref sig .tc := ⟨.hbm, 425, rfl⟩
abbrev main_v289 : Ref sig .tc := ⟨.hbm, 426, rfl⟩
abbrev main_v290 : Ref sig .tc := ⟨.hbm, 427, rfl⟩
abbrev main_v291 : Ref sig .tc := ⟨.hbm, 428, rfl⟩
abbrev main_v292 : Ref sig .tc := ⟨.hbm, 429, rfl⟩
abbrev main_v293 : Ref sig .tc := ⟨.hbm, 430, rfl⟩
abbrev main_cst_1 : Ref sig .tc := ⟨.hbm, 431, rfl⟩
abbrev main_v294 : Ref sig .tc := ⟨.hbm, 432, rfl⟩
abbrev main_v295 : Ref sig .tc := ⟨.hbm, 433, rfl⟩
abbrev main_cst_2 : Ref sig .tc := ⟨.hbm, 434, rfl⟩
abbrev main_v296 : Ref sig .tc := ⟨.hbm, 435, rfl⟩
abbrev main_v297 : Ref sig .tc := ⟨.hbm, 436, rfl⟩
abbrev main_v298 : Ref sig .tc := ⟨.hbm, 437, rfl⟩
abbrev main_v299 : Ref sig .tc := ⟨.hbm, 438, rfl⟩
abbrev main_v300 : Ref sig .tc := ⟨.hbm, 439, rfl⟩
abbrev main_cst_3 : Ref sig .tc := ⟨.hbm, 440, rfl⟩
abbrev main_v301 : Ref sig .tc := ⟨.hbm, 441, rfl⟩
abbrev main_v302 : Ref sig .tc := ⟨.hbm, 442, rfl⟩
abbrev main_cst_4 : Ref sig .tc := ⟨.hbm, 443, rfl⟩
abbrev main_v303 : Ref sig .tc := ⟨.hbm, 444, rfl⟩
abbrev main_v304 : Ref sig .tc := ⟨.hbm, 445, rfl⟩
abbrev main_v305 : Ref sig .tc := ⟨.hbm, 446, rfl⟩
abbrev main_v306 : Ref sig .tc := ⟨.hbm, 447, rfl⟩
abbrev main_cst_5 : Ref sig .tc := ⟨.hbm, 448, rfl⟩
abbrev main_v307 : Ref sig .tc := ⟨.hbm, 449, rfl⟩
abbrev main_v308 : Ref sig .tc := ⟨.hbm, 450, rfl⟩
abbrev main_v309 : Ref sig .tc := ⟨.hbm, 451, rfl⟩
abbrev main_v310 : Ref sig .tc := ⟨.hbm, 452, rfl⟩
abbrev main_v311 : Ref sig .tc := ⟨.hbm, 453, rfl⟩
abbrev main_v312 : Ref sig .tc := ⟨.hbm, 454, rfl⟩
abbrev main_v313 : Ref sig .tc := ⟨.hbm, 455, rfl⟩
abbrev main_v314 : Ref sig .tc := ⟨.hbm, 456, rfl⟩
abbrev main_v315 : Ref sig .tc := ⟨.hbm, 457, rfl⟩
abbrev main_v316 : Ref sig .tc := ⟨.hbm, 458, rfl⟩
abbrev main_v317 : Ref sig .tc := ⟨.hbm, 459, rfl⟩

abbrev nD : Nat := 1
abbrev τ : Topo := Topo.v7x

variable {F : FTy → Type} [FloatOps F]
-- ==== Inproj.lean ====
abbrev S4x4096x1024 : Shape := ⟨3, ![4, 4096, 1024]⟩
abbrev S1x1024x5128 : Shape := ⟨3, ![1, 1024, 5128]⟩
abbrev S1x8 : Shape := ⟨2, ![1, 8]⟩
abbrev S1x3x512 : Shape := ⟨3, ![1, 3, 512]⟩
abbrev S1x512x1024 : Shape := ⟨3, ![1, 512, 1024]⟩
abbrev S1024x5128 : Shape := ⟨2, ![1024, 5128]⟩
abbrev S8 : Shape := ⟨1, ![8]⟩
abbrev S3x512 : Shape := ⟨2, ![3, 512]⟩
abbrev S512x1024 : Shape := ⟨2, ![512, 1024]⟩
abbrev S1024x1536 : Shape := ⟨2, ![1024, 1536]⟩
abbrev S1024x1024 : Shape := ⟨2, ![1024, 1024]⟩
abbrev S1024x2560 : Shape := ⟨2, ![1024, 2560]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x8 : Shape := ⟨2, ![1024, 8]⟩
abbrev S1024x128 : Shape := ⟨2, ![1024, 128]⟩
abbrev S1024x2048 : Shape := ⟨2, ![1024, 2048]⟩
abbrev S128 : Shape := ⟨1, ![128]⟩
abbrev S1x128 : Shape := ⟨2, ![1, 128]⟩
abbrev S1024 : Shape := ⟨1, ![1024]⟩
abbrev S512 : Shape := ⟨1, ![512]⟩
abbrev S512x1 : Shape := ⟨2, ![512, 1]⟩
abbrev S1x1024 : Shape := ⟨2, ![1, 1024]⟩
abbrev S384 : Shape := ⟨1, ![384]⟩
abbrev S384x1 : Shape := ⟨2, ![384, 1]⟩
abbrev S384x1024 : Shape := ⟨2, ![384, 1024]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S16384x1024 : Shape := ⟨2, ![16384, 1024]⟩
abbrev S16384x512 : Shape := ⟨2, ![16384, 512]⟩
abbrev S16384x8 : Shape := ⟨2, ![16384, 8]⟩
abbrev S4x8x512 : Shape := ⟨3, ![4, 8, 512]⟩
abbrev S256x1024 : Shape := ⟨2, ![256, 1024]⟩
abbrev S256x512 : Shape := ⟨2, ![256, 512]⟩
abbrev S256x8 : Shape := ⟨2, ![256, 8]⟩
abbrev S1x8x512 : Shape := ⟨3, ![1, 8, 512]⟩
abbrev S264x512 : Shape := ⟨2, ![264, 512]⟩
abbrev S8x512 : Shape := ⟨2, ![8, 512]⟩
abbrev S1x512 : Shape := ⟨2, ![1, 512]⟩
abbrev S256x128 : Shape := ⟨2, ![256, 128]⟩
abbrev S256x384 : Shape := ⟨2, ![256, 384]⟩

abbrev nBuf : Space → Nat
  | .hbm => 229
  | .vmem => 35
  | .smem => 0
  | _ => 0

abbrev hbmTy0_0 (i : Nat) : BufTy := match i % 128 with
  | 0 => ⟨S4x4096x1024, .f32⟩
  | 1 => ⟨S1x1024x5128, .f32⟩
  | 2 => ⟨S1x8, .f32⟩
  | 3 => ⟨S1x3x512, .f32⟩
  | 4 => ⟨S1x512x1024, .f32⟩
  | 5 => ⟨S1024x5128, .f32⟩
  | 6 => ⟨S8, .f32⟩
  | 7 => ⟨S3x512, .f32⟩
  | 8 => ⟨S512x1024, .f32⟩
  | 9 => ⟨S1024x5128, .bf16⟩
  | 10 => ⟨S1024x1536, .bf16⟩
  | 11 => ⟨S1024x1024, .bf16⟩
  | 12 => ⟨S1024x2560, .bf16⟩
  | 13 => ⟨S1024x512, .bf16⟩
  | 14 => ⟨S1024x8x64, .bf16⟩
  | 15 => ⟨S_, .i32⟩
  | 16 => ⟨S_, .bf16⟩
  | 17 => ⟨S1024x8x128, .bf16⟩
  | 18 => ⟨S1024x1024, .bf16⟩
  | 19 => ⟨S1024x8, .bf16⟩
  | 20 => ⟨S_, .i32⟩
  | 21 => ⟨S_, .bf16⟩
  | 22 => ⟨S1024x128, .bf16⟩
  | 23 => ⟨S1024x2048, .bf16⟩
  | 24 => ⟨S_, .i32⟩
  | 25 => ⟨S_, .f32⟩
  | 26 => ⟨S128, .f32⟩
  | 27 => ⟨S1x128, .f32⟩
  | 28 => ⟨S1024, .i32⟩
  | 29 => ⟨S_, .i32⟩
  | 30 => ⟨S_, .i32⟩
  | 31 => ⟨S1024, .i32⟩
  | 32 => ⟨S1024, .i32⟩
  | 33 => ⟨S1024, .i32⟩
  | 34 => ⟨S_, .i32⟩
  | 35 => ⟨S1024, .i32⟩
  | 36 => ⟨S1024, .i1⟩
  | 37 => ⟨S1024, .i32⟩
  | 38 => ⟨S1024, .i32⟩
  | 39 => ⟨S_, .i32⟩
  | 40 => ⟨S1024, .i32⟩
  | 41 => ⟨S1024, .i1⟩
  | 42 => ⟨S1024, .i1⟩
  | 43 => ⟨S_, .i32⟩
  | 44 => ⟨S1024, .i32⟩
  | 45 => ⟨S1024, .i32⟩
  | 46 => ⟨S1024, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S1024, .i32⟩
  | 54 => ⟨S1024, .i32⟩
  | 55 => ⟨S_, .i32⟩
  | 56 => ⟨S1024, .i32⟩
  | 57 => ⟨S1024, .i1⟩
  | 58 => ⟨S_, .i32⟩
  | 59 => ⟨S1024, .i32⟩
  | 60 => ⟨S1024, .i1⟩
  | 61 => ⟨S_, .i32⟩
  | 62 => ⟨S_, .i1⟩
  | 63 => ⟨S1024, .i1⟩
  | 64 => ⟨S1024, .i1⟩
  | 65 => ⟨S1024, .i1⟩
  | 66 => ⟨S1024, .i32⟩
  | 67 => ⟨S1024, .i32⟩
  | 68 => ⟨S1024, .i32⟩
  | 69 => ⟨S512, .i32⟩
  | 70 => ⟨S512x1, .i32⟩
  | 71 => ⟨S_, .i32⟩
  | 72 => ⟨S_, .i32⟩
  | 73 => ⟨S512x1, .i32⟩
  | 74 => ⟨S512x1, .i32⟩
  | 75 => ⟨S512x1, .i32⟩
  | 76 => ⟨S_, .i32⟩
  | 77 => ⟨S512x1, .i32⟩
  | 78 => ⟨S512x1, .i1⟩
  | 79 => ⟨S512x1, .i32⟩
  | 80 => ⟨S512x1, .i32⟩
  | 81 => ⟨S_, .i32⟩
  | 82 => ⟨S512x1, .i32⟩
  | 83 => ⟨S512x1, .i1⟩
  | 84 => ⟨S512x1, .i1⟩
  | 85 => ⟨S_, .i32⟩
  | 86 => ⟨S512x1, .i32⟩
  | 87 => ⟨S512x1, .i32⟩
  | 88 => ⟨S512x1, .i32⟩
  | 89 => ⟨S1x1024, .i32⟩
  | 90 => ⟨S512x1024, .i32⟩
  | 91 => ⟨S512x1024, .i32⟩
  | 92 => ⟨S512x1024, .i1⟩
  | 93 => ⟨S512x1, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S512x1, .i32⟩
  | 101 => ⟨S512x1, .i32⟩
  | 102 => ⟨S_, .i32⟩
  | 103 => ⟨S512x1, .i32⟩
  | 104 => ⟨S512x1, .i1⟩
  | 105 => ⟨S_, .i32⟩
  | 106 => ⟨S512x1, .i32⟩
  | 107 => ⟨S512x1, .i1⟩
  | 108 => ⟨S_, .i32⟩
  | 109 => ⟨S_, .i1⟩
  | 110 => ⟨S512x1, .i1⟩
  | 111 => ⟨S512x1, .i1⟩
  | 112 => ⟨S512x1, .i1⟩
  | 113 => ⟨S512x1, .i32⟩
  | 114 => ⟨S512x1, .i32⟩
  | 115 => ⟨S512x1, .i32⟩
  | 116 => ⟨S1x1024, .i32⟩
  | 117 => ⟨S512x1024, .i32⟩
  | 118 => ⟨S512x1024, .i32⟩
  | 119 => ⟨S512x1024, .i1⟩
  | 120 => ⟨S512x1024, .i1⟩
  | 121 => ⟨S384, .i32⟩
  | 122 => ⟨S_, .i32⟩
  | 123 => ⟨S_, .i32⟩
  | 124 => ⟨S384, .i32⟩
  | 125 => ⟨S384, .i32⟩
  | 126 => ⟨S384, .i32⟩
  | 127 => ⟨S_, .i32⟩
  | _ => ⟨S4x4096x1024, .f32⟩

abbrev hbmTy0_1 (i : Nat) : BufTy := match i % 128 with
  | 0 => ⟨S384, .i32⟩
  | 1 => ⟨S384, .i1⟩
  | 2 => ⟨S384, .i32⟩
  | 3 => ⟨S384, .i32⟩
  | 4 => ⟨S_, .i32⟩
  | 5 => ⟨S384, .i32⟩
  | 6 => ⟨S384, .i1⟩
  | 7 => ⟨S384, .i1⟩
  | 8 => ⟨S_, .i32⟩
  | 9 => ⟨S384, .i32⟩
  | 10 => ⟨S384, .i32⟩
  | 11 => ⟨S384, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S384, .i32⟩
  | 19 => ⟨S384, .i32⟩
  | 20 => ⟨S_, .i32⟩
  | 21 => ⟨S384, .i32⟩
  | 22 => ⟨S384, .i1⟩
  | 23 => ⟨S_, .i32⟩
  | 24 => ⟨S384, .i32⟩
  | 25 => ⟨S384, .i1⟩
  | 26 => ⟨S_, .i32⟩
  | 27 => ⟨S_, .i1⟩
  | 28 => ⟨S384, .i1⟩
  | 29 => ⟨S384, .i1⟩
  | 30 => ⟨S384, .i1⟩
  | 31 => ⟨S384, .i32⟩
  | 32 => ⟨S384, .i32⟩
  | 33 => ⟨S384, .i32⟩
  | 34 => ⟨S384x1, .i32⟩
  | 35 => ⟨S1x1024, .i32⟩
  | 36 => ⟨S384x1024, .i32⟩
  | 37 => ⟨S384x1024, .i32⟩
  | 38 => ⟨S384x1024, .i1⟩
  | 39 => ⟨S1x1024, .i32⟩
  | 40 => ⟨S384x1, .i32⟩
  | 41 => ⟨S_, .i32⟩
  | 42 => ⟨S384x1, .i32⟩
  | 43 => ⟨S384x1, .i32⟩
  | 44 => ⟨S384x1024, .i32⟩
  | 45 => ⟨S384x1024, .i32⟩
  | 46 => ⟨S384x1024, .i1⟩
  | 47 => ⟨S384x1024, .i1⟩
  | 48 => ⟨S384x1, .i32⟩
  | 49 => ⟨S1x1024, .i32⟩
  | 50 => ⟨S384x1024, .i32⟩
  | 51 => ⟨S384x1024, .i32⟩
  | 52 => ⟨S384x1024, .i1⟩
  | 53 => ⟨S1x1024, .i32⟩
  | 54 => ⟨S384x1, .i32⟩
  | 55 => ⟨S_, .i32⟩
  | 56 => ⟨S384x1, .i32⟩
  | 57 => ⟨S384x1, .i32⟩
  | 58 => ⟨S384x1024, .i32⟩
  | 59 => ⟨S384x1024, .i32⟩
  | 60 => ⟨S384x1024, .i1⟩
  | 61 => ⟨S384x1024, .i1⟩
  | 62 => ⟨S_, .i32⟩
  | 63 => ⟨S1024, .i32⟩
  | 64 => ⟨S1024, .i1⟩
  | 65 => ⟨S_, .i32⟩
  | 66 => ⟨S1024, .i32⟩
  | 67 => ⟨S1024, .i1⟩
  | 68 => ⟨S1024, .i1⟩
  | 69 => ⟨S1024, .f32⟩
  | 70 => ⟨S1x1024, .f32⟩
  | 71 => ⟨S_, .i32⟩
  | 72 => ⟨S1024, .i32⟩
  | 73 => ⟨S1024, .i1⟩
  | 74 => ⟨S_, .i32⟩
  | 75 => ⟨S1024, .i32⟩
  | 76 => ⟨S1024, .i1⟩
  | 77 => ⟨S1024, .i1⟩
  | 78 => ⟨S1024, .f32⟩
  | 79 => ⟨S1x1024, .f32⟩
  | 80 => ⟨S256, .i32⟩
  | 81 => ⟨S1x256, .i32⟩
  | 82 => ⟨S256x1, .i32⟩
  | 83 => ⟨S256x256, .i32⟩
  | 84 => ⟨S256x256, .i32⟩
  | 85 => ⟨S256x256, .i1⟩
  | 86 => ⟨S256x256, .bf16⟩
  | 87 => ⟨S512x1024, .bf16⟩
  | 88 => ⟨S512x1024, .bf16⟩
  | 89 => ⟨S384x1024, .bf16⟩
  | 90 => ⟨S384x1024, .bf16⟩
  | 91 => ⟨S16384x1024, .f32⟩
  | 92 => ⟨S16384x1024, .bf16⟩
  | 93 => ⟨S16384x512, .f32⟩
  | 94 => ⟨S16384x512, .f32⟩
  | 95 => ⟨S16384x1024, .bf16⟩
  | 96 => ⟨S16384x512, .bf16⟩
  | 97 => ⟨S16384x8, .f32⟩
  | 98 => ⟨S16384x1024, .f32⟩
  | 99 => ⟨S16384x1024, .f32⟩
  | 100 => ⟨S4x8x512, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1024x2560, .bf16⟩
  | .local _ .vmem, ⟨3, _⟩ => ⟨S1024x1024, .bf16⟩
  | .local _ .vmem, ⟨4, _⟩ => ⟨S1024x128, .bf16⟩
  | .local _ .vmem, ⟨5, _⟩ => ⟨S1024x2048, .bf16⟩
  | .local _ .vmem, ⟨6, _⟩ => ⟨S1x128, .f32⟩
  | .local _ .vmem, ⟨7, _⟩ => ⟨S3x512, .f32⟩
  | .local _ .vmem, ⟨8, _⟩ => ⟨S512x1024, .bf16⟩
  | .local _ .vmem, ⟨9, _⟩ => ⟨S256x256, .bf16⟩
  | .local _ .vmem, ⟨10, _⟩ => ⟨S512x1024, .bf16⟩
  | .local _ .vmem, ⟨11, _⟩ => ⟨S384x1024, .bf16⟩
  | .local _ .vmem, ⟨12, _⟩ => ⟨S384x1024, .bf16⟩
  | .local _ .vmem, ⟨13, _⟩ => ⟨S1x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x1024, .bf16⟩
  | .local _ .vmem, ⟨22, _⟩ => ⟨S256x1024, .bf16⟩
  | .local _ .vmem, ⟨23, _⟩ => ⟨S256x512, .bf16⟩
  | .local _ .vmem, ⟨24, _⟩ => ⟨S256x512, .bf16⟩
  | .local _ .vmem, ⟨25, _⟩ => ⟨S256x8, .f32⟩
  | .local _ .vmem, ⟨26, _⟩ => ⟨S256x8, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S1x8x512, .f32⟩
  | .local _ .vmem, ⟨32, _⟩ => ⟨S1x8x512, .f32⟩
  | .local _ .vmem, ⟨33, _⟩ => ⟨S264x512, .f32⟩
  | .local _ .vmem, ⟨34, _⟩ => ⟨S1x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_call2_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_call3_v0 : Ref sig .tc := ⟨.hbm, 30, rfl⟩
abbrev main_call3_v1 : Ref sig .tc := ⟨.hbm, 31, rfl⟩
abbrev main_call3_v2 : Ref sig .tc := ⟨.hbm, 32, rfl⟩
abbrev main_call3_v3 : Ref sig .tc := ⟨.hbm, 33, rfl⟩
abbrev main_call3_v4 : Ref sig .tc := ⟨.hbm, 34, rfl⟩
abbrev main_call3_v5 : Ref sig .tc := ⟨.hbm, 35, rfl⟩
abbrev main_call3_v6 : Ref sig .tc := ⟨.hbm, 36, rfl⟩
abbrev main_call3_v7 : Ref sig .tc := ⟨.hbm, 37, rfl⟩
abbrev main_call3_v8 : Ref sig .tc := ⟨.hbm, 38, rfl⟩
abbrev main_call3_c : Ref sig .tc := ⟨.hbm, 39, rfl⟩
abbrev main_call3_v9 : Ref sig .tc := ⟨.hbm, 40, rfl⟩
abbrev main_call3_v10 : Ref sig .tc := ⟨.hbm, 41, rfl⟩
abbrev main_call3_v11 : Ref sig .tc := ⟨.hbm, 42, rfl⟩
abbrev main_call3_c_0 : Ref sig .tc := ⟨.hbm, 43, rfl⟩
abbrev main_call3_v12 : Ref sig .tc := ⟨.hbm, 44, rfl⟩
abbrev main_call3_v13 : Ref sig .tc := ⟨.hbm, 45, rfl⟩
abbrev main_v18 : Ref sig .tc := ⟨.hbm, 46, rfl⟩
abbrev main_c_3 : Ref sig .tc := ⟨.hbm, 47, rfl⟩
abbrev main_call4_v0 : Ref sig .tc := ⟨.hbm, 48, rfl⟩
abbrev main_call4_c : Ref sig .tc := ⟨.hbm, 49, rfl⟩
abbrev main_call4_v1 : Ref sig .tc := ⟨.hbm, 50, rfl⟩
abbrev main_call4_c_0 : Ref sig .tc := ⟨.hbm, 51, rfl⟩
abbrev main_call4_v2 : Ref sig .tc := ⟨.hbm, 52, rfl⟩
abbrev main_call4_v3 : Ref sig .tc := ⟨.hbm, 53, rfl⟩
abbrev main_call4_v4 : Ref sig .tc := ⟨.hbm, 54, rfl⟩
abbrev main_call4_c_1 : Ref sig .tc := ⟨.hbm, 55, rfl⟩
abbrev main_call4_v5 : Ref sig .tc := ⟨.hbm, 56, rfl⟩
abbrev main_call4_v6 : Ref sig .tc := ⟨.hbm, 57, rfl⟩
abbrev main_call4_c_2 : Ref sig .tc := ⟨.hbm, 58, rfl⟩
abbrev main_call4_v7 : Ref sig .tc := ⟨.hbm, 59, rfl⟩
abbrev main_call4_v8 : Ref sig .tc := ⟨.hbm, 60, rfl⟩
abbrev main_call4_c_3 : Ref sig .tc := ⟨.hbm, 61, rfl⟩
abbrev main_call4_v9 : Ref sig .tc := ⟨.hbm, 62, rfl⟩
abbrev main_call4_v10 : Ref sig .tc := ⟨.hbm, 63, rfl⟩
abbrev main_call4_v11 : Ref sig .tc := ⟨.hbm, 64, rfl⟩
abbrev main_call4_v12 : Ref sig .tc := ⟨.hbm, 65, rfl⟩
abbrev main_call4_v13 : Ref sig .tc := ⟨.hbm, 66, rfl⟩
abbrev main_call4_v14 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_c_4 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_v5 : Ref sig .tc := ⟨.hbm, 77, rfl⟩
abbrev main_call5_v6 : Ref sig .tc := ⟨.hbm, 78, rfl⟩
abbrev main_call5_v7 : Ref sig .tc := ⟨.hbm, 79, rfl⟩
abbrev main_call5_v8 : Ref sig .tc := ⟨.hbm, 80, rfl⟩
abbrev main_call5_c : Ref sig .tc := ⟨.hbm, 81, rfl⟩
abbrev main_call5_v9 : Ref sig .tc := ⟨.hbm, 82, rfl⟩
abbrev main_call5_v10 : Ref sig .tc := ⟨.hbm, 83, rfl⟩
abbrev main_call5_v11 : Ref sig .tc := ⟨.hbm, 84, rfl⟩
abbrev main_call5_c_0 : Ref sig .tc := ⟨.hbm, 85, rfl⟩
abbrev main_call5_v12 : Ref sig .tc := ⟨.hbm, 86, rfl⟩
abbrev main_call5_v13 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_c_5 : Ref sig .tc := ⟨.hbm, 94, rfl⟩
abbrev main_call6_v0 : Ref sig .tc := ⟨.hbm, 95, rfl⟩
abbrev main_call6_c : Ref sig .tc := ⟨.hbm, 96, rfl⟩
abbrev main_call6_v1 : Ref sig .tc := ⟨.hbm, 97, rfl⟩
abbrev main_call6_c_0 : Ref sig .tc := ⟨.hbm, 98, rfl⟩
abbrev main_call6_v2 : Ref sig .tc := ⟨.hbm, 99, rfl⟩
abbrev main_call6_v3 : Ref sig .tc := ⟨.hbm, 100, rfl⟩
abbrev main_call6_v4 : Ref sig .tc := ⟨.hbm, 101, rfl⟩
abbrev main_call6_c_1 : Ref sig .tc := ⟨.hbm, 102, rfl⟩
abbrev main_call6_v5 : Ref sig .tc := ⟨.hbm, 103, rfl⟩
abbrev main_call6_v6 : Ref sig .tc := ⟨.hbm, 104, rfl⟩
abbrev main_call6_c_2 : Ref sig .tc := ⟨.hbm, 105, rfl⟩
abbrev main_call6_v7 : Ref sig .tc := ⟨.hbm, 106, rfl⟩
abbrev main_call6_v8 : Ref sig .tc := ⟨.hbm, 107, rfl⟩
abbrev main_call6_c_3 : Ref sig .tc := ⟨.hbm, 108, rfl⟩
abbrev main_call6_v9 : Ref sig .tc := ⟨.hbm, 109, rfl⟩
abbrev main_call6_v10 : Ref sig .tc := ⟨.hbm, 110, rfl⟩
abbrev main_call6_v11 : Ref sig .tc := ⟨.hbm, 111, rfl⟩
abbrev main_call6_v12 : Ref sig .tc := ⟨.hbm, 112, rfl⟩
abbrev main_call6_v13 : Ref sig .tc := ⟨.hbm, 113, rfl⟩
abbrev main_call6_v14 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_c_6 : Ref sig .tc := ⟨.hbm, 122, rfl⟩
abbrev main_call7_v0 : Ref sig .tc := ⟨.hbm, 123, rfl⟩
abbrev main_call7_v1 : Ref sig .tc := ⟨.hbm, 124, rfl⟩
abbrev main_call7_v2 : Ref sig .tc := ⟨.hbm, 125, rfl⟩
abbrev main_call7_v3 : Ref sig .tc := ⟨.hbm, 126, rfl⟩
abbrev main_call7_v4 : Ref sig .tc := ⟨.hbm, 127, rfl⟩
abbrev main_call7_v5 : Ref sig .tc := ⟨.hbm, 128, rfl⟩
abbrev main_call7_v6 : Ref sig .tc := ⟨.hbm, 129, rfl⟩
abbrev main_call7_v7 : Ref sig .tc := ⟨.hbm, 130, rfl⟩
abbrev main_call7_v8 : Ref sig .tc := ⟨.hbm, 131, rfl⟩
abbrev main_call7_c : Ref sig .tc := ⟨.hbm, 132, rfl⟩
abbrev main_call7_v9 : Ref sig .tc := ⟨.hbm, 133, rfl⟩
abbrev main_call7_v10 : Ref sig .tc := ⟨.hbm, 134, rfl⟩
abbrev main_call7_v11 : Ref sig .tc := ⟨.hbm, 135, rfl⟩
abbrev main_call7_c_0 : Ref sig .tc := ⟨.hbm, 136, rfl⟩
abbrev main_call7_v12 : Ref sig .tc := ⟨.hbm, 137, rfl⟩
abbrev main_call7_v13 : Ref sig .tc := ⟨.hbm, 138, rfl⟩
abbrev main_v35 : Ref sig .tc := ⟨.hbm, 139, rfl⟩
abbrev main_c_7 : Ref sig .tc := ⟨.hbm, 140, rfl⟩
abbrev main_call8_v0 : Ref sig .tc := ⟨.hbm, 141, rfl⟩
abbrev main_call8_c : Ref sig .tc := ⟨.hbm, 142, rfl⟩
abbrev main_call8_v1 : Ref sig .tc := ⟨.hbm, 143, rfl⟩
abbrev main_call8_c_0 : Ref sig .tc := ⟨.hbm, 144, rfl⟩
abbrev main_call8_v2 : Ref sig .tc := ⟨.hbm, 145, rfl⟩
abbrev main_call8_v3 : Ref sig .tc := ⟨.hbm, 146, rfl⟩
abbrev main_call8_v4 : Ref sig .tc := ⟨.hbm, 147, rfl⟩
abbrev main_call8_c_1 : Ref sig .tc := ⟨.hbm, 148, rfl⟩
abbrev main_call8_v5 : Ref sig .tc := ⟨.hbm, 149, rfl⟩
abbrev main_call8_v6 : Ref sig .tc := ⟨.hbm, 150, rfl⟩
abbrev main_call8_c_2 : Ref sig .tc := ⟨.hbm, 151, rfl⟩
abbrev main_call8_v7 : Ref sig .tc := ⟨.hbm, 152, rfl⟩
abbrev main_call8_v8 : Ref sig .tc := ⟨.hbm, 153, rfl⟩
abbrev main_call8_c_3 : Ref sig .tc := ⟨.hbm, 154, rfl⟩
abbrev main_call8_v9 : Ref sig .tc := ⟨.hbm, 155, rfl⟩
abbrev main_call8_v10 : Ref sig .tc := ⟨.hbm, 156, rfl⟩
abbrev main_call8_v11 : Ref sig .tc := ⟨.hbm, 157, rfl⟩
abbrev main_call8_v12 : Ref sig .tc := ⟨.hbm, 158, rfl⟩
abbrev main_call8_v13 : Ref sig .tc := ⟨.hbm, 159, rfl⟩
abbrev main_call8_v14 : Ref sig .tc := ⟨.hbm, 160, rfl⟩
abbrev main_v36 : Ref sig .tc := ⟨.hbm, 161, rfl⟩
abbrev main_v37 : Ref sig .tc := ⟨.hbm, 162, rfl⟩
abbrev main_v38 : Ref sig .tc := ⟨.hbm, 163, rfl⟩
abbrev main_v39 : Ref sig .tc := ⟨.hbm, 164, rfl⟩
abbrev main_v40 : Ref sig .tc := ⟨.hbm, 165, rfl⟩
abbrev main_v41 : Ref sig .tc := ⟨.hbm, 166, rfl⟩
abbrev main_v42 : Ref sig .tc := ⟨.hbm, 167, rfl⟩
abbrev main_v43 : Ref sig .tc := ⟨.hbm, 168, rfl⟩
abbrev main_c_8 : Ref sig .tc := ⟨.hbm, 169, rfl⟩
abbrev main_v44 : Ref sig .tc := ⟨.hbm, 170, rfl⟩
abbrev main_v45 : Ref sig .tc := ⟨.hbm, 171, rfl⟩
abbrev main_v46 : Ref sig .tc := ⟨.hbm, 172, rfl⟩
abbrev main_v47 : Ref sig .tc := ⟨.hbm, 173, rfl⟩
abbrev main_v48 : Ref sig .tc := ⟨.hbm, 174, rfl⟩
abbrev main_v49 : Ref sig .tc := ⟨.hbm, 175, rfl⟩
abbrev main_v50 : Ref sig .tc := ⟨.hbm, 176, rfl⟩
abbrev main_v51 : Ref sig .tc := ⟨.hbm, 177, rfl⟩
abbrev main_v52 : Ref sig .tc := ⟨.hbm, 178, rfl⟩
abbrev main_v53 : Ref sig .tc := ⟨.hbm, 179, rfl⟩
abbrev main_v54 : Ref sig .tc := ⟨.hbm, 180, rfl⟩
abbrev main_v55 : Ref sig .tc := ⟨.hbm, 181, rfl⟩
abbrev main_v56 : Ref sig .tc := ⟨.hbm, 182, rfl⟩
abbrev main_c_9 : Ref sig .tc := ⟨.hbm, 183, rfl⟩
abbrev main_v57 : Ref sig .tc := ⟨.hbm, 184, rfl⟩
abbrev main_v58 : Ref sig .tc := ⟨.hbm, 185, rfl⟩
abbrev main_v59 : Ref sig .tc := ⟨.hbm, 186, rfl⟩
abbrev main_v60 : Ref sig .tc := ⟨.hbm, 187, rfl⟩
abbrev main_v61 : Ref sig .tc := ⟨.hbm, 188, rfl⟩
abbrev main_v62 : Ref sig .tc := ⟨.hbm, 189, rfl⟩
abbrev main_c_10 : Ref sig .tc := ⟨.hbm, 190, rfl⟩
abbrev main_v63 : Ref sig .tc := ⟨.hbm, 191, rfl⟩
abbrev main_v64 : Ref sig .tc := ⟨.hbm, 192, rfl⟩
abbrev main_c_11 : Ref sig .tc := ⟨.hbm, 193, rfl⟩
abbrev main_v65 : Ref sig .tc := ⟨.hbm, 194, rfl⟩
abbrev main_v66 : Ref sig .tc := ⟨.hbm, 195, rfl⟩
abbrev main_v67 : Ref sig .tc := ⟨.hbm, 196, rfl⟩
abbrev main_v68 : Ref sig .tc := ⟨.hbm, 197, rfl⟩
abbrev main_v69 : Ref sig .tc := ⟨.hbm, 198, rfl⟩
abbrev main_c_12 : Ref sig .tc := ⟨.hbm, 199, rfl⟩
abbrev main_v70 : Ref sig .tc := ⟨.hbm, 200, rfl⟩
abbrev main_v71 : Ref sig .tc := ⟨.hbm, 201, rfl⟩
abbrev main_c_13 : Ref sig .tc := ⟨.hbm, 202, rfl⟩
abbrev main_v72 : Ref sig .tc := ⟨.hbm, 203, rfl⟩
abbrev main_v73 : Ref sig .tc := ⟨.hbm, 204, rfl⟩
abbrev main_v74 : Ref sig .tc := ⟨.hbm, 205, rfl⟩
abbrev main_v75 : Ref sig .tc := ⟨.hbm, 206, rfl⟩
abbrev main_v76 : Ref sig .tc := ⟨.hbm, 207, rfl⟩
abbrev main_v77 : Ref sig .tc := ⟨.hbm, 208, rfl⟩
abbrev main_v78 : Ref sig .tc := ⟨.hbm, 209, rfl⟩
abbrev main_v79 : Ref sig .tc := ⟨.hbm, 210, rfl⟩
abbrev main_v80 : Ref sig .tc := ⟨.hbm, 211, rfl⟩
abbrev main_v81 : Ref sig .tc := ⟨.hbm, 212, rfl⟩
abbrev main_v82 : Ref sig .tc := ⟨.hbm, 213, rfl⟩
abbrev main_v83 : Ref sig .tc := ⟨.hbm, 214, rfl⟩
abbrev main_v84 : Ref sig .tc := ⟨.hbm, 215, rfl⟩
abbrev main_v85 : Ref sig .tc := ⟨.hbm, 216, rfl⟩
abbrev main_v86 : Ref sig .tc := ⟨.hbm, 217, rfl⟩
abbrev main_v87 : Ref sig .tc := ⟨.hbm, 218, rfl⟩
abbrev main_v88 : Ref sig .tc := ⟨.hbm, 219, rfl⟩
abbrev main_v89_0 : Ref sig .tc := ⟨.hbm, 220, rfl⟩
abbrev main_v89_1 : Ref sig .tc := ⟨.hbm, 221, rfl⟩
abbrev main_v89_2 : Ref sig .tc := ⟨.hbm, 222, rfl⟩
abbrev main_v89_3 : Ref sig .tc := ⟨.hbm, 223, rfl⟩
abbrev main_v89_4 : Ref sig .tc := ⟨.hbm, 224, rfl⟩
abbrev main_v89_5 : Ref sig .tc := ⟨.hbm, 225, rfl⟩
abbrev main_v89_6 : Ref sig .tc := ⟨.hbm, 226, rfl⟩
abbrev main_v89_7 : Ref sig .tc := ⟨.hbm, 227, rfl⟩
abbrev main_v89_8 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c16_i32_17 : BitVec 32 := 16#32
  let c0_i32_18 : BitVec 32 := 0#32
  let v35 : BitVec 1 := Scalar.cmpi .eq c16_i32_17 c0_i32_18
  let c1_i32_19 : BitVec 32 := 1#32
  let v36 : BitVec 32 := Scalar.select v35 c1_i32_19 c16_i32_17
  let v37 : BitVec 32 := Scalar.remsi arg0 v36
  let c0_i32_21 : BitVec 32 := 0#32
  let v39 : BitVec 1 := Scalar.cmpi .slt v37 c0_i32_21
  let c0_i32_22 : BitVec 32 := 0#32
  let v40 : BitVec 1 := Scalar.cmpi .slt v36 c0_i32_22
  let v41 : BitVec 1 := Scalar.xori v39 v40
  let c0_i32_20 : BitVec 32 := 0#32
  let v38 : BitVec 1 := Scalar.cmpi .ne v37 c0_i32_20
  let v42 : BitVec 1 := Scalar.andi v41 v38
  let v43 : BitVec 32 := Scalar.addi v37 v36
  let v44 : BitVec 32 := Scalar.select v42 v43 v37
  let c15_i32 : BitVec 32 := 15#32
  let v45 : BitVec 1 := Scalar.cmpi .eq v44 c15_i32
  let v46 : BitVec 32 := Scalar.extui v45
  let c0_i32_23 : BitVec 32 := 0#32
  let v47 : BitVec 1 := Scalar.cmpi .ne v46 c0_i32_23
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x8 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x8x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== InprojRefIdeal.lean ====
abbrev S4x4096x1024 : Shape := ⟨3, ![4, 4096, 1024]⟩
abbrev S1x1024x5128 : Shape := ⟨3, ![1, 1024, 5128]⟩
abbrev S1x8 : Shape := ⟨2, ![1, 8]⟩
abbrev S1x3x512 : Shape := ⟨3, ![1, 3, 512]⟩
abbrev S1x512x1024 : Shape := ⟨3, ![1, 512, 1024]⟩
abbrev S1024x5128 : Shape := ⟨2, ![1024, 5128]⟩
abbrev S4x4096x5128 : Shape := ⟨3, ![4, 4096, 5128]⟩
abbrev S4x4096x512 : Shape := ⟨3, ![4, 4096, 512]⟩
abbrev S4x4096x8 : Shape := ⟨3, ![4, 4096, 8]⟩
abbrev S_ : Shape := ⟨0, ![]⟩
abbrev S4x2x512 : Shape := ⟨3, ![4, 2, 512]⟩
abbrev S4x4098x512 : Shape := ⟨3, ![4, 4098, 512]⟩
abbrev S3x512 : Shape := ⟨2, ![3, 512]⟩
abbrev S1x512 : Shape := ⟨2, ![1, 512]⟩
abbrev S512 : Shape := ⟨1, ![512]⟩
abbrev S1x1x512 : Shape := ⟨3, ![1, 1, 512]⟩
abbrev S512x1024 : Shape := ⟨2, ![512, 1024]⟩
abbrev S8 : Shape := ⟨1, ![8]⟩
abbrev S1x1x8 : Shape := ⟨3, ![1, 1, 8]⟩
abbrev S16384x512 : Shape := ⟨2, ![16384, 512]⟩
abbrev S16384x8 : Shape := ⟨2, ![16384, 8]⟩
abbrev S16384x1024 : Shape := ⟨2, ![16384, 1024]⟩
abbrev S4x8x512 : Shape := ⟨3, ![4, 8, 512]⟩

abbrev nBuf : Space → Nat
  | .hbm => 87
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x5128, .f32⟩
  | .hbm, ⟨2, _⟩ => ⟨S1x8, .f32⟩
  | .hbm, ⟨3, _⟩ => ⟨S1x3x512, .f32⟩
  | .hbm, ⟨4, _⟩ => ⟨S1x512x1024, .f32⟩
  | .hbm, ⟨5, _⟩ => ⟨S1024x5128, .f32⟩
  | .hbm, ⟨6, _⟩ => ⟨S4x4096x5128, .f32⟩
  | .hbm, ⟨7, _⟩ => ⟨S4x4096x512, .f32⟩
  | .hbm, ⟨8, _⟩ => ⟨S4x4096x512, .f32⟩
  | .hbm, ⟨9, _⟩ => ⟨S4x4096x512, .f32⟩
  | .hbm, ⟨10, _⟩ => ⟨S4x4096x512, .f32⟩
  | .hbm, ⟨11, _⟩ => ⟨S4x4096x512, .f32⟩
  | .hbm, ⟨12, _⟩ => ⟨S4x4096x512, .f32⟩
  | .hbm, ⟨13, _⟩ => ⟨S4x4096x8, .f32⟩
  | .hbm, ⟨14, _⟩ => ⟨S4x4096x1024, .f32⟩
  | .hbm, ⟨15, _⟩ => ⟨S4x4096x1024, .f32⟩
  | .hbm, ⟨16, _⟩ => ⟨S4x4096x512, .f32⟩
  | .hbm, ⟨17, _⟩ => ⟨S_, .f32⟩
  | .hbm, ⟨18, _⟩ => ⟨S4x2x512, .f32⟩
  | .hbm, ⟨19, _⟩ => ⟨S4x4098x512, .f32⟩
  | .hbm, ⟨20, _⟩ => ⟨S3x512, .f32⟩
  | .hbm, ⟨21, _⟩ => ⟨S1x512, .f32⟩
  | .hbm, ⟨22, _⟩ => ⟨S512, .f32⟩
  | .hbm, ⟨23, _⟩ => ⟨S4x4096x512, .f32⟩
  | .hbm, ⟨24, _⟩ => ⟨S1x1x512, .f32⟩
  | .hbm, ⟨25, _⟩ => ⟨S4x4096x512, .f32⟩
  | .hbm, ⟨26, _⟩ => ⟨S4x4096x512, .f32⟩
  | .hbm, ⟨27, _⟩ => ⟨S1x512, .f32⟩
  | .hbm, ⟨28, _⟩ => ⟨S512, .f32⟩
  | .hbm, ⟨29, _⟩ => ⟨S4x4096x512, .f32⟩
  | .hbm, ⟨30, _⟩ => ⟨S1x1x512, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .hbm, ⟨34, _⟩ => ⟨S1x512, .f32⟩
  | .hbm, ⟨35, _⟩ => ⟨S512, .f32⟩
  | .hbm, ⟨36, _⟩ => ⟨S4x4096x512, .f32⟩
  | .hbm, ⟨37, _⟩ => ⟨S1x1x512, .f32⟩
  | .hbm, ⟨38, _⟩ => ⟨S4x4096x512, .f32⟩
  | .hbm, ⟨39, _⟩ => ⟨S4x4096x512, .f32⟩
  | .hbm, ⟨40, _⟩ => ⟨S4x4096x512, .f32⟩
  | .hbm, ⟨41, _⟩ => ⟨S4x4096x512, .f32⟩
  | .hbm, ⟨42, _⟩ => ⟨S512x1024, .f32⟩
  | .hbm, ⟨43, _⟩ => ⟨S4x4096x1024, .f32⟩
  | .hbm, ⟨44, _⟩ => ⟨S8, .f32⟩
  | .hbm, ⟨45, _⟩ => ⟨S1x1x8, .f32⟩
  | .hbm, ⟨46, _⟩ => ⟨S4x4096x8, .f32⟩
  | .hbm, ⟨47, _⟩ => ⟨S4x4096x8, .f32⟩
  | .hbm, ⟨48, _⟩ => ⟨S4x4096x8, .f32⟩
  | .hbm, ⟨49, _⟩ => ⟨S_, .f32⟩
  | .hbm, ⟨50, _⟩ => ⟨S4x4096x8, .f32⟩
  | .hbm, ⟨51, _⟩ => ⟨S4x4096x8, .f32⟩
  | .hbm, ⟨52, _⟩ => ⟨S4x4096x8, .f32⟩
  | .hbm, ⟨53, _⟩ => ⟨S4x4096x8, .f32⟩
  | .hbm, ⟨54, _⟩ => ⟨S4x4096x8, .i1⟩
  | .hbm, ⟨55, _⟩ => ⟨S4x4096x8, .f32⟩
  | .hbm, ⟨56, _⟩ => ⟨S4x4096x8, .f32⟩
  | .hbm, ⟨57, _⟩ => ⟨S4x4096x8, .f32⟩
  | .hbm, ⟨58, _⟩ => ⟨S4x4096x8, .f32⟩
  | .hbm, ⟨59, _⟩ => ⟨S4x4096x8, .f32⟩
  | .hbm, ⟨60, _⟩ => ⟨S4x4096x8, .f32⟩
  | .hbm, ⟨61, _⟩ => ⟨S4x4096x8, .f32⟩
  | .hbm, ⟨62, _⟩ => ⟨S4x4096x8, .f32⟩
  | .hbm, ⟨63, _⟩ => ⟨S4x4096x8, .f32⟩
  | .hbm, ⟨64, _⟩ => ⟨S16384x512, .f32⟩
  | .hbm, ⟨65, _⟩ => ⟨S16384x512, .f32⟩
  | .hbm, ⟨66, _⟩ => ⟨S16384x8, .f32⟩
  | .hbm, ⟨67, _⟩ => ⟨S4x4096x1024, .f32⟩
  | .hbm, ⟨68, _⟩ => ⟨S4x4096x1024, .f32⟩
  | .hbm, ⟨69, _⟩ => ⟨S_, .f32⟩
  | .hbm, ⟨70, _⟩ => ⟨S4x4096x1024, .f32⟩
  | .hbm, ⟨71, _⟩ => ⟨S4x4096x1024, .f32⟩
  | .hbm, ⟨72, _⟩ => ⟨S_, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | .hbm, ⟨76, _⟩ => ⟨S16384x1024, .f32⟩
  | .hbm, ⟨77, _⟩ => ⟨S4x4096x1024, .f32⟩
  | .hbm, ⟨78, _⟩ => ⟨S4x4096x1024, .f32⟩
  | .hbm, ⟨79, _⟩ => ⟨S_, .f32⟩
  | .hbm, ⟨80, _⟩ => ⟨S4x4096x1024, .f32⟩
  | .hbm, ⟨81, _⟩ => ⟨S4x4096x1024, .f32⟩
  | .hbm, ⟨82, _⟩ => ⟨S_, .f32⟩
  | .hbm, ⟨83, _⟩ => ⟨S4x4096x1024, .f32⟩
  | .hbm, ⟨84, _⟩ => ⟨S4x4096x1024, .f32⟩
  | .hbm, ⟨85, _⟩ => ⟨S16384x1024, .f32⟩
  | .hbm, ⟨86, _⟩ => ⟨S4x8x512, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_call0_v0 : Ref sig .tc := ⟨.hbm, 48, rfl⟩
abbrev main_call0_call0_cst : Ref sig .tc := ⟨.hbm, 49, rfl⟩
abbrev main_call0_call0_v0 : Ref sig .tc := ⟨.hbm, 50, rfl⟩
abbrev main_call0_call0_v1 : Ref sig .tc := ⟨.hbm, 51, rfl⟩
abbrev main_call0_call0_v2 : Ref sig .tc := ⟨.hbm, 52, rfl⟩
abbrev main_call0_call0_v3 : Ref sig .tc := ⟨.hbm, 53, rfl⟩
abbrev main_call0_call0_v4 : Ref sig .tc := ⟨.hbm, 54, rfl⟩
abbrev main_call0_call0_v5 : Ref sig .tc := ⟨.hbm, 55, rfl⟩
abbrev main_call0_call0_v6 : Ref sig .tc := ⟨.hbm, 56, rfl⟩
abbrev main_call0_call0_v7 : Ref sig .tc := ⟨.hbm, 57, rfl⟩
abbrev main_call0_call0_v8 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_v11 : Ref sig .tc := ⟨.hbm, 61, rfl⟩
abbrev main_call0_v1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_0 : Ref sig .tc := ⟨.hbm, 69, rfl⟩
abbrev main_v48 : Ref sig .tc := ⟨.hbm, 70, rfl⟩
abbrev main_v49 : Ref sig .tc := ⟨.hbm, 71, rfl⟩
abbrev main_cst_1 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_2 : Ref sig .tc := ⟨.hbm, 79, rfl⟩
abbrev main_v56 : Ref sig .tc := ⟨.hbm, 80, rfl⟩
abbrev main_v57 : Ref sig .tc := ⟨.hbm, 81, rfl⟩
abbrev main_cst_3 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Sample.lean ====
abbrev S128x4x1024 : Shape := ⟨3, ![128, 4, 1024]⟩
abbrev S1x128x2x512 : Shape := ⟨4, ![1, 128, 2, 512]⟩
abbrev S1x1024x5128 : Shape := ⟨3, ![1, 1024, 5128]⟩
abbrev S1x8 : Shape := ⟨2, ![1, 8]⟩
abbrev S1x3x512 : Shape := ⟨3, ![1, 3, 512]⟩
abbrev S1x512x1024 : Shape := ⟨3, ![1, 512, 1024]⟩
abbrev S1024x5128 : Shape := ⟨2, ![1024, 5128]⟩
abbrev S8 : Shape := ⟨1, ![8]⟩
abbrev S3x512 : Shape := ⟨2, ![3, 512]⟩
abbrev S512x1024 : Shape := ⟨2, ![512, 1024]⟩
abbrev S1024x1536 : Shape := ⟨2, ![1024, 1536]⟩
abbrev S1024x1024 : Shape := ⟨2, ![1024, 1024]⟩
abbrev S1024x2560 : Shape := ⟨2, ![1024, 2560]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x8 : Shape := ⟨2, ![1024, 8]⟩
abbrev S1024x128 : Shape := ⟨2, ![1024, 128]⟩
abbrev S1024x2048 : Shape := ⟨2, ![1024, 2048]⟩
abbrev S128 : Shape := ⟨1, ![128]⟩
abbrev S1x128 : Shape := ⟨2, ![1, 128]⟩
abbrev S1024 : Shape := ⟨1, ![1024]⟩
abbrev S512 : Shape := ⟨1, ![512]⟩
abbrev S512x1 : Shape := ⟨2, ![512, 1]⟩
abbrev S1x1024 : Shape := ⟨2, ![1, 1024]⟩
abbrev S384 : Shape := ⟨1, ![384]⟩
abbrev S384x1 : Shape := ⟨2, ![384, 1]⟩
abbrev S384x1024 : Shape := ⟨2, ![384, 1024]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S128x2x512 : Shape := ⟨3, ![128, 2, 512]⟩
abbrev S128x1x512 : Shape := ⟨3, ![128, 1, 512]⟩
abbrev S128x512 : Shape := ⟨2, ![128, 512]⟩
abbrev S128x4x512 : Shape := ⟨3, ![128, 4, 512]⟩
abbrev S512x512 : Shape := ⟨2, ![512, 512]⟩
abbrev S512x8 : Shape := ⟨2, ![512, 8]⟩
abbrev S256x1024 : Shape := ⟨2, ![256, 1024]⟩
abbrev S256x512 : Shape := ⟨2, ![256, 512]⟩
abbrev S256x8 : Shape := ⟨2, ![256, 8]⟩
abbrev S264x512 : Shape := ⟨2, ![264, 512]⟩
abbrev S8x512 : Shape := ⟨2, ![8, 512]⟩
abbrev S1x512 : Shape := ⟨2, ![1, 512]⟩
abbrev S256x128 : Shape := ⟨2, ![256, 128]⟩

abbrev nBuf : Space → Nat
  | .hbm => 237
  | .vmem => 28
  | .smem => 0
  | _ => 0

abbrev hbmTy0_0 (i : Nat) : BufTy := match i % 128 with
  | 0 => ⟨S128x4x1024, .f32⟩
  | 1 => ⟨S1x128x2x512, .f32⟩
  | 2 => ⟨S1x1024x5128, .f32⟩
  | 3 => ⟨S1x8, .f32⟩
  | 4 => ⟨S1x3x512, .f32⟩
  | 5 => ⟨S1x512x1024, .f32⟩
  | 6 => ⟨S1024x5128, .f32⟩
  | 7 => ⟨S8, .f32⟩
  | 8 => ⟨S3x512, .f32⟩
  | 9 => ⟨S512x1024, .f32⟩
  | 10 => ⟨S1024x5128, .bf16⟩
  | 11 => ⟨S1024x1536, .bf16⟩
  | 12 => ⟨S1024x1024, .bf16⟩
  | 13 => ⟨S1024x2560, .bf16⟩
  | 14 => ⟨S1024x512, .bf16⟩
  | 15 => ⟨S1024x8x64, .bf16⟩
  | 16 => ⟨S_, .i32⟩
  | 17 => ⟨S_, .bf16⟩
  | 18 => ⟨S1024x8x128, .bf16⟩
  | 19 => ⟨S1024x1024, .bf16⟩
  | 20 => ⟨S1024x8, .bf16⟩
  | 21 => ⟨S_, .i32⟩
  | 22 => ⟨S_, .bf16⟩
  | 23 => ⟨S1024x128, .bf16⟩
  | 24 => ⟨S1024x2048, .bf16⟩
  | 25 => ⟨S_, .i32⟩
  | 26 => ⟨S_, .f32⟩
  | 27 => ⟨S128, .f32⟩
  | 28 => ⟨S1x128, .f32⟩
  | 29 => ⟨S1024, .i32⟩
  | 30 => ⟨S_, .i32⟩
  | 31 => ⟨S_, .i32⟩
  | 32 => ⟨S1024, .i32⟩
  | 33 => ⟨S1024, .i32⟩
  | 34 => ⟨S1024, .i32⟩
  | 35 => ⟨S_, .i32⟩
  | 36 => ⟨S1024, .i32⟩
  | 37 => ⟨S1024, .i1⟩
  | 38 => ⟨S1024, .i32⟩
  | 39 => ⟨S1024, .i32⟩
  | 40 => ⟨S_, .i32⟩
  | 41 => ⟨S1024, .i32⟩
  | 42 => ⟨S1024, .i1⟩
  | 43 => ⟨S1024, .i1⟩
  | 44 => ⟨S_, .i32⟩
  | 45 => ⟨S1024, .i32⟩
  | 46 => ⟨S1024, .i32⟩
  | 47 => ⟨S1024, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S1024, .i32⟩
  | 55 => ⟨S1024, .i32⟩
  | 56 => ⟨S_, .i32⟩
  | 57 => ⟨S1024, .i32⟩
  | 58 => ⟨S1024, .i1⟩
  | 59 => ⟨S_, .i32⟩
  | 60 => ⟨S1024, .i32⟩
  | 61 => ⟨S1024, .i1⟩
  | 62 => ⟨S_, .i32⟩
  | 63 => ⟨S_, .i1⟩
  | 64 => ⟨S1024, .i1⟩
  | 65 => ⟨S1024, .i1⟩
  | 66 => ⟨S1024, .i1⟩
  | 67 => ⟨S1024, .i32⟩
  | 68 => ⟨S1024, .i32⟩
  | 69 => ⟨S1024, .i32⟩
  | 70 => ⟨S512, .i32⟩
  | 71 => ⟨S512x1, .i32⟩
  | 72 => ⟨S_, .i32⟩
  | 73 => ⟨S_, .i32⟩
  | 74 => ⟨S512x1, .i32⟩
  | 75 => ⟨S512x1, .i32⟩
  | 76 => ⟨S512x1, .i32⟩
  | 77 => ⟨S_, .i32⟩
  | 78 => ⟨S512x1, .i32⟩
  | 79 => ⟨S512x1, .i1⟩
  | 80 => ⟨S512x1, .i32⟩
  | 81 => ⟨S512x1, .i32⟩
  | 82 => ⟨S_, .i32⟩
  | 83 => ⟨S512x1, .i32⟩
  | 84 => ⟨S512x1, .i1⟩
  | 85 => ⟨S512x1, .i1⟩
  | 86 => ⟨S_, .i32⟩
  | 87 => ⟨S512x1, .i32⟩
  | 88 => ⟨S512x1, .i32⟩
  | 89 => ⟨S512x1, .i32⟩
  | 90 => ⟨S1x1024, .i32⟩
  | 91 => ⟨S512x1024, .i32⟩
  | 92 => ⟨S512x1024, .i32⟩
  | 93 => ⟨S512x1024, .i1⟩
  | 94 => ⟨S512x1, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S512x1, .i32⟩
  | 102 => ⟨S512x1, .i32⟩
  | 103 => ⟨S_, .i32⟩
  | 104 => ⟨S512x1, .i32⟩
  | 105 => ⟨S512x1, .i1⟩
  | 106 => ⟨S_, .i32⟩
  | 107 => ⟨S512x1, .i32⟩
  | 108 => ⟨S512x1, .i1⟩
  | 109 => ⟨S_, .i32⟩
  | 110 => ⟨S_, .i1⟩
  | 111 => ⟨S512x1, .i1⟩
  | 112 => ⟨S512x1, .i1⟩
  | 113 => ⟨S512x1, .i1⟩
  | 114 => ⟨S512x1, .i32⟩
  | 115 => ⟨S512x1, .i32⟩
  | 116 => ⟨S512x1, .i32⟩
  | 117 => ⟨S1x1024, .i32⟩
  | 118 => ⟨S512x1024, .i32⟩
  | 119 => ⟨S512x1024, .i32⟩
  | 120 => ⟨S512x1024, .i1⟩
  | 121 => ⟨S512x1024, .i1⟩
  | 122 => ⟨S384, .i32⟩
  | 123 => ⟨S_, .i32⟩
  | 124 => ⟨S_, .i32⟩
  | 125 => ⟨S384, .i32⟩
  | 126 => ⟨S384, .i32⟩
  | 127 => ⟨S384, .i32⟩
  | _ => ⟨S128x4x1024, .f32⟩

abbrev hbmTy0_1 (i : Nat) : BufTy := match i % 128 with
  | 0 => ⟨S_, .i32⟩
  | 1 => ⟨S384, .i32⟩
  | 2 => ⟨S384, .i1⟩
  | 3 => ⟨S384, .i32⟩
  | 4 => ⟨S384, .i32⟩
  | 5 => ⟨S_, .i32⟩
  | 6 => ⟨S384, .i32⟩
  | 7 => ⟨S384, .i1⟩
  | 8 => ⟨S384, .i1⟩
  | 9 => ⟨S_, .i32⟩
  | 10 => ⟨S384, .i32⟩
  | 11 => ⟨S384, .i32⟩
  | 12 => ⟨S384, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S384, .i32⟩
  | 20 => ⟨S384, .i32⟩
  | 21 => ⟨S_, .i32⟩
  | 22 => ⟨S384, .i32⟩
  | 23 => ⟨S384, .i1⟩
  | 24 => ⟨S_, .i32⟩
  | 25 => ⟨S384, .i32⟩
  | 26 => ⟨S384, .i1⟩
  | 27 => ⟨S_, .i32⟩
  | 28 => ⟨S_, .i1⟩
  | 29 => ⟨S384, .i1⟩
  | 30 => ⟨S384, .i1⟩
  | 31 => ⟨S384, .i1⟩
  | 32 => ⟨S384, .i32⟩
  | 33 => ⟨S384, .i32⟩
  | 34 => ⟨S384, .i32⟩
  | 35 => ⟨S384x1, .i32⟩
  | 36 => ⟨S1x1024, .i32⟩
  | 37 => ⟨S384x1024, .i32⟩
  | 38 => ⟨S384x1024, .i32⟩
  | 39 => ⟨S384x1024, .i1⟩
  | 40 => ⟨S1x1024, .i32⟩
  | 41 => ⟨S384x1, .i32⟩
  | 42 => ⟨S_, .i32⟩
  | 43 => ⟨S384x1, .i32⟩
  | 44 => ⟨S384x1, .i32⟩
  | 45 => ⟨S384x1024, .i32⟩
  | 46 => ⟨S384x1024, .i32⟩
  | 47 => ⟨S384x1024, .i1⟩
  | 48 => ⟨S384x1024, .i1⟩
  | 49 => ⟨S384x1, .i32⟩
  | 50 => ⟨S1x1024, .i32⟩
  | 51 => ⟨S384x1024, .i32⟩
  | 52 => ⟨S384x1024, .i32⟩
  | 53 => ⟨S384x1024, .i1⟩
  | 54 => ⟨S1x1024, .i32⟩
  | 55 => ⟨S384x1, .i32⟩
  | 56 => ⟨S_, .i32⟩
  | 57 => ⟨S384x1, .i32⟩
  | 58 => ⟨S384x1, .i32⟩
  | 59 => ⟨S384x1024, .i32⟩
  | 60 => ⟨S384x1024, .i32⟩
  | 61 => ⟨S384x1024, .i1⟩
  | 62 => ⟨S384x1024, .i1⟩
  | 63 => ⟨S_, .i32⟩
  | 64 => ⟨S1024, .i32⟩
  | 65 => ⟨S1024, .i1⟩
  | 66 => ⟨S_, .i32⟩
  | 67 => ⟨S1024, .i32⟩
  | 68 => ⟨S1024, .i1⟩
  | 69 => ⟨S1024, .i1⟩
  | 70 => ⟨S1024, .f32⟩
  | 71 => ⟨S1x1024, .f32⟩
  | 72 => ⟨S_, .i32⟩
  | 73 => ⟨S1024, .i32⟩
  | 74 => ⟨S1024, .i1⟩
  | 75 => ⟨S_, .i32⟩
  | 76 => ⟨S1024, .i32⟩
  | 77 => ⟨S1024, .i1⟩
  | 78 => ⟨S1024, .i1⟩
  | 79 => ⟨S1024, .f32⟩
  | 80 => ⟨S1x1024, .f32⟩
  | 81 => ⟨S256, .i32⟩
  | 82 => ⟨S1x256, .i32⟩
  | 83 => ⟨S256x1, .i32⟩
  | 84 => ⟨S256x256, .i32⟩
  | 85 => ⟨S256x256, .i32⟩
  | 86 => ⟨S256x256, .i1⟩
  | 87 => ⟨S256x256, .bf16⟩
  | 88 => ⟨S512x1024, .bf16⟩
  | 89 => ⟨S512x1024, .bf16⟩
  | 90 => ⟨S384x1024, .bf16⟩
  | 91 => ⟨S384x1024, .bf16⟩
  | 92 => ⟨S128x2x512, .f32⟩
  | 93 => ⟨S128x1x512, .f32⟩
  | 94 => ⟨S128x512, .f32⟩
  | 95 => ⟨S128x4x512, .f32⟩
  | 96 => ⟨S512x512, .f32⟩
  | 97 => ⟨S128x1x512, .f32⟩
  | 98 => ⟨S128x512, .f32⟩
  | 99 => ⟨S128x4x512, .f32⟩
  | 100 => ⟨S512x512, .f32⟩
  | 101 => ⟨S512x1024, .f32⟩
  | 102 => ⟨S512x1024, .bf16⟩
  | 103 => ⟨S512x512, .f32⟩
  | 104 => ⟨S512x512, .f32⟩
  | 105 => ⟨S512x8, .f32⟩
  | 106 => ⟨S512x1024, .f32⟩
  | 107 => ⟨S512x1024, .f32⟩
  | 108 => ⟨S512x512, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1024x2560, .bf16⟩
  | .local _ .vmem, ⟨3, _⟩ => ⟨S1024x1024, .bf16⟩
  | .local _ .vmem, ⟨4, _⟩ => ⟨S1024x128, .bf16⟩
  | .local _ .vmem, ⟨5, _⟩ => ⟨S1024x2048, .bf16⟩
  | .local _ .vmem, ⟨6, _⟩ => ⟨S1x128, .f32⟩
  | .local _ .vmem, ⟨7, _⟩ => ⟨S3x512, .f32⟩
  | .local _ .vmem, ⟨8, _⟩ => ⟨S512x1024, .bf16⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x1024, .bf16⟩
  | .local _ .vmem, ⟨14, _⟩ => ⟨S256x1024, .bf16⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x8, .f32⟩
  | .local _ .vmem, ⟨20, _⟩ => ⟨S256x8, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x512, .f32⟩
  | .local _ .vmem, ⟨26, _⟩ => ⟨S256x512, .f32⟩
  | .local _ .vmem, ⟨27, _⟩ => ⟨S264x512, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_call2_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_call3_v0 : Ref sig .tc := ⟨.hbm, 31, rfl⟩
abbrev main_call3_v1 : Ref sig .tc := ⟨.hbm, 32, rfl⟩
abbrev main_call3_v2 : Ref sig .tc := ⟨.hbm, 33, rfl⟩
abbrev main_call3_v3 : Ref sig .tc := ⟨.hbm, 34, rfl⟩
abbrev main_call3_v4 : Ref sig .tc := ⟨.hbm, 35, rfl⟩
abbrev main_call3_v5 : Ref sig .tc := ⟨.hbm, 36, rfl⟩
abbrev main_call3_v6 : Ref sig .tc := ⟨.hbm, 37, rfl⟩
abbrev main_call3_v7 : Ref sig .tc := ⟨.hbm, 38, rfl⟩
abbrev main_call3_v8 : Ref sig .tc := ⟨.hbm, 39, rfl⟩
abbrev main_call3_c : Ref sig .tc := ⟨.hbm, 40, rfl⟩
abbrev main_call3_v9 : Ref sig .tc := ⟨.hbm, 41, rfl⟩
abbrev main_call3_v10 : Ref sig .tc := ⟨.hbm, 42, rfl⟩
abbrev main_call3_v11 : Ref sig .tc := ⟨.hbm, 43, rfl⟩
abbrev main_call3_c_0 : Ref sig .tc := ⟨.hbm, 44, rfl⟩
abbrev main_call3_v12 : Ref sig .tc := ⟨.hbm, 45, rfl⟩
abbrev main_call3_v13 : Ref sig .tc := ⟨.hbm, 46, rfl⟩
abbrev main_v18 : Ref sig .tc := ⟨.hbm, 47, rfl⟩
abbrev main_c_3 : Ref sig .tc := ⟨.hbm, 48, rfl⟩
abbrev main_call4_v0 : Ref sig .tc := ⟨.hbm, 49, rfl⟩
abbrev main_call4_c : Ref sig .tc := ⟨.hbm, 50, rfl⟩
abbrev main_call4_v1 : Ref sig .tc := ⟨.hbm, 51, rfl⟩
abbrev main_call4_c_0 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_c_1 : Ref sig .tc := ⟨.hbm, 56, rfl⟩
abbrev main_call4_v5 : Ref sig .tc := ⟨.hbm, 57, rfl⟩
abbrev main_call4_v6 : Ref sig .tc := ⟨.hbm, 58, rfl⟩
abbrev main_call4_c_2 : Ref sig .tc := ⟨.hbm, 59, rfl⟩
abbrev main_call4_v7 : Ref sig .tc := ⟨.hbm, 60, rfl⟩
abbrev main_call4_v8 : Ref sig .tc := ⟨.hbm, 61, rfl⟩
abbrev main_call4_c_3 : Ref sig .tc := ⟨.hbm, 62, rfl⟩
abbrev main_call4_v9 : Ref sig .tc := ⟨.hbm, 63, rfl⟩
abbrev main_call4_v10 : Ref sig .tc := ⟨.hbm, 64, rfl⟩
abbrev main_call4_v11 : Ref sig .tc := ⟨.hbm, 65, rfl⟩
abbrev main_call4_v12 : Ref sig .tc := ⟨.hbm, 66, rfl⟩
abbrev main_call4_v13 : Ref sig .tc := ⟨.hbm, 67, rfl⟩
abbrev main_call4_v14 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_c_4 : Ref sig .tc := ⟨.hbm, 72, rfl⟩
abbrev main_call5_v0 : Ref sig .tc := ⟨.hbm, 73, rfl⟩
abbrev main_call5_v1 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_v5 : Ref sig .tc := ⟨.hbm, 78, rfl⟩
abbrev main_call5_v6 : Ref sig .tc := ⟨.hbm, 79, rfl⟩
abbrev main_call5_v7 : Ref sig .tc := ⟨.hbm, 80, rfl⟩
abbrev main_call5_v8 : Ref sig .tc := ⟨.hbm, 81, rfl⟩
abbrev main_call5_c : Ref sig .tc := ⟨.hbm, 82, rfl⟩
abbrev main_call5_v9 : Ref sig .tc := ⟨.hbm, 83, rfl⟩
abbrev main_call5_v10 : Ref sig .tc := ⟨.hbm, 84, rfl⟩
abbrev main_call5_v11 : Ref sig .tc := ⟨.hbm, 85, rfl⟩
abbrev main_call5_c_0 : Ref sig .tc := ⟨.hbm, 86, rfl⟩
abbrev main_call5_v12 : Ref sig .tc := ⟨.hbm, 87, rfl⟩
abbrev main_call5_v13 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_c_5 : Ref sig .tc := ⟨.hbm, 95, rfl⟩
abbrev main_call6_v0 : Ref sig .tc := ⟨.hbm, 96, rfl⟩
abbrev main_call6_c : Ref sig .tc := ⟨.hbm, 97, rfl⟩
abbrev main_call6_v1 : Ref sig .tc := ⟨.hbm, 98, rfl⟩
abbrev main_call6_c_0 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_call6_c_1 : Ref sig .tc := ⟨.hbm, 103, rfl⟩
abbrev main_call6_v5 : Ref sig .tc := ⟨.hbm, 104, rfl⟩
abbrev main_call6_v6 : Ref sig .tc := ⟨.hbm, 105, rfl⟩
abbrev main_call6_c_2 : Ref sig .tc := ⟨.hbm, 106, rfl⟩
abbrev main_call6_v7 : Ref sig .tc := ⟨.hbm, 107, rfl⟩
abbrev main_call6_v8 : Ref sig .tc := ⟨.hbm, 108, rfl⟩
abbrev main_call6_c_3 : Ref sig .tc := ⟨.hbm, 109, rfl⟩
abbrev main_call6_v9 : Ref sig .tc := ⟨.hbm, 110, rfl⟩
abbrev main_call6_v10 : Ref sig .tc := ⟨.hbm, 111, rfl⟩
abbrev main_call6_v11 : Ref sig .tc := ⟨.hbm, 112, rfl⟩
abbrev main_call6_v12 : Ref sig .tc := ⟨.hbm, 113, rfl⟩
abbrev main_call6_v13 : Ref sig .tc := ⟨.hbm, 114, rfl⟩
abbrev main_call6_v14 : Ref sig .tc := ⟨.hbm, 115, rfl⟩
abbrev main_v28 : Ref sig .tc := ⟨.hbm, 116, rfl⟩
abbrev main_v29 : Ref sig .tc := ⟨.hbm, 117, rfl⟩
abbrev main_v30 : Ref sig .tc := ⟨.hbm, 118, rfl⟩
abbrev main_v31 : Ref sig .tc := ⟨.hbm, 119, rfl⟩
abbrev main_v32 : Ref sig .tc := ⟨.hbm, 120, rfl⟩
abbrev main_v33 : Ref sig .tc := ⟨.hbm, 121, rfl⟩
abbrev main_v34 : Ref sig .tc := ⟨.hbm, 122, rfl⟩
abbrev main_c_6 : Ref sig .tc := ⟨.hbm, 123, rfl⟩
abbrev main_call7_v0 : Ref sig .tc := ⟨.hbm, 124, rfl⟩
abbrev main_call7_v1 : Ref sig .tc := ⟨.hbm, 125, rfl⟩
abbrev main_call7_v2 : Ref sig .tc := ⟨.hbm, 126, rfl⟩
abbrev main_call7_v3 : Ref sig .tc := ⟨.hbm, 127, rfl⟩
abbrev main_call7_v4 : Ref sig .tc := ⟨.hbm, 128, rfl⟩
abbrev main_call7_v5 : Ref sig .tc := ⟨.hbm, 129, rfl⟩
abbrev main_call7_v6 : Ref sig .tc := ⟨.hbm, 130, rfl⟩
abbrev main_call7_v7 : Ref sig .tc := ⟨.hbm, 131, rfl⟩
abbrev main_call7_v8 : Ref sig .tc := ⟨.hbm, 132, rfl⟩
abbrev main_call7_c : Ref sig .tc := ⟨.hbm, 133, rfl⟩
abbrev main_call7_v9 : Ref sig .tc := ⟨.hbm, 134, rfl⟩
abbrev main_call7_v10 : Ref sig .tc := ⟨.hbm, 135, rfl⟩
abbrev main_call7_v11 : Ref sig .tc := ⟨.hbm, 136, rfl⟩
abbrev main_call7_c_0 : Ref sig .tc := ⟨.hbm, 137, rfl⟩
abbrev main_call7_v12 : Ref sig .tc := ⟨.hbm, 138, rfl⟩
abbrev main_call7_v13 : Ref sig .tc := ⟨.hbm, 139, rfl⟩
abbrev main_v35 : Ref sig .tc := ⟨.hbm, 140, rfl⟩
abbrev main_c_7 : Ref sig .tc := ⟨.hbm, 141, rfl⟩
abbrev main_call8_v0 : Ref sig .tc := ⟨.hbm, 142, rfl⟩
abbrev main_call8_c : Ref sig .tc := ⟨.hbm, 143, rfl⟩
abbrev main_call8_v1 : Ref sig .tc := ⟨.hbm, 144, rfl⟩
abbrev main_call8_c_0 : Ref sig .tc := ⟨.hbm, 145, rfl⟩
abbrev main_call8_v2 : Ref sig .tc := ⟨.hbm, 146, rfl⟩
abbrev main_call8_v3 : Ref sig .tc := ⟨.hbm, 147, rfl⟩
abbrev main_call8_v4 : Ref sig .tc := ⟨.hbm, 148, rfl⟩
abbrev main_call8_c_1 : Ref sig .tc := ⟨.hbm, 149, rfl⟩
abbrev main_call8_v5 : Ref sig .tc := ⟨.hbm, 150, rfl⟩
abbrev main_call8_v6 : Ref sig .tc := ⟨.hbm, 151, rfl⟩
abbrev main_call8_c_2 : Ref sig .tc := ⟨.hbm, 152, rfl⟩
abbrev main_call8_v7 : Ref sig .tc := ⟨.hbm, 153, rfl⟩
abbrev main_call8_v8 : Ref sig .tc := ⟨.hbm, 154, rfl⟩
abbrev main_call8_c_3 : Ref sig .tc := ⟨.hbm, 155, rfl⟩
abbrev main_call8_v9 : Ref sig .tc := ⟨.hbm, 156, rfl⟩
abbrev main_call8_v10 : Ref sig .tc := ⟨.hbm, 157, rfl⟩
abbrev main_call8_v11 : Ref sig .tc := ⟨.hbm, 158, rfl⟩
abbrev main_call8_v12 : Ref sig .tc := ⟨.hbm, 159, rfl⟩
abbrev main_call8_v13 : Ref sig .tc := ⟨.hbm, 160, rfl⟩
abbrev main_call8_v14 : Ref sig .tc := ⟨.hbm, 161, rfl⟩
abbrev main_v36 : Ref sig .tc := ⟨.hbm, 162, rfl⟩
abbrev main_v37 : Ref sig .tc := ⟨.hbm, 163, rfl⟩
abbrev main_v38 : Ref sig .tc := ⟨.hbm, 164, rfl⟩
abbrev main_v39 : Ref sig .tc := ⟨.hbm, 165, rfl⟩
abbrev main_v40 : Ref sig .tc := ⟨.hbm, 166, rfl⟩
abbrev main_v41 : Ref sig .tc := ⟨.hbm, 167, rfl⟩
abbrev main_v42 : Ref sig .tc := ⟨.hbm, 168, rfl⟩
abbrev main_v43 : Ref sig .tc := ⟨.hbm, 169, rfl⟩
abbrev main_c_8 : Ref sig .tc := ⟨.hbm, 170, rfl⟩
abbrev main_v44 : Ref sig .tc := ⟨.hbm, 171, rfl⟩
abbrev main_v45 : Ref sig .tc := ⟨.hbm, 172, rfl⟩
abbrev main_v46 : Ref sig .tc := ⟨.hbm, 173, rfl⟩
abbrev main_v47 : Ref sig .tc := ⟨.hbm, 174, rfl⟩
abbrev main_v48 : Ref sig .tc := ⟨.hbm, 175, rfl⟩
abbrev main_v49 : Ref sig .tc := ⟨.hbm, 176, rfl⟩
abbrev main_v50 : Ref sig .tc := ⟨.hbm, 177, rfl⟩
abbrev main_v51 : Ref sig .tc := ⟨.hbm, 178, rfl⟩
abbrev main_v52 : Ref sig .tc := ⟨.hbm, 179, rfl⟩
abbrev main_v53 : Ref sig .tc := ⟨.hbm, 180, rfl⟩
abbrev main_v54 : Ref sig .tc := ⟨.hbm, 181, rfl⟩
abbrev main_v55 : Ref sig .tc := ⟨.hbm, 182, rfl⟩
abbrev main_v56 : Ref sig .tc := ⟨.hbm, 183, rfl⟩
abbrev main_c_9 : Ref sig .tc := ⟨.hbm, 184, rfl⟩
abbrev main_v57 : Ref sig .tc := ⟨.hbm, 185, rfl⟩
abbrev main_v58 : Ref sig .tc := ⟨.hbm, 186, rfl⟩
abbrev main_v59 : Ref sig .tc := ⟨.hbm, 187, rfl⟩
abbrev main_v60 : Ref sig .tc := ⟨.hbm, 188, rfl⟩
abbrev main_v61 : Ref sig .tc := ⟨.hbm, 189, rfl⟩
abbrev main_v62 : Ref sig .tc := ⟨.hbm, 190, rfl⟩
abbrev main_c_10 : Ref sig .tc := ⟨.hbm, 191, rfl⟩
abbrev main_v63 : Ref sig .tc := ⟨.hbm, 192, rfl⟩
abbrev main_v64 : Ref sig .tc := ⟨.hbm, 193, rfl⟩
abbrev main_c_11 : Ref sig .tc := ⟨.hbm, 194, rfl⟩
abbrev main_v65 : Ref sig .tc := ⟨.hbm, 195, rfl⟩
abbrev main_v66 : Ref sig .tc := ⟨.hbm, 196, rfl⟩
abbrev main_v67 : Ref sig .tc := ⟨.hbm, 197, rfl⟩
abbrev main_v68 : Ref sig .tc := ⟨.hbm, 198, rfl⟩
abbrev main_v69 : Ref sig .tc := ⟨.hbm, 199, rfl⟩
abbrev main_c_12 : Ref sig .tc := ⟨.hbm, 200, rfl⟩
abbrev main_v70 : Ref sig .tc := ⟨.hbm, 201, rfl⟩
abbrev main_v71 : Ref sig .tc := ⟨.hbm, 202, rfl⟩
abbrev main_c_13 : Ref sig .tc := ⟨.hbm, 203, rfl⟩
abbrev main_v72 : Ref sig .tc := ⟨.hbm, 204, rfl⟩
abbrev main_v73 : Ref sig .tc := ⟨.hbm, 205, rfl⟩
abbrev main_v74 : Ref sig .tc := ⟨.hbm, 206, rfl⟩
abbrev main_v75 : Ref sig .tc := ⟨.hbm, 207, rfl⟩
abbrev main_v76 : Ref sig .tc := ⟨.hbm, 208, rfl⟩
abbrev main_v77 : Ref sig .tc := ⟨.hbm, 209, rfl⟩
abbrev main_v78 : Ref sig .tc := ⟨.hbm, 210, rfl⟩
abbrev main_v79 : Ref sig .tc := ⟨.hbm, 211, rfl⟩
abbrev main_v80 : Ref sig .tc := ⟨.hbm, 212, rfl⟩
abbrev main_v81 : Ref sig .tc := ⟨.hbm, 213, rfl⟩
abbrev main_v82 : Ref sig .tc := ⟨.hbm, 214, rfl⟩
abbrev main_v83 : Ref sig .tc := ⟨.hbm, 215, rfl⟩
abbrev main_v84 : Ref sig .tc := ⟨.hbm, 216, rfl⟩
abbrev main_v85 : Ref sig .tc := ⟨.hbm, 217, rfl⟩
abbrev main_v86 : Ref sig .tc := ⟨.hbm, 218, rfl⟩
abbrev main_v87 : Ref sig .tc := ⟨.hbm, 219, rfl⟩
abbrev main_v88 : Ref sig .tc := ⟨.hbm, 220, rfl⟩
abbrev main_v89 : Ref sig .tc := ⟨.hbm, 221, rfl⟩
abbrev main_v90 : Ref sig .tc := ⟨.hbm, 222, rfl⟩
abbrev main_v91 : Ref sig .tc := ⟨.hbm, 223, rfl⟩
abbrev main_v92 : Ref sig .tc := ⟨.hbm, 224, rfl⟩
abbrev main_v93 : Ref sig .tc := ⟨.hbm, 225, rfl⟩
abbrev main_v94 : Ref sig .tc := ⟨.hbm, 226, rfl⟩
abbrev main_v95 : Ref sig .tc := ⟨.hbm, 227, rfl⟩
abbrev main_v96 : Ref sig .tc := ⟨.hbm, 228, rfl⟩
abbrev main_v97 : Ref sig .tc := ⟨.hbm, 229, rfl⟩
abbrev main_v98_0 : Ref sig .tc := ⟨.hbm, 230, rfl⟩
abbrev main_v98_1 : Ref sig .tc := ⟨.hbm, 231, rfl⟩
abbrev main_v98_2 : Ref sig .tc := ⟨.hbm, 232, rfl⟩
abbrev main_v98_3 : Ref sig .tc := ⟨.hbm, 233, rfl⟩
abbrev main_v98_4 : Ref sig .tc := ⟨.hbm, 234, rfl⟩
abbrev main_v98_5 : Ref sig .tc := ⟨.hbm, 235, rfl⟩
abbrev main_v98_6 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== SampleRefIdeal.lean ====
abbrev S128x4x1024 : Shape := ⟨3, ![128, 4, 1024]⟩
abbrev S1x128x2x512 : Shape := ⟨4, ![1, 128, 2, 512]⟩
abbrev S1x1024x5128 : Shape := ⟨3, ![1, 1024, 5128]⟩
abbrev S1x8 : Shape := ⟨2, ![1, 8]⟩
abbrev S1x3x512 : Shape := ⟨3, ![1, 3, 512]⟩
abbrev S1x512x1024 : Shape := ⟨3, ![1, 512, 1024]⟩
abbrev S1024x5128 : Shape := ⟨2, ![1024, 5128]⟩
abbrev S128x4x5128 : Shape := ⟨3, ![128, 4, 5128]⟩
abbrev S128x4x512 : Shape := ⟨3, ![128, 4, 512]⟩
abbrev S128x4x8 : Shape := ⟨3, ![128, 4, 8]⟩
abbrev S128x2x512 : Shape := ⟨3, ![128, 2, 512]⟩
abbrev S128x6x512 : Shape := ⟨3, ![128, 6, 512]⟩
abbrev S3x512 : Shape := ⟨2, ![3, 512]⟩
abbrev S1x512 : Shape := ⟨2, ![1, 512]⟩
abbrev S512 : Shape := ⟨1, ![512]⟩
abbrev S1x1x512 : Shape := ⟨3, ![1, 1, 512]⟩
abbrev S512x1024 : Shape := ⟨2, ![512, 1024]⟩
abbrev S8 : Shape := ⟨1, ![8]⟩
abbrev S1x1x8 : Shape := ⟨3, ![1, 1, 8]⟩
abbrev S_ : Shape := ⟨0, ![]⟩
abbrev S512x512 : Shape := ⟨2, ![512, 512]⟩
abbrev S512x8 : Shape := ⟨2, ![512, 8]⟩

abbrev nBuf : Space → Nat
  | .hbm => 87
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x128x2x512, .f32⟩
  | .hbm, ⟨2, _⟩ => ⟨S1x1024x5128, .f32⟩
  | .hbm, ⟨3, _⟩ => ⟨S1x8, .f32⟩
  | .hbm, ⟨4, _⟩ => ⟨S1x3x512, .f32⟩
  | .hbm, ⟨5, _⟩ => ⟨S1x512x1024, .f32⟩
  | .hbm, ⟨6, _⟩ => ⟨S1024x5128, .f32⟩
  | .hbm, ⟨7, _⟩ => ⟨S128x4x5128, .f32⟩
  | .hbm, ⟨8, _⟩ => ⟨S128x4x512, .f32⟩
  | .hbm, ⟨9, _⟩ => ⟨S128x4x512, .f32⟩
  | .hbm, ⟨10, _⟩ => ⟨S128x4x512, .f32⟩
  | .hbm, ⟨11, _⟩ => ⟨S128x4x512, .f32⟩
  | .hbm, ⟨12, _⟩ => ⟨S128x4x512, .f32⟩
  | .hbm, ⟨13, _⟩ => ⟨S128x4x512, .f32⟩
  | .hbm, ⟨14, _⟩ => ⟨S128x4x8, .f32⟩
  | .hbm, ⟨15, _⟩ => ⟨S128x4x1024, .f32⟩
  | .hbm, ⟨16, _⟩ => ⟨S128x4x1024, .f32⟩
  | .hbm, ⟨17, _⟩ => ⟨S128x4x512, .f32⟩
  | .hbm, ⟨18, _⟩ => ⟨S128x2x512, .f32⟩
  | .hbm, ⟨19, _⟩ => ⟨S128x6x512, .f32⟩
  | .hbm, ⟨20, _⟩ => ⟨S3x512, .f32⟩
  | .hbm, ⟨21, _⟩ => ⟨S1x512, .f32⟩
  | .hbm, ⟨22, _⟩ => ⟨S512, .f32⟩
  | .hbm, ⟨23, _⟩ => ⟨S128x4x512, .f32⟩
  | .hbm, ⟨24, _⟩ => ⟨S1x1x512, .f32⟩
  | .hbm, ⟨25, _⟩ => ⟨S128x4x512, .f32⟩
  | .hbm, ⟨26, _⟩ => ⟨S128x4x512, .f32⟩
  | .hbm, ⟨27, _⟩ => ⟨S1x512, .f32⟩
  | .hbm, ⟨28, _⟩ => ⟨S512, .f32⟩
  | .hbm, ⟨29, _⟩ => ⟨S128x4x512, .f32⟩
  | .hbm, ⟨30, _⟩ => ⟨S1x1x512, .f32⟩
  | .hbm, ⟨31, _⟩ => ⟨S128x4x512, .f32⟩
  | .hbm, ⟨32, _⟩ => ⟨S128x4x512, .f32⟩
  | .hbm, ⟨33, _⟩ => ⟨S128x4x512, .f32⟩
  | .hbm, ⟨34, _⟩ => ⟨S1x512, .f32⟩
  | .hbm, ⟨35, _⟩ => ⟨S512, .f32⟩
  | .hbm, ⟨36, _⟩ => ⟨S128x4x512, .f32⟩
  | .hbm, ⟨37, _⟩ => ⟨S1x1x512, .f32⟩
  | .hbm, ⟨38, _⟩ => ⟨S128x4x512, .f32⟩
  | .hbm, ⟨39, _⟩ => ⟨S128x4x512, .f32⟩
  | .hbm, ⟨40, _⟩ => ⟨S128x4x512, .f32⟩
  | .hbm, ⟨41, _⟩ => ⟨S128x4x512, .f32⟩
  | .hbm, ⟨42, _⟩ => ⟨S512x1024, .f32⟩
  | .hbm, ⟨43, _⟩ => ⟨S128x4x1024, .f32⟩
  | .hbm, ⟨44, _⟩ => ⟨S8, .f32⟩
  | .hbm, ⟨45, _⟩ => ⟨S1x1x8, .f32⟩
  | .hbm, ⟨46, _⟩ => ⟨S128x4x8, .f32⟩
  | .hbm, ⟨47, _⟩ => ⟨S128x4x8, .f32⟩
  | .hbm, ⟨48, _⟩ => ⟨S128x4x8, .f32⟩
  | .hbm, ⟨49, _⟩ => ⟨S_, .f32⟩
  | .hbm, ⟨50, _⟩ => ⟨S128x4x8, .f32⟩
  | .hbm, ⟨51, _⟩ => ⟨S128x4x8, .f32⟩
  | .hbm, ⟨52, _⟩ => ⟨S128x4x8, .f32⟩
  | .hbm, ⟨53, _⟩ => ⟨S128x4x8, .f32⟩
  | .hbm, ⟨54, _⟩ => ⟨S128x4x8, .i1⟩
  | .hbm, ⟨55, _⟩ => ⟨S128x4x8, .f32⟩
  | .hbm, ⟨56, _⟩ => ⟨S128x4x8, .f32⟩
  | .hbm, ⟨57, _⟩ => ⟨S128x4x8, .f32⟩
  | .hbm, ⟨58, _⟩ => ⟨S128x4x8, .f32⟩
  | .hbm, ⟨59, _⟩ => ⟨S128x4x8, .f32⟩
  | .hbm, ⟨60, _⟩ => ⟨S128x4x8, .f32⟩
  | .hbm, ⟨61, _⟩ => ⟨S128x4x8, .f32⟩
  | .hbm, ⟨62, _⟩ => ⟨S128x4x8, .f32⟩
  | .hbm, ⟨63, _⟩ => ⟨S128x4x8, .f32⟩
  | .hbm, ⟨64, _⟩ => ⟨S512x512, .f32⟩
  | .hbm, ⟨65, _⟩ => ⟨S512x512, .f32⟩
  | .hbm, ⟨66, _⟩ => ⟨S512x8, .f32⟩
  | .hbm, ⟨67, _⟩ => ⟨S128x4x1024, .f32⟩
  | .hbm, ⟨68, _⟩ => ⟨S128x4x1024, .f32⟩
  | .hbm, ⟨69, _⟩ => ⟨S_, .f32⟩
  | .hbm, ⟨70, _⟩ => ⟨S128x4x1024, .f32⟩
  | .hbm, ⟨71, _⟩ => ⟨S128x4x1024, .f32⟩
  | .hbm, ⟨72, _⟩ => ⟨S_, .f32⟩
  | .hbm, ⟨73, _⟩ => ⟨S128x4x1024, .f32⟩
  | .hbm, ⟨74, _⟩ => ⟨S128x4x1024, .f32⟩
  | .hbm, ⟨75, _⟩ => ⟨S128x4x1024, .f32⟩
  | .hbm, ⟨76, _⟩ => ⟨S512x1024, .f32⟩
  | .hbm, ⟨77, _⟩ => ⟨S128x4x1024, .f32⟩
  | .hbm, ⟨78, _⟩ => ⟨S128x4x1024, .f32⟩
  | .hbm, ⟨79, _⟩ => ⟨S_, .f32⟩
  | .hbm, ⟨80, _⟩ => ⟨S128x4x1024, .f32⟩
  | .hbm, ⟨81, _⟩ => ⟨S128x4x1024, .f32⟩
  | .hbm, ⟨82, _⟩ => ⟨S_, .f32⟩
  | .hbm, ⟨83, _⟩ => ⟨S128x4x1024, .f32⟩
  | .hbm, ⟨84, _⟩ => ⟨S128x4x1024, .f32⟩
  | .hbm, ⟨85, _⟩ => ⟨S512x1024, .f32⟩
  | .hbm, ⟨86, _⟩ => ⟨S512x512, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_call0_v0 : Ref sig .tc := ⟨.hbm, 48, rfl⟩
abbrev main_call0_call0_cst : Ref sig .tc := ⟨.hbm, 49, rfl⟩
abbrev main_call0_call0_v0 : Ref sig .tc := ⟨.hbm, 50, rfl⟩
abbrev main_call0_call0_v1 : Ref sig .tc := ⟨.hbm, 51, rfl⟩
abbrev main_call0_call0_v2 : Ref sig .tc := ⟨.hbm, 52, rfl⟩
abbrev main_call0_call0_v3 : Ref sig .tc := ⟨.hbm, 53, rfl⟩
abbrev main_call0_call0_v4 : Ref sig .tc := ⟨.hbm, 54, rfl⟩
abbrev main_call0_call0_v5 : Ref sig .tc := ⟨.hbm, 55, rfl⟩
abbrev main_call0_call0_v6 : Ref sig .tc := ⟨.hbm, 56, rfl⟩
abbrev main_call0_call0_v7 : Ref sig .tc := ⟨.hbm, 57, rfl⟩
abbrev main_call0_call0_v8 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_v11 : Ref sig .tc := ⟨.hbm, 61, rfl⟩
abbrev main_call0_v1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst : Ref sig .tc := ⟨.hbm, 69, rfl⟩
abbrev main_v48 : Ref sig .tc := ⟨.hbm, 70, rfl⟩
abbrev main_v49 : Ref sig .tc := ⟨.hbm, 71, rfl⟩
abbrev main_cst_0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_1 : Ref sig .tc := ⟨.hbm, 79, rfl⟩
abbrev main_v56 : Ref sig .tc := ⟨.hbm, 80, rfl⟩
abbrev main_v57 : Ref sig .tc := ⟨.hbm, 81, rfl⟩
abbrev main_cst_2 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Proof.AttnOut.lean ====
module

public import proofs.«01_k».proof.Proof.Gen.AttentionIdeal.Value
public import Idealize.ShloMosaic.Lib.Pipeline.ValueKit
public import Idealize.ShloMosaic.Lib.LoopRemainder

@[expose] public section

set_option maxRecDepth 16384
noncomputable section

open Idealize.ShloMosaic Idealize.ShloMosaic.TcCoe Idealize.SL.Sem
open Idealize.ShloMosaic.Pipeline (Dat)

namespace Cert.AttentionIdeal.Out

open Cert.AttentionIdeal Cert.AttentionIdeal.Gen

variable {F : FTy → Type} [FloatOps F] [Named F]
variable (c : Dev nD) (i : grid0.Coords) (arg3 : Memref sig .tc .vmem S512x256 .bf16) (harg3 : arg3.IsWhole) (arg4 : Memref sig .tc .vmem S4096x256 .bf16) (harg4 : arg4.IsWhole) (arg5 : Memref sig .tc .vmem S4096x128 .bf16) (harg5 : arg5.IsWhole) (arg6 : Memref sig .tc .vmem S512x128 .bf16) (harg6 : arg6.IsWhole) (arg7 : Memref sig .tc .vmem S2x512x1 .f32) (harg7 : arg7.IsWhole) (arg8 : Memref sig .tc .vmem S2x512x1 .f32) (harg8 : arg8.IsWhole) (arg9 : Memref sig .tc .vmem S2x512x128 .f32) (harg9 : arg9.IsWhole)
    (x0 : Vec F S512x256 .bf16) (x1 : Vec F S4096x256 .bf16) (x2 : Vec F S4096x128 .bf16)

/-- One head's running state on a block of queries: the maximum, the denominator and the numerator. -/
structure St (F : FTy → Type) where
  m : Vec F S1x512x1 .f32
  l : Vec F S1x512x1 .f32
  a : Vec F S1x512x128 .f32

/-- The new maximum of a row. -/
def mN (S : FVec F S512x512 .f32) (m : Vec F S1x512x1 .f32) : FVec F S512x1 .f32 :=
  maximumf (shapeCast S512x1 m shapeCasts_S1x512x1_S512x1) (shapeCast S512x1 (multiReduction .maximumf [1] S512 S 0xFF800000#32 reduces_S512x512_S512 (.inl rfl) rfl) shapeCasts_S512_S512x1)

/-- The factor by which the old state is scaled. -/
def al (S : FVec F S512x512 .f32) (m : Vec F S1x512x1 .f32) : FVec F S512x1 .f32 :=
  exp (subf (shapeCast S512x1 m shapeCasts_S1x512x1_S512x1) (mN S m))

/-- The weights of the block's keys. -/
def pr (S : FVec F S512x512 .f32) (m : Vec F S1x512x1 .f32) : FVec F S512x512 .f32 :=
  exp (subf S (broadcastTo S512x512 (mN S m) broadcasts_S512x1_S512x512))

/-- The new denominator. -/
def lN (S : FVec F S512x512 .f32) (m l : Vec F S1x512x1 .f32) : FVec F S512x1 .f32 :=
  addf (mulf (al S m) (shapeCast S512x1 l shapeCasts_S1x512x1_S512x1))
    (shapeCast S512x1 (multiReduction .add [1] S512 (pr S m) 0x00000000#32 reduces_S512x512_S512 (.inl rfl) rfl) shapeCasts_S512_S512x1)

/-- The new numerator. -/
def aN (S : FVec F S512x512 .f32) (v : Vec F S512x128 .bf16) (m : Vec F S1x512x1 .f32) (a : Vec F S1x512x128 .f32) : FVec F S512x128 .f32 :=
  addf (mulf (broadcastTo S512x128 (al S m) broadcasts_S512x1_S512x128) (shapeCast S512x128 a shapeCasts_S1x512x128_S512x128))
    (matmul dot_S512x512_S512x128_S512x128_1_0_0_1_n_n none (truncf .bf16 (pr S m) bitsLt_bf16_f32) v (constant S512x128 .f32 0x00000000#32))

/-- One block of keys taken into a head's state. -/
def step (S : FVec F S512x512 .f32) (v : Vec F S512x128 .bf16) (s : St F) : St F where
  m := shapeCast S1x512x1 (mN S s.m) shapeCasts_S512x1_S1x512x1
  l := shapeCast S1x512x1 (lN S s.m s.l) shapeCasts_S512x1_S1x512x1
  a := shapeCast S1x512x128 (aN S v s.m s.a) shapeCasts_S512x128_S1x512x128

/-- The state before the first block. -/
def init : St F where
  m := k0_pay34
  l := k0_pay35
  a := k0_pay36

/-- The rectangles of the two heads' slots and the halves of the query block. -/
abbrev r0 : Rect S2x512x1 := Rect.unit ![0, 0, 0] S1x512x1.size inb_S2x512x1_S1x512x1_0_0_0
abbrev r1 : Rect S2x512x1 := Rect.unit ![1, 0, 0] S1x512x1.size inb_S2x512x1_S1x512x1_1_0_0
abbrev a0 : Rect S2x512x128 := Rect.unit ![0, 0, 0] S1x512x128.size inb_S2x512x128_S1x512x128_0_0_0
abbrev a1 : Rect S2x512x128 := Rect.unit ![1, 0, 0] S1x512x128.size inb_S2x512x128_S1x512x128_1_0_0
abbrev q0 : Rect S512x256 := Rect.unit ![0, 0] S512x128.size inb_S512x256_S512x128_0_0
abbrev q1 : Rect S512x256 := Rect.unit ![0, 128] S512x128.size inb_S512x256_S512x128_0_128

/-- The key and value blocks of a trip and of the diagonal. -/
abbrev rk (k : Fin (k0_t1_loop i).trips) : Rect S4096x256 := Rect.unit (s := S4096x256) (k0_off1 i k) S512x256.size (k0_off1_inb i k)
abbrev rv (k : Fin (k0_t1_loop i).trips) : Rect S4096x128 := Rect.unit (s := S4096x128) (k0_off2 i k) S512x128.size (k0_off2_inb i k)
abbrev rkd : Rect S4096x256 := Rect.unit (s := S4096x256) (k0_off5 i) S512x256.size (k0_off5_inb i)
abbrev rvd : Rect S4096x128 := Rect.unit (s := S4096x128) (k0_off6 i) S512x128.size (k0_off6_inb i)

/-- What the two heads' slots hold, read from the three buffers' contents. -/
def st0 (f7 : Vec F S2x512x1 .f32) (f8 : Vec F S2x512x1 .f32) (f9 : Vec F S2x512x128 .f32) : St F := ⟨View.ld f7 r0, View.ld f8 r0, View.ld f9 a0⟩
def st1 (f7 : Vec F S2x512x1 .f32) (f8 : Vec F S2x512x1 .f32) (f9 : Vec F S2x512x128 .f32) : St F := ⟨View.ld f7 r1, View.ld f8 r1, View.ld f9 a1⟩

/-- The pieces that put two heads' states in place. -/
def pm (s0 s1 : St F) : List (View.Piece (Elt F) S2x512x1 .f32) := [⟨r1, s1.m⟩, ⟨r0, s0.m⟩]
def pl (s0 s1 : St F) : List (View.Piece (Elt F) S2x512x1 .f32) := [⟨r1, s1.l⟩, ⟨r0, s0.l⟩]
def pa (s0 s1 : St F) : List (View.Piece (Elt F) S2x512x128 .f32) := [⟨a1, s1.a⟩, ⟨a0, s0.a⟩]

/-- One trip writes the two heads' next states. -/
theorem trip_eq (arg2 : BitVec 32) (c0 : BitVec 32) (v24 : BitVec 32) (X3 : BufTy.Contents (Elt F) arg3.view.ty) (X4 : BufTy.Contents (Elt F) arg4.view.ty) (X5 : BufTy.Contents (Elt F) arg5.view.ty) (k : Fin (k0_t1_loop i).trips) (f7 : BufTy.Contents (Elt F) arg7.view.ty) (f8 : BufTy.Contents (Elt F) arg8.view.ty) (f9 : BufTy.Contents (Elt F) arg9.view.ty) :
    tripL_k0_t1 (F := F) Variants.none c none i arg3 harg3 arg4 harg4 arg5 harg5 arg6 harg6 arg7 harg7 arg8 harg8 arg9 harg9 arg2 c0 v24 X3 X4 X5 k f7 f8 f9 =
      (let s0 := step (k0_pay2 (View.ld (arg4.view.read (Elt F) X4) (rk i k)) (View.ld (arg3.view.read (Elt F) X3) q0)) (View.ld (arg5.view.read (Elt F) X5) (rv i k)) (st0 (arg7.view.read (Elt F) f7) (arg8.view.read (Elt F) f8) (arg9.view.read (Elt F) f9))
       let s1 := step (k0_pay11 (View.ld (arg4.view.read (Elt F) X4) (rk i k)) (View.ld (arg3.view.read (Elt F) X3) q1)) (View.ld (arg5.view.read (Elt F) X5) (rv i k)) (st1 (arg7.view.read (Elt F) f7) (arg8.view.read (Elt F) f8) (arg9.view.read (Elt F) f9))
       (pm s0 s1, pl s0 s1, pa s0 s1)) := by
  unfold tripL_k0_t1 trip_k0_t1
  rfl

/-- A load through a rectangle reads the contents the writes left. -/
theorem readCov_ld {sig : RefSig} {κ : Kind} {sp : Space} {s : Shape} {e : EltTy} (v : View sig κ sp s e) (L : List (View.Piece (Elt F) s e)) (r : Rect s) :
    v.readCov L r.toLoadRect = View.ld (View.canon L) r := by
  rw [View.readCov_eq_canon']

/-- A load of the rectangle written last reads what was written. -/
theorem ld_hit {s : Shape} {e : EltTy} (r : Rect s) (w : r.shape.Idx → Elt F e) (L : List (View.Piece (Elt F) s e)) :
    View.ld (View.canon (⟨r, w⟩ :: L)) r = w := by
  funext x
  exact View.canon_cons_emb r w L x

/-- A load of one head's slot does not see a write of the other's. -/
theorem ld_miss0 (w : r0.shape.Idx → Elt F .f32) (L : List (View.Piece (Elt F) S2x512x1 .f32)) :
    View.ld (View.canon (⟨r0, w⟩ :: L)) r1 = View.ld (View.canon L) r1 := by
  funext x
  refine View.canon_cons_of_not_mem _ L ?_
  rw [Rect.mem_set_unit]
  intro h
  have := (h 0).2
  simp [Rect.emb_apply, Rect.unit] at this

theorem ld_miss1 (w : r1.shape.Idx → Elt F .f32) (L : List (View.Piece (Elt F) S2x512x1 .f32)) :
    View.ld (View.canon (⟨r1, w⟩ :: L)) r0 = View.ld (View.canon L) r0 := by
  funext x
  refine View.canon_cons_of_not_mem _ L ?_
  rw [Rect.mem_set_unit]
  intro h
  have h1 := (h 0).1
  have hx : (x 0).val < 1 := (x 0).isLt
  simp [Rect.emb_apply, Rect.unit] at h1

theorem ld_missa0 (w : a0.shape.Idx → Elt F .f32) (L : List (View.Piece (Elt F) S2x512x128 .f32)) :
    View.ld (View.canon (⟨a0, w⟩ :: L)) a1 = View.ld (View.canon L) a1 := by
  funext x
  refine View.canon_cons_of_not_mem _ L ?_
  rw [Rect.mem_set_unit]
  intro h
  have := (h 0).2
  simp [Rect.emb_apply, Rect.unit] at this

theorem ld_missa1 (w : a1.shape.Idx → Elt F .f32) (L : List (View.Piece (Elt F) S2x512x128 .f32)) :
    View.ld (View.canon (⟨a1, w⟩ :: L)) a0 = View.ld (View.canon L) a0 := by
  funext x
  refine View.canon_cons_of_not_mem _ L ?_
  rw [Rect.mem_set_unit]
  intro h
  have h1 := (h 0).1
  have hx : (x 0).val < 1 := (x 0).isLt
  simp [Rect.emb_apply, Rect.unit] at h1

/-- The states read back from the pieces that put them in place. -/
theorem st0_put (s0 s1 : St F) (L7 L8 : List (View.Piece (Elt F) S2x512x1 .f32)) (L9 : List (View.Piece (Elt F) S2x512x128 .f32)) :
    st0 (View.canon (pm s0 s1 ++ L7)) (View.canon (pl s0 s1 ++ L8)) (View.canon (pa s0 s1 ++ L9)) = s0 := by
  unfold st0 pm pl pa
  simp only [List.cons_append, List.nil_append]
  rw [ld_miss1, ld_hit, ld_miss1, ld_hit, ld_missa1, ld_hit]

theorem st1_put (s0 s1 : St F) (L7 L8 : List (View.Piece (Elt F) S2x512x1 .f32)) (L9 : List (View.Piece (Elt F) S2x512x128 .f32)) :
    st1 (View.canon (pm s0 s1 ++ L7)) (View.canon (pl s0 s1 ++ L8)) (View.canon (pa s0 s1 ++ L9)) = s1 := by
  unfold st1 pm pl pa
  simp only [List.cons_append, List.nil_append]
  rw [ld_hit, ld_hit, ld_hit]

/-- The first head's state after `k` key blocks. -/
def S0 (x0 : Vec F S512x256 .bf16) (x1 : Vec F S4096x256 .bf16) (x2 : Vec F S4096x128 .bf16) : ℕ → St F
  | 0 => init
  | k + 1 => if h : k < (k0_t1_loop i).trips then step (k0_pay2 (View.ld x1 (rk i ⟨k, h⟩)) (View.ld x0 q0)) (View.ld x2 (rv i ⟨k, h⟩)) (S0 x0 x1 x2 k) else S0 x0 x1 x2 k

/-- The second head's. -/
def S1 (x0 : Vec F S512x256 .bf16) (x1 : Vec F S4096x256 .bf16) (x2 : Vec F S4096x128 .bf16) : ℕ → St F
  | 0 => init
  | k + 1 => if h : k < (k0_t1_loop i).trips then step (k0_pay11 (View.ld x1 (rk i ⟨k, h⟩)) (View.ld x0 q1)) (View.ld x2 (rv i ⟨k, h⟩)) (S1 x0 x1 x2 k) else S1 x0 x1 x2 k

/-- The pieces of the first `k` trips, in front of the initial ones. -/
abbrev P (arg2 c0 v24 : BitVec 32) (k : ℕ) :=
  pb_k0_t1 (F := F) Variants.none c none i arg3 harg3 arg4 harg4 arg5 harg5 arg6 harg6 arg7 harg7 arg8 harg8 arg9 harg9 arg2 c0 v24 (harg3.unread x0) (harg4.unread x1) (harg5.unread x2)
    (arg7.view.writes (Elt F) arg7.view.junk (pm init init)) (arg8.view.writes (Elt F) arg8.view.junk (pl init init)) (arg9.view.writes (Elt F) arg9.view.junk (pa init init)) k

theorem P_eq (arg2 c0 v24 : BitVec 32) (k : ℕ) (hk : k ≤ (k0_t1_loop i).trips) :
    st0 (View.canon ((P c i arg3 harg3 arg4 harg4 arg5 harg5 arg6 harg6 arg7 harg7 arg8 harg8 arg9 harg9 x0 x1 x2 arg2 c0 v24 k).1 ++ pm init init))
      (View.canon ((P c i arg3 harg3 arg4 harg4 arg5 harg5 arg6 harg6 arg7 harg7 arg8 harg8 arg9 harg9 x0 x1 x2 arg2 c0 v24 k).2.1 ++ pl init init))
      (View.canon ((P c i arg3 harg3 arg4 harg4 arg5 harg5 arg6 harg6 arg7 harg7 arg8 harg8 arg9 harg9 x0 x1 x2 arg2 c0 v24 k).2.2 ++ pa init init)) = S0 i x0 x1 x2 k ∧
    st1 (View.canon ((P c i arg3 harg3 arg4 harg4 arg5 harg5 arg6 harg6 arg7 harg7 arg8 harg8 arg9 harg9 x0 x1 x2 arg2 c0 v24 k).1 ++ pm init init))
      (View.canon ((P c i arg3 harg3 arg4 harg4 arg5 harg5 arg6 harg6 arg7 harg7 arg8 harg8 arg9 harg9 x0 x1 x2 arg2 c0 v24 k).2.1 ++ pl init init))
      (View.canon ((P c i arg3 harg3 arg4 harg4 arg5 harg5 arg6 harg6 arg7 harg7 arg8 harg8 arg9 harg9 x0 x1 x2 arg2 c0 v24 k).2.2 ++ pa init init)) = S1 i x0 x1 x2 k := by
  induction k with
  | zero =>
    have e0 := st0_put (F := F) init init [] [] []
    have e1 := st1_put (F := F) init init [] [] []
    simp only [List.append_nil] at e0 e1
    exact ⟨e0, e1⟩
  | succ k ih =>
    have hlt : k < (k0_t1_loop i).trips := hk
    obtain ⟨i0, i1⟩ := ih (Nat.le_of_lt hlt)
    have hs := pb_k0_t1_succ (F := F) Variants.none c none i arg3 harg3 arg4 harg4 arg5 harg5 arg6 harg6 arg7 harg7 arg8 harg8 arg9 harg9 arg2 c0 v24 (harg3.unread x0) (harg4.unread x1) (harg5.unread x2)
      (arg7.view.writes (Elt F) arg7.view.junk (pm init init)) (arg8.view.writes (Elt F) arg8.view.junk (pl init init)) (arg9.view.writes (Elt F) arg9.view.junk (pa init init)) ⟨k, hlt⟩
    rw [trip_eq] at hs
    simp only [← View.writes_append, View.read_writes_junk_eq_canon, Memref.IsWhole.read_unread] at hs
    rw [i0, i1] at hs
    unfold P
    rw [hs]
    simp only [List.append_assoc]
    rw [st0_put, st1_put]
    constructor
    · rw [S0, dif_pos hlt]
    · rw [S1, dif_pos hlt]

/-- Two heads' states as finished blocks of rows. -/
def fin (s0 s1 : St F) : FVec F S512x128 .bf16 :=
  k0_pay1 k0_pay62 (k0_pay63 s0.a s0.l) (k0_pay64 s1.a) (k0_pay65 s1.l)

theorem hz : (![0, 0] : Fin 2 → Nat) = fun _ => 0 := by
  funext a; match a with | 0 => rfl | 1 => rfl

/-- What a point writes: the two heads' states after all the earlier blocks and the diagonal one. -/
theorem out_eq  :
    out0_A_3 c i arg3 harg3 arg4 harg4 arg5 harg5 arg6 harg6 arg7 harg7 arg8 harg8 arg9 harg9 x0 x1 x2 =
      fin (step (k0_pay44 (View.ld x1 (rkd i)) (View.ld x0 q0)) (View.ld x2 (rvd i)) (S0 i x0 x1 x2 (k0_t1_loop i).trips))
        (step (k0_pay52 (View.ld x1 (rkd i)) (View.ld x0 q1)) (View.ld x2 (rvd i)) (S1 i x0 x1 x2 (k0_t1_loop i).trips)) := by
  unfold out0_A_3
  rw [View.read_writes_eq_canon _ _ _ (cover0_A_3 c i arg3 harg3 arg4 harg4 arg5 harg5 arg6 harg6 arg7 harg7 arg8 harg8 arg9 harg9 x0 x1 x2)]
  unfold kernelRun0_A
  dsimp only
  rw [View.canon_cons_unit_zero (S := S512x128) hz]
  have ht : Scf.trips (k0_t2_loop i).lb (k0_t2_loop i).ub (k0_t2_loop i).st = 0 := Scf.rem_trips _ _
  have e7 : ([⟨r1, k0_pay37⟩, ⟨r0, k0_pay34⟩] : List (View.Piece (Elt F) S2x512x1 .f32)) = pm init init := rfl
  have e8 : ([⟨r1, k0_pay38⟩, ⟨r0, k0_pay35⟩] : List (View.Piece (Elt F) S2x512x1 .f32)) = pl init init := rfl
  have e9 : ([⟨a1, k0_pay39⟩, ⟨a0, k0_pay36⟩] : List (View.Piece (Elt F) S2x512x128 .f32)) = pa init init := rfl
  obtain ⟨i0, i1⟩ := P_eq c i arg3 harg3 arg4 harg4 arg5 harg5 arg6 harg6 arg7 harg7 arg8 harg8 arg9 harg9 x0 x1 x2 (BitVec.ofNat 32 ↑(i 2)) 0#32 (Scalar.subi (BitVec.ofNat 32 ↑(i 2)) 0#32) (k0_t1_loop i).trips le_rfl
  sl_unfold_run_names
  simp only [ht, pb_k0_t2, List.nil_append, e7, e8, e9]
  simp only [readCov_ld, View.readAt_eq_ld, Memref.IsWhole.read_unread]
  unfold P at i0 i1
  have ht1 : (k0_t1_loop i).trips = Scf.trips (k0_t1_loop i).lb (k0_t1_loop i).ub (k0_t1_loop i).st := rfl
  rw [← i0, ← i1, ht1]
  generalize pb_k0_t1 Variants.none c none i arg3 harg3 arg4 harg4 arg5 harg5 arg6 harg6 arg7 harg7 arg8 harg8 arg9 harg9 (BitVec.ofNat 32 ↑(i 2)) 0#32 (Scalar.subi (BitVec.ofNat 32 ↑(i 2)) 0#32) (harg3.unread x0) (harg4.unread x1) (harg5.unread x2) (arg7.view.writes (Elt F) arg7.view.junk (pm init init)) (arg8.view.writes (Elt F) arg8.view.junk (pl init init)) (arg9.view.writes (Elt F) arg9.view.junk (pa init init)) (Scf.trips (k0_t1_loop i).lb (k0_t1_loop i).ub (k0_t1_loop i).st) = pb
  have m7 : ∀ w (L : List (View.Piece (Elt F) S2x512x1 .f32)), View.ld (View.canon (⟨Rect.unit ![0, 0, 0] ![1, 512, 1] inb_S2x512x1_S1x512x1_0_0_0, w⟩ :: L)) (Rect.unit ![1, 0, 0] ![1, 512, 1] inb_S2x512x1_S1x512x1_1_0_0) = View.ld (View.canon L) r1 := ld_miss0
  have n7 : ∀ w (L : List (View.Piece (Elt F) S2x512x1 .f32)), View.ld (View.canon (⟨Rect.unit ![1, 0, 0] ![1, 512, 1] inb_S2x512x1_S1x512x1_1_0_0, w⟩ :: L)) (Rect.unit ![0, 0, 0] ![1, 512, 1] inb_S2x512x1_S1x512x1_0_0_0) = View.ld (View.canon L) r0 := ld_miss1
  have m9 : ∀ w (L : List (View.Piece (Elt F) S2x512x128 .f32)), View.ld (View.canon (⟨Rect.unit ![0, 0, 0] ![1, 512, 128] inb_S2x512x128_S1x512x128_0_0_0, w⟩ :: L)) (Rect.unit ![1, 0, 0] ![1, 512, 128] inb_S2x512x128_S1x512x128_1_0_0) = View.ld (View.canon L) a1 := ld_missa0
  have n9 : ∀ w (L : List (View.Piece (Elt F) S2x512x128 .f32)), View.ld (View.canon (⟨Rect.unit ![1, 0, 0] ![1, 512, 128] inb_S2x512x128_S1x512x128_1_0_0, w⟩ :: L)) (Rect.unit ![0, 0, 0] ![1, 512, 128] inb_S2x512x128_S1x512x128_0_0_0) = View.ld (View.canon L) a0 := ld_missa1
  simp only [ld_hit, m7, n7, m9, n9]
  rfl

end Cert.AttentionIdeal.Out
end
-- ==== Proof.Softmax.lean ====
module

public import Idealize.ShloMosaic.PureOps.Ideal
public import Mathlib.Data.EReal.Operations
public import Mathlib.Data.EReal.Inv
public import Mathlib.Algebra.BigOperators.Intervals

@[expose] public section

noncomputable section

namespace Cert.Softmax

open Idealize.ShloMosaic

/-- The largest of the first `n` scores (`⊥` of none). -/
def Mx (s : ℕ → EReal) (n : ℕ) : EReal := (Finset.range n).sup s

/-- The sum of the first `n` weights, relative to their maximum. -/
def L (s : ℕ → EReal) (n : ℕ) : EReal := ∑ j ∈ Finset.range n, Ideal.exp (s j - Mx s n)

/-- The weighted sum of the first `n` values. -/
def A (s v : ℕ → EReal) (n : ℕ) : EReal := ∑ j ∈ Finset.range n, Ideal.exp (s j - Mx s n) * v j

theorem mul_sum {ι : Type} (x : EReal) (hx : 0 ≤ x) (hx' : x ≠ ⊤) (S : Finset ι) (f : ι → EReal) :
    x * ∑ j ∈ S, f j = ∑ j ∈ S, x * f j := by
  classical
  induction S using Finset.induction_on with
  | empty => simp
  | insert a S ha ih => rw [Finset.sum_insert ha, Finset.sum_insert ha, EReal.left_distrib_of_nonneg_of_ne_top hx hx', ih]

theorem exp_nonneg (x : EReal) : 0 ≤ Ideal.exp x := by
  induction x using EReal.rec with
  | bot => simp
  | coe r => rw [Ideal.exp_coe]; exact_mod_cast (Real.exp_pos r).le
  | top => simp

theorem exp_ne_top (x : EReal) (h : x ≠ ⊤) : Ideal.exp x ≠ ⊤ := by
  induction x using EReal.rec with
  | bot => simp
  | coe r => rw [Ideal.exp_coe]; exact EReal.coe_ne_top _
  | top => exact absurd rfl h

theorem bot_sub (x : EReal) : (⊥ : EReal) - x = ⊥ := by
  rw [sub_eq_add_neg, EReal.bot_add]

theorem sub_ne_top (x y : EReal) (hxy : x ≤ y) (hy : y ≠ ⊤) : x - y ≠ ⊤ := by
  induction x using EReal.rec with
  | bot => rw [bot_sub]; exact bot_ne_top
  | top => exact absurd (top_le_iff.mp hxy) hy
  | coe r =>
    induction y using EReal.rec with
    | bot => exact absurd (le_bot_iff.mp hxy) (EReal.coe_ne_bot _)
    | top => exact absurd rfl hy
    | coe t => rw [← EReal.coe_sub]; exact EReal.coe_ne_top _

/-- Weights relative to one maximum become weights relative to a larger one. -/
theorem exp_rescale (x m m' : EReal) (hx : x ≤ m) (hm : m ≤ m') (h' : m' ≠ ⊤) :
    Ideal.exp (m - m') * Ideal.exp (x - m) = Ideal.exp (x - m') := by
  induction x using EReal.rec with
  | bot => rw [bot_sub, bot_sub, Ideal.exp_bot, mul_zero]
  | top => exact absurd (top_le_iff.mp ((top_le_iff.mp hx) ▸ hm)) h'
  | coe r =>
    induction m using EReal.rec with
    | bot => exact absurd (le_bot_iff.mp hx) (EReal.coe_ne_bot _)
    | top => exact absurd (top_le_iff.mp hm) h'
    | coe t =>
      induction m' using EReal.rec with
      | bot => exact absurd (le_bot_iff.mp hm) (EReal.coe_ne_bot _)
      | top => exact absurd rfl h'
      | coe u =>
        rw [← EReal.coe_sub, ← EReal.coe_sub, ← EReal.coe_sub, Ideal.exp_coe, Ideal.exp_coe, Ideal.exp_coe, ← EReal.coe_mul, ← Real.exp_add]
        congr 2
        ring

theorem Mx_add (s : ℕ → EReal) (n k : ℕ) : Mx s (n + k) = max (Mx s n) ((Finset.univ : Finset (Fin k)).sup fun j => s (n + j)) := by
  unfold Mx
  apply le_antisymm
  · refine Finset.sup_le fun j hj => ?_
    rw [Finset.mem_range] at hj
    by_cases h : j < n
    · exact le_trans (Finset.le_sup (f := s) (Finset.mem_range.mpr h)) (le_max_left _ _)
    · refine le_trans ?_ (le_max_right _ _)
      have := Finset.le_sup (f := fun t : Fin k => s (n + t)) (Finset.mem_univ ⟨j - n, by omega⟩)
      simpa [Nat.add_sub_cancel' (Nat.le_of_not_lt h)] using this
  · refine max_le ?_ ?_
    · exact Finset.sup_mono (Finset.range_mono (Nat.le_add_right n k))
    · refine Finset.sup_le fun j _ => ?_
      exact Finset.le_sup (f := s) (Finset.mem_range.mpr (by omega))

theorem Mx_ne_top (s : ℕ → EReal) (hs : ∀ j, s j ≠ ⊤) (n : ℕ) : Mx s n ≠ ⊤ := by
  unfold Mx
  induction n with
  | zero => simp
  | succ n ih =>
    rw [Finset.range_add_one, Finset.sup_insert]
    intro h
    rcases max_eq_top.mp h with h | h
    · exact hs n h
    · exact ih h

theorem le_Mx (s : ℕ → EReal) (n j : ℕ) (hj : j < n) : s j ≤ Mx s n := Finset.le_sup (f := s) (Finset.mem_range.mpr hj)

theorem A_add (s v : ℕ → EReal) (hs : ∀ j, s j ≠ ⊤) (n k : ℕ) :
    A s v (n + k) = Ideal.exp (Mx s n - Mx s (n + k)) * A s v n + ∑ j : Fin k, Ideal.exp (s (n + j) - Mx s (n + k)) * v (n + j) := by
  have hle : Mx s n ≤ Mx s (n + k) := by rw [Mx_add]; exact le_max_left _ _
  have ht := Mx_ne_top s hs (n + k)
  conv_lhs => unfold A
  rw [Finset.sum_range_add, Finset.sum_range fun j => Ideal.exp (s (n + j) - Mx s (n + k)) * v (n + j)]
  congr 1
  unfold A
  rw [mul_sum _ (exp_nonneg _) (exp_ne_top _ (sub_ne_top _ _ hle ht))]
  refine Finset.sum_congr rfl fun j hj => ?_
  rw [← mul_assoc, exp_rescale _ _ _ (le_Mx s n j (Finset.mem_range.mp hj)) hle ht]

theorem L_eq (s : ℕ → EReal) (n : ℕ) : L s n = A s (fun _ => 1) n := by
  unfold L A; simp

theorem L_add (s : ℕ → EReal) (hs : ∀ j, s j ≠ ⊤) (n k : ℕ) :
    L s (n + k) = Ideal.exp (Mx s n - Mx s (n + k)) * L s n + ∑ j : Fin k, Ideal.exp (s (n + j) - Mx s (n + k)) := by
  rw [L_eq, L_eq, A_add s _ hs]; simp

/-- Scores of `⊥` past the first `n` change nothing. -/
theorem Mx_ext (s : ℕ → EReal) (n k : ℕ) (h : ∀ j, n ≤ j → s j = ⊥) : Mx s (n + k) = Mx s n := by
  rw [Mx_add, max_eq_left]
  refine Finset.sup_le fun j _ => ?_
  rw [h _ (Nat.le_add_right _ _)]; exact bot_le

theorem A_ext (s v : ℕ → EReal) (n k : ℕ) (h : ∀ j, n ≤ j → s j = ⊥) : A s v (n + k) = A s v n := by
  unfold A
  rw [Finset.sum_range_add, Mx_ext s n k h]
  rw [Finset.sum_eq_zero (s := Finset.range k), add_zero]
  intro j _
  rw [h _ (Nat.le_add_right _ _), bot_sub, Ideal.exp_bot, zero_mul]

theorem L_ext (s : ℕ → EReal) (n k : ℕ) (h : ∀ j, n ≤ j → s j = ⊥) : L s (n + k) = L s n := by
  rw [L_eq, L_eq, A_ext s _ n k h]

/-- With one real score among them, the weights' sum is not zero. -/
theorem L_ne_zero (s : ℕ → EReal) (hs : ∀ j, s j ≠ ⊤) (n j : ℕ) (hj : j < n) (hb : s j ≠ ⊥) : L s n ≠ 0 := by
  intro h0
  unfold L at h0
  have h1 := (Finset.sum_eq_zero_iff_of_nonneg (fun i _ => exp_nonneg (s i - Mx s n))).mp h0 j (Finset.mem_range.mpr hj)
  have ht := Mx_ne_top s hs n
  have hle := le_Mx s n j hj
  revert h1 ht hle
  generalize Mx s n = m
  generalize s j = x at hb
  intro h1 ht hle
  induction x using EReal.rec with
  | bot => exact hb rfl
  | top => exact ht (top_le_iff.mp hle)
  | coe r =>
    induction m using EReal.rec with
    | bot => exact absurd (le_bot_iff.mp hle) (EReal.coe_ne_bot _)
    | top => exact ht rfl
    | coe t =>
      rw [← EReal.coe_sub, Ideal.exp_coe] at h1
      exact (Real.exp_pos (r - t)).ne' (by exact_mod_cast h1)

theorem inv_ne_top (x : EReal) (h : x ≠ 0) : x⁻¹ ≠ ⊤ := by
  induction x using EReal.rec with
  | bot => simp
  | top => simp
  | coe r => rw [← EReal.coe_inv]; exact EReal.coe_ne_top _

/-- Dividing the weighted sum is dividing the weights. -/
theorem div_A (s v : ℕ → EReal) (hs : ∀ j, s j ≠ ⊤) (n : ℕ) (h0 : L s n ≠ 0) :
    Ideal.div (A s v n) (L s n) = ∑ j ∈ Finset.range n, Ideal.div (Ideal.exp (s j - Mx s n)) (L s n) * v j := by
  unfold Ideal.div
  simp only [if_neg h0]
  have hn : 0 ≤ L s n := Finset.sum_nonneg fun i _ => exp_nonneg _
  rw [mul_comm, A, mul_sum _ (EReal.inv_nonneg_of_nonneg hn) (inv_ne_top _ h0)]
  refine Finset.sum_congr rfl fun j _ => ?_
  rw [← mul_assoc, mul_comm _ (Ideal.exp _)]

end Cert.Softmax
end
-- ==== Proof.AttnPure.lean ====
module

public import proofs.«01_k».proof.Proof.AttnOut
public import proofs.«01_k».proof.Proof.Softmax
public import Idealize.ShloMosaic.Lib.Pointwise

@[expose] public section

set_option maxRecDepth 16384
noncomputable section

open Idealize.ShloMosaic Idealize.ShloMosaic.TcCoe Idealize.SL.Sem
open Idealize.ShloMosaic.Pipeline (Dat)

namespace Cert.AttentionIdeal.Out

open Cert.AttentionIdeal Cert.AttentionIdeal.Gen

theorem fold_max {ι : Type} [DecidableEq ι] (T : Finset ι) (f : ι → EReal) : Finset.fold max (Ideal.ofBits FTy.f32 0xFF800000#32) f T = T.sup f := by
  have h : Ideal.ofBits FTy.f32 0xFF800000#32 = ⊥ := by simp [Ideal.ofBits, Ideal.ieee]
  rw [h]
  rfl

theorem mask_eq : (Named.named κ "mask" 0xF149F2CA#32 : Ideal .f32) = (⊥ : EReal) :=
  IdealRules.named_const.ideal_named_scalar _ _ _ _ rfl

theorem step_m (S : FVec Ideal S512x512 .f32) (v : Vec Ideal S512x128 .bf16) (s : St Ideal) (r : Fin 512) :
    (step S v s).m (ix3 0 r 0) = max (s.m (ix3 0 r 0)) (Finset.univ.sup fun j : Fin 512 => S (ix2 r j)) := by
  pointwise [step, mN]
  exact congrArg _ (fold_max _ _)

theorem step_l (S : FVec Ideal S512x512 .f32) (v : Vec Ideal S512x128 .bf16) (s : St Ideal) (r : Fin 512) :
    (step S v s).l (ix3 0 r 0) = Ideal.exp (s.m (ix3 0 r 0) - (step S v s).m (ix3 0 r 0)) * s.l (ix3 0 r 0) + ∑ j : Fin 512, Ideal.exp (S (ix2 r j) - (step S v s).m (ix3 0 r 0)) := by
  pointwise [step, mN, lN, al, pr]

theorem step_a (S : FVec Ideal S512x512 .f32) (v : Vec Ideal S512x128 .bf16) (s : St Ideal) (r : Fin 512) (d : Fin 128) :
    (step S v s).a (ix3 0 r d) = Ideal.exp (s.m (ix3 0 r 0) - (step S v s).m (ix3 0 r 0)) * s.a (ix3 0 r d) + ∑ j : Fin 512, Ideal.exp (S (ix2 r j) - (step S v s).m (ix3 0 r 0)) * v (ix2 j d) := by
  pointwise [step, mN, aN, al, pr]

theorem pay2_at (kb : Vec Ideal S512x256 .bf16) (q : Vec Ideal S512x128 .bf16) (r j : Fin 512) :
    k0_pay2 kb q (ix2 r j) = ∑ d : Fin 128, q (ix2 r d) * kb (ix2 j ⟨d.val, by omega⟩) := by
  pointwise [k0_pay2]

theorem pay11_at (kb : Vec Ideal S512x256 .bf16) (q : Vec Ideal S512x128 .bf16) (r j : Fin 512) :
    k0_pay11 kb q (ix2 r j) = ∑ d : Fin 128, q (ix2 r d) * kb (ix2 j ⟨128 + d.val, by omega⟩) := by
  pointwise [k0_pay11]

theorem pay44_at (kb : Vec Ideal S512x256 .bf16) (q : Vec Ideal S512x128 .bf16) (r j : Fin 512) :
    k0_pay44 kb q (ix2 r j) = if j.val ≤ r.val then ∑ d : Fin 128, q (ix2 r d) * kb (ix2 j ⟨d.val, by omega⟩) else ⊥ := by
  pointwise [k0_pay44]
  rw [mask_eq]
  have := r.isLt
  have := j.isLt
  rw [Idealize.ShloMosaic.WordCmp.cmpi_sle_ofNat (by omega) (by omega)]
  simp only [hlo_ix]

theorem pay52_at (kb : Vec Ideal S512x256 .bf16) (q : Vec Ideal S512x128 .bf16) (r j : Fin 512) :
    k0_pay52 kb q (ix2 r j) = if j.val ≤ r.val then ∑ d : Fin 128, q (ix2 r d) * kb (ix2 j ⟨128 + d.val, by omega⟩) else ⊥ := by
  pointwise [k0_pay52]
  rw [mask_eq]
  have := r.isLt
  have := j.isLt
  rw [Idealize.ShloMosaic.WordCmp.cmpi_sle_ofNat (by omega) (by omega)]
  simp only [hlo_ix]

theorem init_at (r : Fin 512) (d : Fin 128) : (init (F := Ideal)).m (ix3 0 r 0) = ⊥ ∧ (init (F := Ideal)).l (ix3 0 r 0) = 0 ∧ (init (F := Ideal)).a (ix3 0 r d) = 0 := by
  pointwise [init, k0_pay34, k0_pay35, k0_pay36]
  exact mask_eq

theorem fin_at (s0 s1 : St Ideal) (r : Fin 512) (d : Fin 128) :
    fin s0 s1 (ix2 r d) = if d.val < 64 then Ideal.div (s0.a (ix3 0 r d)) (s0.l (ix3 0 r 0)) else Ideal.div (s1.a (ix3 0 r d)) (s1.l (ix3 0 r 0)) := by
  pointwise [fin, k0_pay1, k0_pay62, k0_pay63, k0_pay64, k0_pay65]
  have := d.isLt
  word_cmp

end Cert.AttentionIdeal.Out
end
-- ==== Proof.AttnRows.lean ====
module

public import proofs.«01_k».proof.Proof.AttnPure

@[expose] public section

set_option maxRecDepth 16384
noncomputable section

open Idealize.ShloMosaic Idealize.ShloMosaic.TcCoe Idealize.SL.Sem
open Idealize.ShloMosaic.Pipeline (Dat)

namespace Cert.AttentionIdeal.Out

open Cert.AttentionIdeal Cert.AttentionIdeal.Gen Cert.Softmax

variable (i : grid0.Coords)

theorem trips_eq : (k0_t1_loop i).trips = (i 2).val := by
  have h : ∀ n : Fin 8, Scf.trips (0#32) (Scalar.addi 0#32 (Scalar.muli (Scalar.divsi (Scalar.subi (BitVec.ofNat 32 n.val) 0#32) 1#32) 1#32)) 1#32 = n.val := by decide +kernel
  exact h (i 2)

/-- The key block of a trip, at an index. -/
theorem ld_k (x1 : Vec Ideal S4096x256 .bf16) (k : Fin (k0_t1_loop i).trips) (j : Fin 512) (d : Fin 256) (h : 512 * k.val + j.val < 4096) :
    View.ld x1 (rk i k) (ix2 j d) = x1 (ix2 ⟨512 * k.val + j.val, h⟩ d) := by
  show x1 ((rk i k).emb (ix2 j d)) = _
  congr 1
  funext a
  apply Fin.ext
  match a with
  | 0 => show k0_off1 i k 0 + 1 * j.val = _; rw [k0_off1_eq]; simp [ix2]
  | 1 => show k0_off1 i k 1 + 1 * d.val = _; rw [k0_off1_eq]; simp [ix2]

theorem ld_v (x2 : Vec Ideal S4096x128 .bf16) (k : Fin (k0_t1_loop i).trips) (j : Fin 512) (d : Fin 128) (h : 512 * k.val + j.val < 4096) :
    View.ld x2 (rv i k) (ix2 j d) = x2 (ix2 ⟨512 * k.val + j.val, h⟩ d) := by
  show x2 ((rv i k).emb (ix2 j d)) = _
  congr 1
  funext a
  apply Fin.ext
  match a with
  | 0 => show k0_off2 i k 0 + 1 * j.val = _; rw [k0_off2_eq]; simp [ix2]
  | 1 => show k0_off2 i k 1 + 1 * d.val = _; rw [k0_off2_eq]; simp [ix2]

theorem ld_kd (x1 : Vec Ideal S4096x256 .bf16) (j : Fin 512) (d : Fin 256) (h : 512 * (i 2).val + j.val < 4096) :
    View.ld x1 (rkd i) (ix2 j d) = x1 (ix2 ⟨512 * (i 2).val + j.val, h⟩ d) := by
  show x1 ((rkd i).emb (ix2 j d)) = _
  congr 1
  funext a
  apply Fin.ext
  match a with
  | 0 => show k0_off5 i 0 + 1 * j.val = _; rw [k0_off5_eq]; simp [ix2]
  | 1 => show k0_off5 i 1 + 1 * d.val = _; rw [k0_off5_eq]; simp [ix2]

theorem ld_vd (x2 : Vec Ideal S4096x128 .bf16) (j : Fin 512) (d : Fin 128) (h : 512 * (i 2).val + j.val < 4096) :
    View.ld x2 (rvd i) (ix2 j d) = x2 (ix2 ⟨512 * (i 2).val + j.val, h⟩ d) := by
  show x2 ((rvd i).emb (ix2 j d)) = _
  congr 1
  funext a
  apply Fin.ext
  match a with
  | 0 => show k0_off6 i 0 + 1 * j.val = _; rw [k0_off6_eq]; simp [ix2]
  | 1 => show k0_off6 i 1 + 1 * d.val = _; rw [k0_off6_eq]; simp [ix2]

theorem ld_q0 (x0 : Vec Ideal S512x256 .bf16) (r : Fin 512) (d : Fin 128) : View.ld x0 q0 (ix2 r d) = x0 (ix2 r ⟨d.val, by omega⟩) := by
  show x0 (q0.emb (ix2 r d)) = _
  congr 1
  funext a
  apply Fin.ext
  match a with
  | 0 => show 0 + 1 * r.val = r.val; omega
  | 1 => show 0 + 1 * d.val = d.val; omega

theorem ld_q1 (x0 : Vec Ideal S512x256 .bf16) (r : Fin 512) (d : Fin 128) : View.ld x0 q1 (ix2 r d) = x0 (ix2 r ⟨128 + d.val, by omega⟩) := by
  show x0 (q1.emb (ix2 r d)) = _
  congr 1
  funext a
  apply Fin.ext
  match a with
  | 0 => show 0 + 1 * r.val = r.val; omega
  | 1 => show 128 + 1 * d.val = 128 + d.val; omega

/-- A state holds the running softmax of the first `n` keys at a row and lane. -/
def Holds (st : St Ideal) (s v : ℕ → EReal) (r : Fin 512) (d : Fin 128) (n : ℕ) : Prop :=
  st.m (ix3 0 r 0) = Mx s n ∧ st.l (ix3 0 r 0) = L s n ∧ st.a (ix3 0 r d) = A s v n

theorem holds_init (s v : ℕ → EReal) (r : Fin 512) (d : Fin 128) : Holds init s v r d 0 := by
  have h := init_at r d
  refine ⟨h.1.trans ?_, h.2.1.trans ?_, h.2.2.trans ?_⟩
  · simp [Mx]
  · simp [L]
  · simp [A]

theorem holds_step (st : St Ideal) (s v : ℕ → EReal) (hs : ∀ j, s j ≠ ⊤) (r : Fin 512) (d : Fin 128) (n : ℕ)
    (S : FVec Ideal S512x512 .f32) (w : Vec Ideal S512x128 .bf16)
    (hS : ∀ j : Fin 512, S (ix2 r j) = s (n + j.val)) (hw : ∀ j : Fin 512, w (ix2 j d) = v (n + j.val)) (h : Holds st s v r d n) :
    Holds (step S w st) s v r d (n + 512) := by
  obtain ⟨h1, h2, h3⟩ := h
  have e1 : (step S w st).m (ix3 0 r 0) = Mx s (n + 512) := by
    rw [step_m, Mx_add, h1]
    congr 1
    exact Finset.sup_congr rfl fun j _ => hS j
  refine ⟨e1, ?_, ?_⟩
  · rw [step_l, e1, L_add s hs, h1, h2]
    congr 1
    exact Finset.sum_congr rfl fun j _ => by rw [hS j]
  · rw [step_a, e1, A_add s v hs, h1, h3]
    congr 1
    exact Finset.sum_congr rfl fun j _ => by rw [hS j, hw j]

variable (x0 : Vec Ideal S512x256 .bf16) (x1 : Vec Ideal S4096x256 .bf16) (x2 : Vec Ideal S4096x128 .bf16)

theorem holds_S0 (s v : ℕ → EReal) (hs : ∀ j, s j ≠ ⊤) (r : Fin 512) (d : Fin 128)
    (hsc : ∀ j (hj : j < 4096), s j = if j ≤ 512 * (i 2).val + r.val then ∑ e : Fin 128, (x0 (ix2 r ⟨e.val, by omega⟩) : EReal) * x1 (ix2 ⟨j, hj⟩ ⟨e.val, by omega⟩) else ⊥)
    (hv : ∀ j (hj : j < 4096), v j = x2 (ix2 ⟨j, hj⟩ d)) (k : ℕ) (hk : k ≤ (k0_t1_loop i).trips) :
    Holds (S0 i x0 x1 x2 k) s v r d (512 * k) := by
  have h8 : (i 2).val < 8 := (i 2).isLt
  induction k with
  | zero => exact holds_init s v r d
  | succ k ih =>
    have hlt : k < (k0_t1_loop i).trips := hk
    have ht := trips_eq i
    rw [S0, dif_pos hlt]
    refine holds_step _ s v hs r d (512 * k) _ _ (fun j => ?_) (fun j => ?_) (ih (Nat.le_of_lt hlt))
    · have := j.isLt
      rw [pay2_at, hsc _ (by omega), if_pos (by omega)]
      refine Finset.sum_congr rfl fun e _ => ?_
      rw [ld_q0, ld_k i x1 ⟨k, hlt⟩ j ⟨e.val, by omega⟩ (by show 512 * k + j.val < 4096; omega)]
    · have := j.isLt
      rw [hv _ (by omega), ld_v i x2 ⟨k, hlt⟩ j d (by show 512 * k + j.val < 4096; omega)]

theorem holds_S1 (s v : ℕ → EReal) (hs : ∀ j, s j ≠ ⊤) (r : Fin 512) (d : Fin 128)
    (hsc : ∀ j (hj : j < 4096), s j = if j ≤ 512 * (i 2).val + r.val then ∑ e : Fin 128, (x0 (ix2 r ⟨128 + e.val, by omega⟩) : EReal) * x1 (ix2 ⟨j, hj⟩ ⟨128 + e.val, by omega⟩) else ⊥)
    (hv : ∀ j (hj : j < 4096), v j = x2 (ix2 ⟨j, hj⟩ d)) (k : ℕ) (hk : k ≤ (k0_t1_loop i).trips) :
    Holds (S1 i x0 x1 x2 k) s v r d (512 * k) := by
  have h8 : (i 2).val < 8 := (i 2).isLt
  induction k with
  | zero => exact holds_init s v r d
  | succ k ih =>
    have hlt : k < (k0_t1_loop i).trips := hk
    have ht := trips_eq i
    rw [S1, dif_pos hlt]
    refine holds_step _ s v hs r d (512 * k) _ _ (fun j => ?_) (fun j => ?_) (ih (Nat.le_of_lt hlt))
    · have := j.isLt
      rw [pay11_at, hsc _ (by omega), if_pos (by omega)]
      refine Finset.sum_congr rfl fun e _ => ?_
      rw [ld_q1, ld_k i x1 ⟨k, hlt⟩ j ⟨128 + e.val, by omega⟩ (by show 512 * k + j.val < 4096; omega)]
    · have := j.isLt
      rw [hv _ (by omega), ld_v i x2 ⟨k, hlt⟩ j d (by show 512 * k + j.val < 4096; omega)]

theorem holds_D0 (s v : ℕ → EReal) (hs : ∀ j, s j ≠ ⊤) (r : Fin 512) (d : Fin 128)
    (hsc : ∀ j (hj : j < 4096), s j = if j ≤ 512 * (i 2).val + r.val then ∑ e : Fin 128, (x0 (ix2 r ⟨e.val, by omega⟩) : EReal) * x1 (ix2 ⟨j, hj⟩ ⟨e.val, by omega⟩) else ⊥)
    (hv : ∀ j (hj : j < 4096), v j = x2 (ix2 ⟨j, hj⟩ d)) :
    Holds (step (k0_pay44 (View.ld x1 (rkd i)) (View.ld x0 q0)) (View.ld x2 (rvd i)) (S0 i x0 x1 x2 (k0_t1_loop i).trips)) s v r d (512 * (i 2).val + 512) := by
  have h8 : (i 2).val < 8 := (i 2).isLt
  have h0 := holds_S0 i x0 x1 x2 s v hs r d hsc hv _ le_rfl
  rw [trips_eq i] at h0 ⊢
  refine holds_step _ s v hs r d _ _ _ (fun j => ?_) (fun j => ?_) h0
  · have := j.isLt
    rw [pay44_at, hsc _ (by omega)]
    refine if_congr (by omega) ?_ rfl
    refine Finset.sum_congr rfl fun e _ => ?_
    rw [ld_q0, ld_kd i x1 j ⟨e.val, by omega⟩ (by omega)]
  · have := j.isLt
    rw [hv _ (by omega), ld_vd i x2 j d (by omega)]

theorem holds_D1 (s v : ℕ → EReal) (hs : ∀ j, s j ≠ ⊤) (r : Fin 512) (d : Fin 128)
    (hsc : ∀ j (hj : j < 4096), s j = if j ≤ 512 * (i 2).val + r.val then ∑ e : Fin 128, (x0 (ix2 r ⟨128 + e.val, by omega⟩) : EReal) * x1 (ix2 ⟨j, hj⟩ ⟨128 + e.val, by omega⟩) else ⊥)
    (hv : ∀ j (hj : j < 4096), v j = x2 (ix2 ⟨j, hj⟩ d)) :
    Holds (step (k0_pay52 (View.ld x1 (rkd i)) (View.ld x0 q1)) (View.ld x2 (rvd i)) (S1 i x0 x1 x2 (k0_t1_loop i).trips)) s v r d (512 * (i 2).val + 512) := by
  have h8 : (i 2).val < 8 := (i 2).isLt
  have h0 := holds_S1 i x0 x1 x2 s v hs r d hsc hv _ le_rfl
  rw [trips_eq i] at h0 ⊢
  refine holds_step _ s v hs r d _ _ _ (fun j => ?_) (fun j => ?_) h0
  · have := j.isLt
    rw [pay52_at, hsc _ (by omega)]
    refine if_congr (by omega) ?_ rfl
    refine Finset.sum_congr rfl fun e _ => ?_
    rw [ld_q1, ld_kd i x1 j ⟨128 + e.val, by omega⟩ (by omega)]
  · have := j.isLt
    rw [hv _ (by omega), ld_vd i x2 j d (by omega)]

end Cert.AttentionIdeal.Out
end
-- ==== Proof.AttnSpec.lean ====
module

public import proofs.«01_k».proof.Proof.Softmax
public import Idealize.ShloMosaic.Lib.Pointwise

@[expose] public section

set_option maxRecDepth 16384
noncomputable section

open Idealize.ShloMosaic

namespace Cert.Softmax

/-- A matrix read at natural numbers, zero outside. -/
def rd {p q : ℕ} (X : Fin p → Fin q → EReal) (a b : ℕ) : EReal := if h : a < p ∧ b < q then X ⟨a, h.1⟩ ⟨b, h.2⟩ else 0

theorem rd_of {p q : ℕ} (X : Fin p → Fin q → EReal) (a b : ℕ) (ha : a < p) (hb : b < q) : rd X a b = X ⟨a, ha⟩ ⟨b, hb⟩ := dif_pos ⟨ha, hb⟩

/-- The masked score of the query row `R` against key `j` of its own sequence, in head `h`. -/
def sc (Q K : Fin 16384 → Fin 1024 → EReal) (R h j : ℕ) : EReal :=
  if j ≤ R % 4096 then ∑ e : Fin 128, rd Q R (h * 128 + e.val) * rd K (R / 4096 * 4096 + j) (h * 128 + e.val) else ⊥

/-- The value of key `j` of the sequence of row `R`, at lane `C`. -/
def vl (V : Fin 16384 → Fin 512 → EReal) (R C j : ℕ) : EReal := rd V (R / 4096 * 4096 + j) C

/-- Causal attention at row `R` and lane `C`. -/
def G (Q K : Fin 16384 → Fin 1024 → EReal) (V : Fin 16384 → Fin 512 → EReal) (R C : ℕ) : EReal :=
  Ideal.div (A (sc Q K R (C / 64)) (vl V R C) 4096) (L (sc Q K R (C / 64)) 4096)

theorem sum_real {n : ℕ} (a b : Fin n → EReal) (ha : ∀ i, ∃ r : ℝ, a i = r) (hb : ∀ i, ∃ r : ℝ, b i = r) : ∃ r : ℝ, ∑ i, a i * b i = r := by
  choose f hf using ha
  choose g hg using hb
  refine ⟨∑ i, f i * g i, ?_⟩
  have e : ∀ t : Finset (Fin n), ∑ i ∈ t, a i * b i = ((∑ i ∈ t, f i * g i : ℝ) : EReal) := fun t => by
    induction t using Finset.cons_induction with
    | empty => simp
    | cons x t hx ih => rw [Finset.sum_cons, Finset.sum_cons, ih, EReal.coe_add, hf, hg, EReal.coe_mul]
  exact e _

theorem rd_real {p q : ℕ} (X : Fin p → Fin q → EReal) (hX : ∀ a b, ∃ r : ℝ, X a b = r) (a b : ℕ) : ∃ r : ℝ, rd X a b = r := by
  unfold rd
  split
  · exact hX _ _
  · exact ⟨0, rfl⟩

theorem sc_of_le (Q K : Fin 16384 → Fin 1024 → EReal) (hQ : ∀ a b, ∃ r : ℝ, Q a b = r) (hK : ∀ a b, ∃ r : ℝ, K a b = r) (R h j : ℕ) (hj : j ≤ R % 4096) :
    ∃ r : ℝ, sc Q K R h j = r := by
  unfold sc
  rw [if_pos hj]
  exact sum_real _ _ (fun _ => rd_real Q hQ _ _) (fun _ => rd_real K hK _ _)

theorem sc_ne_top (Q K : Fin 16384 → Fin 1024 → EReal) (hQ : ∀ a b, ∃ r : ℝ, Q a b = r) (hK : ∀ a b, ∃ r : ℝ, K a b = r) (R h j : ℕ) : sc Q K R h j ≠ ⊤ := by
  by_cases hj : j ≤ R % 4096
  · obtain ⟨r, hr⟩ := sc_of_le Q K hQ hK R h j hj
    rw [hr]; exact EReal.coe_ne_top r
  · unfold sc; rw [if_neg hj]; exact bot_ne_top

theorem sc_zero_ne_bot (Q K : Fin 16384 → Fin 1024 → EReal) (hQ : ∀ a b, ∃ r : ℝ, Q a b = r) (hK : ∀ a b, ∃ r : ℝ, K a b = r) (R h : ℕ) : sc Q K R h 0 ≠ ⊥ := by
  obtain ⟨r, hr⟩ := sc_of_le Q K hQ hK R h 0 (Nat.zero_le _)
  rw [hr]; exact EReal.coe_ne_bot r

/-- Keys past the row do not count: the sums may be cut at any prefix that holds them. -/
theorem G_prefix (Q K : Fin 16384 → Fin 1024 → EReal) (V : Fin 16384 → Fin 512 → EReal) (R C n : ℕ) (h1 : R % 4096 < n) (h2 : n ≤ 4096) :
    G Q K V R C = Ideal.div (A (sc Q K R (C / 64)) (vl V R C) n) (L (sc Q K R (C / 64)) n) := by
  have hb : ∀ j, n ≤ j → sc Q K R (C / 64) j = ⊥ := fun j hj => by unfold sc; rw [if_neg (by omega)]
  unfold G
  rw [show A (sc Q K R (C / 64)) (vl V R C) 4096 = A (sc Q K R (C / 64)) (vl V R C) (n + (4096 - n)) by rw [show n + (4096 - n) = 4096 by omega],
    show L (sc Q K R (C / 64)) 4096 = L (sc Q K R (C / 64)) (n + (4096 - n)) by rw [show n + (4096 - n) = 4096 by omega], A_ext _ _ _ _ hb, L_ext _ _ _ hb]

end Cert.Softmax
-- ==== Proof.AttnArr.lean ====
module

public import proofs.«01_k».proof.Proof.AttnRows
public import proofs.«01_k».proof.Proof.AttnSpec
public import proofs.«01_k».proof.Proof.Gen.AttentionIdeal.Value
public import Idealize.ShloMosaic.Lib.Pipeline.ValueKit

@[expose] public section

set_option maxRecDepth 16384
noncomputable section

open Idealize.ShloMosaic Idealize.ShloMosaic.TcCoe Idealize.SL.Sem
open Idealize.ShloMosaic.Pipeline (Dat)

namespace Cert.AttentionIdeal.Out

open Cert.AttentionIdeal Cert.AttentionIdeal.Gen Cert.Softmax

variable (m : (ℓ : Loc nD τ sig) → Buf (Elt Ideal) ℓ)

/-- The block of each window at a point of the grid. -/
theorem idx : ∀ t : Fin cfg0.N, win0_0.index t = ![(grid0.coords t 0).val * 8 + (grid0.coords t 2).val, (grid0.coords t 1).val]
    ∧ win0_1.index t = ![(grid0.coords t 0).val, (grid0.coords t 1).val] ∧ win0_2.index t = ![(grid0.coords t 0).val, (grid0.coords t 1).val]
    ∧ win0_3.index t = ![(grid0.coords t 0).val * 8 + (grid0.coords t 2).val, (grid0.coords t 1).val] :=
  (by decide +kernel : ∀ t : Fin grid0.N, _)

/-- The bounds of a point's coordinates. -/
theorem cb : ∀ t : Fin cfg0.N, (grid0.coords t 0).val < 4 ∧ (grid0.coords t 1).val < 4 ∧ (grid0.coords t 2).val < 8 :=
  (by decide +kernel : ∀ t : Fin grid0.N, _)

/-- An array as a function of its two coordinates. -/
abbrev mat {p q : ℕ} (X : FVec Ideal ⟨2, ![p, q]⟩ .bf16) : Fin p → Fin q → EReal := fun a b => X (ix2 a b)

abbrev QQ (c : Dev nD) : Fin 16384 → Fin 1024 → EReal := mat (m ((c : Thread nD τ).loc main_arg0))
abbrev KK (c : Dev nD) : Fin 16384 → Fin 1024 → EReal := mat (m ((c : Thread nD τ).loc main_arg1))
abbrev VV (c : Dev nD) : Fin 16384 → Fin 512 → EReal := mat (m ((c : Thread nD τ).loc main_arg2))

theorem iblk0 (c : Dev nD) (t : Fin cfg0.N) (r : Fin 512) (e : Fin 256) :
    (show FVec Ideal S512x256 .bf16 from iblk m c 0 t) (ix2 r e) = rd (QQ m c) (512 * ((grid0.coords t 0).val * 8 + (grid0.coords t 2).val) + r.val) (256 * (grid0.coords t 1).val + e.val) := by
  have := cb t
  rw [rd_of _ _ _ (by omega) (by omega)]
  show _ = (m ((c : Thread nD τ).loc main_arg0)) (ix2 _ _)
  blk_ext [iblk, V, idx t]

theorem iblk1 (c : Dev nD) (t : Fin cfg0.N) (r : Fin 4096) (e : Fin 256) :
    (show FVec Ideal S4096x256 .bf16 from iblk m c 1 t) (ix2 r e) = rd (KK m c) (4096 * (grid0.coords t 0).val + r.val) (256 * (grid0.coords t 1).val + e.val) := by
  have := cb t
  rw [rd_of _ _ _ (by omega) (by omega)]
  show _ = (m ((c : Thread nD τ).loc main_arg1)) (ix2 _ _)
  blk_ext [iblk, V, idx t]

theorem iblk2 (c : Dev nD) (t : Fin cfg0.N) (r : Fin 4096) (e : Fin 128) :
    (show FVec Ideal S4096x128 .bf16 from iblk m c 2 t) (ix2 r e) = rd (VV m c) (4096 * (grid0.coords t 0).val + r.val) (128 * (grid0.coords t 1).val + e.val) := by
  have := cb t
  rw [rd_of _ _ _ (by omega) (by omega)]
  show _ = (m ((c : Thread nD τ).loc main_arg2)) (ix2 _ _)
  blk_ext [iblk, V, idx t]

/-- What a point writes, over its blocks, is causal attention at the rows and lanes it holds. -/
theorem block (Q K : Fin 16384 → Fin 1024 → EReal) (W : Fin 16384 → Fin 512 → EReal)
    (hQ : ∀ a b, ∃ r : ℝ, Q a b = r) (hK : ∀ a b, ∃ r : ℝ, K a b = r)
    (i : grid0.Coords) (x0 : Vec Ideal S512x256 .bf16) (x1 : Vec Ideal S4096x256 .bf16) (x2 : Vec Ideal S4096x128 .bf16)
    (n p b : ℕ) (hn : n < 4) (hp : p < 4) (hb : b < 8) (hi : (i 2).val = b)
    (h0 : ∀ r e, x0 (ix2 r e) = rd Q (512 * (n * 8 + b) + r.val) (256 * p + e.val))
    (h1 : ∀ r e, x1 (ix2 r e) = rd K (4096 * n + r.val) (256 * p + e.val))
    (h2 : ∀ r e, x2 (ix2 r e) = rd W (4096 * n + r.val) (128 * p + e.val)) (r : Fin 512) (d : Fin 128) :
    fin (step (k0_pay44 (View.ld x1 (rkd i)) (View.ld x0 q0)) (View.ld x2 (rvd i)) (S0 i x0 x1 x2 (k0_t1_loop i).trips))
        (step (k0_pay52 (View.ld x1 (rkd i)) (View.ld x0 q1)) (View.ld x2 (rvd i)) (S1 i x0 x1 x2 (k0_t1_loop i).trips)) (ix2 r d)
      = G Q K W (512 * (n * 8 + b) + r.val) (128 * p + d.val) := by
  have hr := r.isLt
  have hd := d.isLt
  obtain ⟨R, hR⟩ : ∃ R, R = 512 * (n * 8 + b) + r.val := ⟨_, rfl⟩
  have e1 : R % 4096 = 512 * b + r.val := by omega
  have e2 : R / 4096 = n := by omega
  rw [← hR, G_prefix Q K W R _ (512 * b + 512) (by omega) (by omega), fin_at]
  have hv : ∀ j (hj : j < 4096), vl W R (128 * p + d.val) j = x2 (ix2 ⟨j, hj⟩ d) := fun j hj => by
    unfold vl
    rw [h2, e2, show n * 4096 = 4096 * n by omega]
  split_ifs with hlt
  · have hC : (128 * p + d.val) / 64 = 2 * p := by omega
    rw [hC]
    have H := holds_D0 i x0 x1 x2 (sc Q K R (2 * p)) (vl W R (128 * p + d.val)) (sc_ne_top Q K hQ hK R _) r d (fun j hj => by
      unfold sc
      rw [e1, hi]
      refine if_congr Iff.rfl (Finset.sum_congr rfl fun e _ => ?_) rfl
      rw [h0, h1, e2, ← hR, show n * 4096 = 4096 * n by omega, show 2 * p * 128 = 256 * p by omega]) hv
    rw [hi] at H
    rw [H.2.1, H.2.2]
  · have hC : (128 * p + d.val) / 64 = 2 * p + 1 := by omega
    rw [hC]
    have H := holds_D1 i x0 x1 x2 (sc Q K R (2 * p + 1)) (vl W R (128 * p + d.val)) (sc_ne_top Q K hQ hK R _) r d (fun j hj => by
      unfold sc
      rw [e1, hi]
      refine if_congr Iff.rfl (Finset.sum_congr rfl fun e _ => ?_) rfl
      rw [h0, h1, e2, ← hR, show n * 4096 = 4096 * n by omega]
      show _ = rd Q R (256 * p + (128 + e.val)) * rd K (4096 * n + j) (256 * p + (128 + e.val))
      rw [show (2 * p + 1) * 128 + e.val = 256 * p + (128 + e.val) by omega]) hv
    rw [hi] at H
    rw [H.2.1, H.2.2]

/-- The array the kernel leaves. -/
def result (c : Dev nD) : FVec Ideal S16384x512 .bf16 := fun i => G (QQ m c) (KK m c) (VV m c) (i 0).val (i 1).val

theorem final (c : Dev nD) (hQ : ∀ a b, ∃ r : ℝ, QQ m c a b = r) (hK : ∀ a b, ∃ r : ℝ, KK m c a b = r) :
    (dats m 0 c).arrAt 3 (cfgs 0).N = result m c := by
  refine (dats m 0 c).arrAt_eq_of_covers 3 _ (by decide +kernel) fun t _ y => ?_
  blk_simp
  rw [after0_3]
  unfold outsAt0
  rw [out_eq]
  have hb := cb t
  idx_vars y
  refine (block (QQ m c) (KK m c) (VV m c) hQ hK (grid0.coords t) _ _ _ _ _ _ hb.1 hb.2.1 hb.2.2 rfl (iblk0 m c t) (iblk1 m c t) (iblk2 m c t) _ _).trans ?_
  unfold result
  blk_simp [idx t]
  congr 1 <;> ring

end Cert.AttentionIdeal.Out
-- ==== Proof.AttentionRef.lean ====
module

public import proofs.«01_k».proof.Proof.Gen.AttentionRefIdeal.Run
public import proofs.«01_k».proof.Proof.Gen.AttentionRefIdeal.Read
public import proofs.«01_k».proof.Proof.AttnSpec
public import Idealize.ShloMosaic.Lib.Pointwise
public import Idealize.ShloMosaic.Lib.WordCmp

@[expose] public section

set_option maxRecDepth 16384
noncomputable section

open Idealize.ShloMosaic Idealize.ShloMosaic.TcCoe Idealize.SL.Sem

namespace Cert.AttentionRefIdeal.Out

open Cert.AttentionRefIdeal Cert.AttentionRefIdeal.Gen Cert.AttentionRefIdeal.Read Cert.Softmax

/-- The first coordinate of the regrouped index, and the others. -/
theorem at1 (X : FVec Ideal S16384x1024 .bf16) (i : S16384x1024.Idx) (a b : ℕ) (ha : a < 16384) (hb : b < 1024) (h0 : (i 0).val = a) (h1 : (i 1).val = b) :
    X i = rd (fun a b => X (ix2 a b)) a b := by
  rw [rd_of _ _ _ ha hb]
  congr 1
  funext k
  apply Fin.ext
  match k with
  | 0 => exact h0
  | 1 => exact h1

theorem at2 (X : FVec Ideal S16384x512 .bf16) (i : S16384x512.Idx) (a b : ℕ) (ha : a < 16384) (hb : b < 512) (h0 : (i 0).val = a) (h1 : (i 1).val = b) :
    X i = rd (fun a b => X (ix2 a b)) a b := by
  rw [rd_of _ _ _ ha hb]
  congr 1
  funext k
  apply Fin.ext
  match k with
  | 0 => exact h0
  | 1 => exact h1

variable (x0 x1 : FVec Ideal S16384x1024 .bf16) (x2 : FVec Ideal S16384x512 .bf16)

abbrev m0 (X : FVec Ideal S16384x1024 .bf16) : Fin 16384 → Fin 1024 → EReal := fun a b => X (ix2 a b)
abbrev m2 (X : FVec Ideal S16384x512 .bf16) : Fin 16384 → Fin 512 → EReal := fun a b => X (ix2 a b)

theorem neg_inf : (Ideal.ofBits FTy.f32 0xFF800000#32 : EReal) = ⊥ := by simp [Ideal.ofBits, Ideal.ieee]

theorem fold_sup {ι : Type} [DecidableEq ι] (T : Finset ι) (f : ι → EReal) : Finset.fold max (Ideal.ofBits FTy.f32 0xFF800000#32) f T = T.sup f := by
  rw [neg_inf]
  rfl

/-- The masked scores. -/
theorem v13_at (n : Fin 4) (h : Fin 8) (p j : Fin 4096) :
    val_main_v13 (F := Ideal) x0 x1 (ix4 n h p j) = sc (m0 x0) (m0 x1) (n.val * 4096 + p.val) h.val j.val := by
  have e1 : (n.val * 4096 + p.val) % 4096 = p.val := by omega
  have e2 : (n.val * 4096 + p.val) / 4096 = n.val := by omega
  rw [val_main_v13_apply, val_main_call0_v1_apply, val_main_v12_apply, val_main_v10_apply, val_main_v11_apply, val_main_v8_apply, val_main_v9_apply,
    val_main_v6_apply, val_main_v6_apply, val_main_call0_v2_apply, val_main_call0_v0_apply, val_main_v7_apply]
  show Scalar.select (IntOp.cmpi .sle (BitVec.ofNat 32 j.val) (BitVec.ofNat 32 p.val)) _ (Ideal.ofBits FTy.f32 0xFF800000#32) = _
  rw [Idealize.ShloMosaic.WordCmp.cmpi_sle_ofNat (by omega) (by omega), neg_inf]
  unfold sc
  rw [e1, e2]
  have hs : (∑ k : Fin 128, val_main_v1 (F := Ideal) x0 (lidx_main_v7 (ix4 n h p j) k) * val_main_v3 (F := Ideal) x1 (ridx_main_v7 (ix4 n h p j) k) : EReal)
      = ∑ e : Fin 128, rd (m0 x0) (n.val * 4096 + p.val) (h.val * 128 + e.val) * rd (m0 x1) (n.val * 4096 + j.val) (h.val * 128 + e.val) := by
    refine Finset.sum_congr rfl fun e _ => ?_
    rw [val_main_v1_apply, val_main_v3_apply, val_main_v0_apply, val_main_v2_apply]
    have := h.isLt; have := e.isLt
    refine congrArg₂ (· * ·) ?_ ?_
    · refine at1 x0 _ _ _ (by omega) (by omega) ?_ ?_
      · show (((n.val * 4096 + p.val) * 8 + h.val) * 128 + e.val) / 1024 = _; omega
      · show (((n.val * 4096 + p.val) * 8 + h.val) * 128 + e.val) % 1024 = _; omega
    · refine at1 x1 _ _ _ (by omega) (by omega) ?_ ?_
      · show (((n.val * 4096 + j.val) * 8 + h.val) * 128 + e.val) / 1024 = _; omega
      · show (((n.val * 4096 + j.val) * 8 + h.val) * 128 + e.val) % 1024 = _; omega
  rw [hs]
  by_cases hj : j.val ≤ p.val
  · simp [hj, Scalar.select]
  · simp [hj, Scalar.select]

theorem v14_at (n : Fin 4) (h : Fin 8) (p : Fin 4096) :
    val_main_v14 (F := Ideal) x0 x1 (ix3 n h p) = Finset.univ.sup fun j : Fin 4096 => (val_main_v13 (F := Ideal) x0 x1 (ix4 n h p j) : EReal) := by
  unfold val_main_v14 val_main_cst_0
  generalize val_main_v13 (F := Ideal) x0 x1 = y
  pointwise []
  exact fold_sup _ _

theorem sup_range (s : ℕ → EReal) (n : ℕ) : (Finset.univ.sup fun j : Fin n => s j.val) = Mx s n := by
  unfold Mx
  apply le_antisymm
  · exact Finset.sup_le fun j _ => Finset.le_sup (f := s) (Finset.mem_range.2 j.isLt)
  · exact Finset.sup_le fun j hj => Finset.le_sup (f := fun j : Fin n => s j.val) (Finset.mem_univ (⟨j, Finset.mem_range.1 hj⟩ : Fin n))

theorem v16_at (n : Fin 4) (h : Fin 8) (p : Fin 4096) (i : S4x8x4096.Idx) (hi : i = ix3 n h p) :
    val_main_v16 (F := Ideal) x0 x1 i = Mx (sc (m0 x0) (m0 x1) (n.val * 4096 + p.val) h.val) 4096 := by
  subst hi
  rw [val_main_v16_apply, val_main_v15_apply, val_main_cst_1_apply, v14_at]
  simp only [v13_at]
  rw [sup_range (sc (m0 x0) (m0 x1) (n.val * 4096 + p.val) h.val)]
  show max (Ideal.ofBits FTy.f32 0xFF800000#32) _ = _
  rw [neg_inf]
  exact max_eq_right bot_le

theorem v20_at (n : Fin 4) (h : Fin 8) (p j : Fin 4096) :
    val_main_v20 (F := Ideal) x0 x1 (ix4 n h p j)
      = Ideal.exp (sc (m0 x0) (m0 x1) (n.val * 4096 + p.val) h.val j.val - Mx (sc (m0 x0) (m0 x1) (n.val * 4096 + p.val) h.val) 4096) := by
  rw [val_main_v20_apply, val_main_v19_apply, v13_at, val_main_v18_apply, val_main_v17_apply,
    v16_at x0 x1 n h p (idx_main_v17 (idx_main_v18 (ix4 n h p j))) (funext fun a => match a with | 0 => rfl | 1 => rfl | 2 => rfl)]
  rfl

theorem v24_at (n : Fin 4) (h : Fin 8) (p j : Fin 4096) (i : S4x8x4096x4096.Idx) (hi : i = ix4 n h p j) :
    val_main_v24 (F := Ideal) x0 x1 i
      = Ideal.div (Ideal.exp (sc (m0 x0) (m0 x1) (n.val * 4096 + p.val) h.val j.val - Mx (sc (m0 x0) (m0 x1) (n.val * 4096 + p.val) h.val) 4096))
          (L (sc (m0 x0) (m0 x1) (n.val * 4096 + p.val) h.val) 4096) := by
  subst hi
  rw [val_main_v24_apply, v20_at, val_main_v23_apply, val_main_v22_apply, val_main_v21_apply]
  refine congrArg (Ideal.div _) ?_
  have z : val_main_cst_2 (F := Ideal) (Shape.Idx.first h_S_) = (0 : EReal) := by
    show Ideal.ofBits FTy.f32 0x00000000#32 = 0
    simp [Ideal.ofBits, Ideal.ieee]
  rw [z, zero_add]
  unfold L
  rw [Finset.sum_range]
  refine Finset.sum_congr rfl fun k _ => ?_
  rw [← v20_at x0 x1 n h p k]
  exact congrArg _ (funext fun a => match a with | 0 => rfl | 1 => rfl | 2 => rfl | 3 => rfl)

/-- The reference's result is causal attention. -/
theorem v28_at (hQ : ∀ a b, ∃ r : ℝ, m0 x0 a b = r) (hK : ∀ a b, ∃ r : ℝ, m0 x1 a b = r) (R : Fin 16384) (C : Fin 512) :
    val_main_v28 (F := Ideal) x0 x1 x2 (ix2 R C) = G (m0 x0) (m0 x1) (m2 x2) R.val C.val := by
  have hR := R.isLt
  have hC := C.isLt
  obtain ⟨n, hn⟩ : ∃ n : Fin 4, n.val = R.val / 4096 := ⟨⟨R.val / 4096, by omega⟩, rfl⟩
  obtain ⟨p, hp⟩ : ∃ p : Fin 4096, p.val = R.val % 4096 := ⟨⟨R.val % 4096, by omega⟩, rfl⟩
  obtain ⟨h, hh⟩ : ∃ h : Fin 8, h.val = C.val / 64 := ⟨⟨C.val / 64, by omega⟩, rfl⟩
  have eR : n.val * 4096 + p.val = R.val := by omega
  rw [val_main_v28_apply, val_main_v27_apply, val_main_v26_apply, val_main_v25_apply]
  unfold G
  rw [div_A _ _ (sc_ne_top _ _ hQ hK R.val _) _ (L_ne_zero _ (sc_ne_top _ _ hQ hK R.val _) _ 0 (by omega) (sc_zero_ne_bot _ _ hQ hK R.val _)), Finset.sum_range]
  show (∑ k : Fin 4096, _ : EReal) = _
  refine Finset.sum_congr rfl fun k _ => ?_
  rw [v24_at x0 x1 n h p k (ridx_main_v25 (idx_main_v26 (idx_main_v27 (ix2 R C))) k) (funext fun a => Fin.ext (match a with
    | 0 => by show (R.val * 512 + C.val) / 2097152 = n.val; omega
    | 1 => by show (R.val * 512 + C.val) / 64 % 8 = h.val; omega
    | 2 => by show (R.val * 512 + C.val) / 512 % 4096 = p.val; omega
    | 3 => rfl)), eR, hh, mul_comm]
  refine congrArg₂ (· * ·) rfl ?_
  rw [val_main_v5_apply, val_main_v4_apply]
  unfold vl
  have := k.isLt
  refine at2 x2 _ _ _ (by omega) (by omega) ?_ ?_
  · show ((((R.val * 512 + C.val) / 2097152 * 4096 + k.val) * 8 + (R.val * 512 + C.val) / 64 % 8) * 64 + (R.val * 512 + C.val) % 64) / 512 = _
    omega
  · show ((((R.val * 512 + C.val) / 2097152 * 4096 + k.val) * 8 + (R.val * 512 + C.val) / 64 % 8) * 64 + (R.val * 512 + C.val) % 64) % 512 = _
    omega

end Cert.AttentionRefIdeal.Out
-- ==== Proof.AttnClaim.lean ====
module

public import proofs.«01_k».proof.Defs
public import proofs.«01_k».proof.Proof.AttnArr
public import proofs.«01_k».proof.Proof.AttentionRef
public import Idealize.ShloMosaic.Lib.ReduceAll

@[expose] public section

set_option maxRecDepth 16384
noncomputable section

open Idealize.ShloMosaic Idealize.ShloMosaic.TcCoe Idealize.SL.Sem

namespace Cert.AttnClaim

/-- The side conditions of the predicate. -/
theorem facts : Cert.Pre_finite_qk.Facts := ⟨by decide, by decide, by decide, by decide⟩

attribute [local instance] facts

theorem pos_inf : (Ideal.ofBits FTy.f32 0x7F800000#32 : EReal) = ⊤ := by simp [Ideal.ofBits, Ideal.ieee]

theorem real_of_abs (x : EReal) (h : max x (-x) < ⊤) : ∃ r : ℝ, x = r := by
  induction x with
  | bot => simp at h
  | top => simp at h
  | coe r => exact ⟨r, rfl⟩

/-- A true predicate says that every query and key element is a real number. -/
theorem reals (x0 x1 : FVec Ideal Cert.Pre_finite_qk.S16384x1024 .bf16) (x2 : FVec Ideal Cert.Pre_finite_qk.S16384x512 .bf16)
    (h : Cert.Pre_finite_qk.fn (F := Ideal) x0 x1 x2 = fun _ => 1#1) :
    (∀ a b, ∃ r : ℝ, x0 (ix2 a b) = (r : EReal)) ∧ ∀ a b, ∃ r : ℝ, x1 (ix2 a b) = (r : EReal) := by
  have h := congrFun h (fun a => a.elim0)
  unfold Cert.Pre_finite_qk.fn at h
  dsimp only at h
  have hand : ∀ a b : BitVec 1, IntOp.andi a b = 1#1 → a = 1#1 ∧ b = 1#1 := by decide
  obtain ⟨h0, h1⟩ := hand _ _ h
  haveI : Subsingleton Cert.Pre_finite_qk.S_.Idx := ⟨fun a b => funext fun k => k.elim0⟩
  have key : ∀ x : FVec Ideal Cert.Pre_finite_qk.S16384x1024 .bf16, ∀ i, (cmpf .olt (Host.absf (extf .f32 x Cert.Pre_finite_qk.Facts.bitsLt_bf16_f32))
      (broadcastInDim Cert.Pre_finite_qk.S16384x1024 ![] Cert.Pre_finite_qk.Facts.bcast_S_S16384x1024 (constant Cert.Pre_finite_qk.S_ .f32 0x7F800000#32)) : IVec _ 1) i = 1#1 →
      ∃ r : ℝ, x i = (r : EReal) := by
    intro x i hi
    refine real_of_abs (x i) ?_
    rw [← pos_inf]
    by_contra hc
    have : ((cmpf .olt (Host.absf (extf .f32 x Cert.Pre_finite_qk.Facts.bitsLt_bf16_f32))
      (broadcastInDim Cert.Pre_finite_qk.S16384x1024 ![] Cert.Pre_finite_qk.Facts.bcast_S_S16384x1024 (constant Cert.Pre_finite_qk.S_ .f32 0x7F800000#32)) : IVec _ 1) i)
      = (if max (x i) (-(x i)) < (Ideal.ofBits FTy.f32 0x7F800000#32 : EReal) then 1#1 else 0#1) := by
      idx_vars i
      pointwise []
      show BitVec.ofBool (decide (max (x (ix2 i0 i1)) (-(x (ix2 i0 i1))) < (Ideal.ofBits FTy.f32 0x7F800000#32 : EReal))) = _
      by_cases hx : max (x (ix2 i0 i1)) (-(x (ix2 i0 i1))) < (Ideal.ofBits FTy.f32 0x7F800000#32 : EReal) <;> simp [hx]
    rw [this, if_neg hc] at hi
    exact absurd hi (by decide)
  exact ⟨fun a b => key x0 _ (Host.reduce_andi_all _ _ _ _ _ h0 (ix2 a b)), fun a b => key x1 _ (Host.reduce_andi_all _ _ _ _ _ h1 (ix2 a b))⟩

instance fA : Cert.AttentionIdeal.Facts := Cert.AttentionIdeal.Gen.facts

open Cert.AttentionIdeal.Out in
theorem algebraic : Cert.algebraic_AttentionIdeal_AttentionRefIdeal_pre_finite_qk
    (hAttentionIdeal := Cert.AttentionIdeal.Gen.facts) (hAttentionRefIdeal := Cert.AttentionRefIdeal.Gen.facts) (hPre_finite_qk := facts) := by
  intro m ρ m' ρ' hpre hag
  have hr := fun c => reals _ _ _ (hpre c)
  refine ⟨fun c => result m c, (θ_run _ _ _).mono (fun _ h c => ⟨(h c).1.trans (final m c (hr c).1 (hr c).2), (h c).2⟩) (Cert.AttentionIdeal.Value.run_blocks m ρ),
    (θ_run _ _ _).mono (fun _ h c => ⟨(h c).1.trans ?_, (h c).2⟩) (Cert.AttentionRefIdeal.Value.run m' ρ')⟩
  rw [Cert.AttentionRefIdeal.Read.val_main_v28_eq, (hag c).1, (hag c).2.1, (hag c).2.2]
  funext i
  idx_vars i
  exact Cert.AttentionRefIdeal.Out.v28_at _ _ _ (hr c).1 (hr c).2 _ _

end Cert.AttnClaim
-- ==== Proof.ExpertsSpec.lean ====
module

public import Idealize.ShloMosaic.Lib.Pointwise

@[expose] public section

noncomputable section

open Idealize.ShloMosaic

namespace Cert.ExpertsSpec

/-- One hidden value of an expert: `silu` of one product times the other. -/
def hid (x u v : Fin 1024 → EReal) : EReal :=
  (∑ k, x k * u k) * Ideal.logistic (∑ k, x k * u k) * ∑ k, x k * v k

/-- Layer normalisation of a row, at a lane. -/
def ln (y : Fin 1024 → EReal) (g b : EReal) (d : Fin 1024) : EReal :=
  (y d - Ideal.div (∑ k, y k) (Ideal.ofBits .f32 0x44800000#32))
      * Ideal.rsqrt (Ideal.div (∑ k, (y k - Ideal.div (∑ k, y k) (Ideal.ofBits .f32 0x44800000#32)) * (y k - Ideal.div (∑ k, y k) (Ideal.ofBits .f32 0x44800000#32)))
          (Ideal.ofBits .f32 0x44800000#32) + Ideal.ofBits .f32 0x3727C5AC#32) * g + b

/-- One expert's share of a row, at a lane. -/
def term (X : FVec Ideal ⟨2, ![16384, 1024]⟩ .f32) (G : FVec Ideal ⟨2, ![16384, 128]⟩ .f32) (U W : FVec Ideal ⟨4, ![1, 16, 1024, 512]⟩ .f32)
    (Z : FVec Ideal ⟨4, ![1, 16, 512, 1024]⟩ .f32) (r : Fin 16384) (d : Fin 1024) (e : Fin 16) : EReal :=
  G (ix2 r ⟨e.val, by omega⟩) * ∑ f : Fin 512, hid (fun k => X (ix2 r k)) (fun k => U (ix4 0 e k f)) (fun k => W (ix4 0 e k f)) * Z (ix4 0 e f d)

/-- The experts' step: the sum of the shares, the residual and the normalisation. -/
def G (X : FVec Ideal ⟨2, ![16384, 1024]⟩ .f32) (Gt : FVec Ideal ⟨2, ![16384, 128]⟩ .f32) (U W : FVec Ideal ⟨4, ![1, 16, 1024, 512]⟩ .f32)
    (Z : FVec Ideal ⟨4, ![1, 16, 512, 1024]⟩ .f32) (g b : FVec Ideal ⟨2, ![1, 1024]⟩ .f32) (r : Fin 16384) (d : Fin 1024) : EReal :=
  ln (fun k => Ideal.ofBits .f32 0x3F9837F0#32 * X (ix2 r k) + ∑ e : Fin 16, term X Gt U W Z r k e) (g (ix2 0 d)) (b (ix2 0 d)) d

end Cert.ExpertsSpec
-- ==== Proof.ExpertsOut.lean ====
module

public import proofs.«01_k».proof.Proof.ExpertsSpec
public import proofs.«01_k».proof.Proof.Gen.ExpertsIdeal.Value
public import Idealize.ShloMosaic.Lib.Pipeline.ValueKit
public import Idealize.ShloMosaic.Lib.Pointwise

@[expose] public section

set_option maxRecDepth 16384
noncomputable section

open Idealize.ShloMosaic Idealize.ShloMosaic.TcCoe Idealize.SL.Sem
open Idealize.ShloMosaic.Pipeline (Dat)

namespace Cert.ExpertsIdeal.Out

open Cert.ExpertsIdeal Cert.ExpertsIdeal.Gen Cert.ExpertsSpec

variable (m : (ℓ : Loc nD τ sig) → Buf (Elt Ideal) ℓ)

/-- The first expert's point keeps the block of rows. -/
theorem keepA (c : Dev nD) (t : Fin cfg0.N) (h0 : t.val % 16 = 0) (h1 : ¬t.val % 16 = 15) :
    (outsAt0 m c t.val t.isLt).2.1 = k0_pay2 (iblk m c 0 t) := by
  rw [outsAt0_A m c t h0 h1]
  frame_out

theorem accA (c : Dev nD) (t : Fin cfg0.N) (h0 : t.val % 16 = 0) (h1 : ¬t.val % 16 = 15) :
    (outsAt0 m c t.val t.isLt).2.2
      = k0_pay4 (grid0.coords t) (k0_pay2 (iblk m c 0 t)) (iblk m c 2 t) (iblk m c 3 t) (iblk m c 4 t) (iblk m c 1 t) (k0_pay3 (F := Ideal)) := by
  rw [outsAt0_A m c t h0 h1]
  frame_out

theorem keepB (c : Dev nD) (t : Fin cfg0.N) (h0 : ¬t.val % 16 = 0) :
    (outsAt0 m c t.val t.isLt).2.1 = (outsAt0 m c (t.val - 1) (by have := t.isLt; omega)).2.1 := by
  by_cases h1 : t.val % 16 = 15
  · rw [outsAt0_C m c t h0 h1]
    rfl
  · rw [outsAt0_B m c t h0 h1]
    rfl

theorem accB (c : Dev nD) (t : Fin cfg0.N) (h0 : ¬t.val % 16 = 0) :
    (outsAt0 m c t.val t.isLt).2.2
      = k0_pay4 (grid0.coords t) (outsAt0 m c (t.val - 1) (by have := t.isLt; omega)).2.1 (iblk m c 2 t) (iblk m c 3 t) (iblk m c 4 t) (iblk m c 1 t)
          (outsAt0 m c (t.val - 1) (by have := t.isLt; omega)).2.2 := by
  by_cases h1 : t.val % 16 = 15
  · rw [outsAt0_C m c t h0 h1]
    frame_out
    exact congrArg₂ (fun a b => k0_pay4 (grid0.coords t) a (iblk m c 2 t) (iblk m c 3 t) (iblk m c 4 t) (iblk m c 1 t) b)
      ((Memref.isWhole_whole cc0_scratch0).read_unread _) ((Memref.isWhole_whole cc0_scratch1).read_unread _)
  · rw [outsAt0_B m c t h0 h1]
    frame_out
    exact congrArg₂ (fun a b => k0_pay4 (grid0.coords t) a (iblk m c 2 t) (iblk m c 3 t) (iblk m c 4 t) (iblk m c 1 t) b)
      ((Memref.isWhole_whole cc0_scratch0).read_unread _) ((Memref.isWhole_whole cc0_scratch1).read_unread _)

theorem outC (c : Dev nD) (t : Fin cfg0.N) (h0 : ¬t.val % 16 = 0) (h1 : t.val % 16 = 15) :
    (outsAt0 m c t.val t.isLt).1 = k0_pay1 (iblk m c 0 t) (outsAt0 m c t.val t.isLt).2.2 (iblk m c 5 t) (iblk m c 6 t) := by
  rw [accB m c t h0, outsAt0_C m c t h0 h1]
  frame_out
  exact congrArg₂ (fun a b => k0_pay1 (iblk m c 0 t) (k0_pay4 (grid0.coords t) a (iblk m c 2 t) (iblk m c 3 t) (iblk m c 4 t) (iblk m c 1 t) b) (iblk m c 5 t) (iblk m c 6 t))
      ((Memref.isWhole_whole cc0_scratch0).read_unread _) ((Memref.isWhole_whole cc0_scratch1).read_unread _)

/-- The block of each window at a point of the grid. -/
theorem idx : ∀ t : Fin cfg0.N, win0_0.index t = ![t.val / 16, 0] ∧ win0_1.index t = ![t.val / 16, 0]
    ∧ win0_2.index t = ![t.val % 16, 0, 0] ∧ win0_3.index t = ![t.val % 16, 0, 0] ∧ win0_4.index t = ![t.val % 16, 0, 0]
    ∧ win0_5.index t = ![0, 0] ∧ win0_6.index t = ![0, 0] ∧ win0_7.index t = ![t.val / 16, 0] ∧ (grid0.coords t 1).val = t.val % 16 :=
  (by decide +kernel : ∀ t : Fin grid0.N, _)

theorem lt (t : Fin cfg0.N) : t.val < 512 := t.isLt

abbrev A0 (c : Dev nD) : FVec Ideal S16384x1024 .f32 := m ((c : Thread nD τ).loc main_arg0)
abbrev A1 (c : Dev nD) : FVec Ideal S16384x128 .f32 := m ((c : Thread nD τ).loc main_arg1)
abbrev A2 (c : Dev nD) : FVec Ideal S1x16x1024x512 .f32 := m ((c : Thread nD τ).loc main_arg2)
abbrev A3 (c : Dev nD) : FVec Ideal S1x16x1024x512 .f32 := m ((c : Thread nD τ).loc main_arg3)
abbrev A4 (c : Dev nD) : FVec Ideal S1x16x512x1024 .f32 := m ((c : Thread nD τ).loc main_arg4)
abbrev A5 (c : Dev nD) : FVec Ideal S1x1024 .f32 := m ((c : Thread nD τ).loc main_arg5)
abbrev A6 (c : Dev nD) : FVec Ideal S1x1024 .f32 := m ((c : Thread nD τ).loc main_arg6)

theorem iblk0 (c : Dev nD) (t : Fin cfg0.N) (r : Fin 512) (k : Fin 1024) :
    (show FVec Ideal S512x1024 .f32 from iblk m c 0 t) (ix2 r k) = A0 m c (ix2 ⟨512 * (t.val / 16) + r.val, by have := lt t; omega⟩ k) := by
  show _ = (m ((c : Thread nD τ).loc main_arg0)) (ix2 _ _)
  blk_ext [iblk, V, idx t]

theorem iblk1 (c : Dev nD) (t : Fin cfg0.N) (r : Fin 512) (k : Fin 128) :
    (show FVec Ideal S512x128 .f32 from iblk m c 1 t) (ix2 r k) = A1 m c (ix2 ⟨512 * (t.val / 16) + r.val, by have := lt t; omega⟩ k) := by
  show _ = (m ((c : Thread nD τ).loc main_arg1)) (ix2 _ _)
  blk_ext [iblk, V, idx t]

theorem iblk2 (c : Dev nD) (t : Fin cfg0.N) (k : Fin 1024) (f : Fin 512) :
    (show FVec Ideal S1x1024x512 .bf16 from iblk m c 2 t) (ix3 0 k f) = A2 m c (ix4 0 ⟨t.val % 16, by omega⟩ k f) := by
  show _ = (m ((c : Thread nD τ).loc main_arg2)) (ix4 _ _ _ _)
  blk_simp [iblk]
  entry_read
  pointwise
  blk_ext [idx t]

theorem iblk3 (c : Dev nD) (t : Fin cfg0.N) (k : Fin 1024) (f : Fin 512) :
    (show FVec Ideal S1x1024x512 .bf16 from iblk m c 3 t) (ix3 0 k f) = A3 m c (ix4 0 ⟨t.val % 16, by omega⟩ k f) := by
  show _ = (m ((c : Thread nD τ).loc main_arg3)) (ix4 _ _ _ _)
  blk_simp [iblk]
  entry_read
  pointwise
  blk_ext [idx t]

theorem iblk4 (c : Dev nD) (t : Fin cfg0.N) (k : Fin 512) (f : Fin 1024) :
    (show FVec Ideal S1x512x1024 .bf16 from iblk m c 4 t) (ix3 0 k f) = A4 m c (ix4 0 ⟨t.val % 16, by omega⟩ k f) := by
  show _ = (m ((c : Thread nD τ).loc main_arg4)) (ix4 _ _ _ _)
  blk_simp [iblk]
  entry_read
  pointwise
  blk_ext [idx t]

theorem iblk5 (c : Dev nD) (t : Fin cfg0.N) (d : Fin 1024) :
    (show FVec Ideal S1x1024 .f32 from iblk m c 5 t) (ix2 0 d) = A5 m c (ix2 0 d) := by
  show _ = (m ((c : Thread nD τ).loc main_arg5)) (ix2 _ _)
  blk_simp [iblk]
  entry_read
  pointwise
  blk_ext [idx t]

theorem iblk6 (c : Dev nD) (t : Fin cfg0.N) (d : Fin 1024) :
    (show FVec Ideal S1x1024 .f32 from iblk m c 6 t) (ix2 0 d) = A6 m c (ix2 0 d) := by
  show _ = (m ((c : Thread nD τ).loc main_arg6)) (ix2 _ _)
  blk_simp [iblk]
  entry_read
  pointwise
  blk_ext [idx t]

/-- The gate's lane of an expert. -/
theorem gate_at (g : Fin 128 → EReal) (n : ℕ) (hn : n < 128) :
    (∑ x : Fin 128, Scalar.select (IntOp.cmpi CmpIPredicate.eq (BitVec.ofNat 32 x.val) (BitVec.ofNat 32 n)) (g x) 0) = g ⟨n, hn⟩ := by
  rw [Finset.sum_eq_single (⟨n, hn⟩ : Fin 128)]
  · simp [Scalar.select, IntOp.cmpi]
  · intro x _ hx
    have hne : BitVec.ofNat 32 x.val ≠ BitVec.ofNat 32 n := fun h => hx (Fin.ext (by
      have h2 := congrArg BitVec.toNat h
      rw [BitVec.toNat_ofNat, BitVec.toNat_ofNat, Nat.mod_eq_of_lt (by omega), Nat.mod_eq_of_lt (by omega)] at h2
      exact h2))
    rw [← beq_eq_false_iff_ne] at hne
    simp [Scalar.select, IntOp.cmpi, hne]
  · simp

/-- Adding one expert's share, at an index. -/
theorem pay4_at (i : grid0.Coords) (xb : Vec Ideal S512x1024 .bf16) (w1 w3 : Vec Ideal S1x1024x512 .bf16) (w2 : Vec Ideal S1x512x1024 .bf16)
    (g : Vec Ideal S512x128 .f32) (acc : Vec Ideal S512x1024 .f32) (r : Fin 512) (d : Fin 1024) (n : ℕ) (hi : (i 1).val = n) (hn : n < 128) :
    k0_pay4 i xb w1 w3 w2 g acc (ix2 r d) = acc (ix2 r d) + g (ix2 r ⟨n, hn⟩)
      * ∑ f : Fin 512, hid (fun k => xb (ix2 r k)) (fun k => w1 (ix3 0 k f)) (fun k => w3 (ix3 0 k f)) * w2 (ix3 0 f d) := by
  rw [← gate_at (fun l => g (ix2 r l)) n hn, ← hi]
  pointwise [k0_pay4, hid]

theorem pay3_at (r : Fin 512) (d : Fin 1024) : k0_pay3 (F := Ideal) (ix2 r d) = 0 := by
  pointwise [k0_pay3]

theorem pay2_at (x : Vec Ideal S512x1024 .f32) (r : Fin 512) (d : Fin 1024) : k0_pay2 x (ix2 r d) = x (ix2 r d) := by
  pointwise [k0_pay2]

theorem pay1_at (x acc : Vec Ideal S512x1024 .f32) (g b : Vec Ideal S1x1024 .f32) (r : Fin 512) (d : Fin 1024) :
    k0_pay1 x acc g b (ix2 r d)
      = ln (fun k => Ideal.ofBits .f32 0x3F9837F0#32 * x (ix2 r k) + acc (ix2 r k)) (g (ix2 0 d)) (b (ix2 0 d)) d := by
  pointwise [k0_pay1, ln]

/-- The share of the expert of a point, over the point's blocks. -/
theorem share (c : Dev nD) (t : Fin cfg0.N) (xb : Vec Ideal S512x1024 .bf16) (acc : Vec Ideal S512x1024 .f32)
    (hx : ∀ r k, xb (ix2 r k) = A0 m c (ix2 ⟨512 * (t.val / 16) + r.val, by have := lt t; omega⟩ k)) (r : Fin 512) (d : Fin 1024) :
    k0_pay4 (grid0.coords t) xb (iblk m c 2 t) (iblk m c 3 t) (iblk m c 4 t) (iblk m c 1 t) acc (ix2 r d)
      = acc (ix2 r d) + term (A0 m c) (A1 m c) (A2 m c) (A3 m c) (A4 m c) ⟨512 * (t.val / 16) + r.val, by have := lt t; omega⟩ d ⟨t.val % 16, by omega⟩ := by
  refine (pay4_at (grid0.coords t) xb _ _ _ _ acc r d (t.val % 16) (idx t).2.2.2.2.2.2.2.2 (by omega)).trans ?_
  unfold term
  refine congrArg (acc (ix2 r d) + ·) (congrArg₂ (· * ·) (iblk1 m c t r _) (Finset.sum_congr rfl fun f _ => ?_))
  refine congrArg₂ (· * ·) ?_ (iblk4 m c t f d)
  rw [show (fun k => xb (ix2 r k)) = fun k => A0 m c (ix2 ⟨512 * (t.val / 16) + r.val, by have := lt t; omega⟩ k) from funext fun k => hx r k]
  exact congrArg₂ (hid _) (funext fun k => iblk2 m c t k f) (funext fun k => iblk3 m c t k f)

/-- The shares of the experts of a list of numbers, up to a bound. -/
def upto (c : Dev nD) (r : Fin 16384) (d : Fin 1024) (n : ℕ) : EReal :=
  ∑ e ∈ Finset.range n, if h : e < 16 then term (A0 m c) (A1 m c) (A2 m c) (A3 m c) (A4 m c) r d ⟨e, h⟩ else 0

theorem upto_full (c : Dev nD) (r : Fin 16384) (d : Fin 1024) :
    upto m c r d 16 = ∑ e : Fin 16, term (A0 m c) (A1 m c) (A2 m c) (A3 m c) (A4 m c) r d e := by
  unfold upto
  rw [Finset.sum_range]
  exact Finset.sum_congr rfl fun e _ => dif_pos e.isLt

theorem upto_succ (c : Dev nD) (r : Fin 16384) (d : Fin 1024) (n : ℕ) (h : n < 16) :
    upto m c r d (n + 1) = upto m c r d n + term (A0 m c) (A1 m c) (A2 m c) (A3 m c) (A4 m c) r d ⟨n, h⟩ := by
  unfold upto
  rw [Finset.sum_range_succ, dif_pos h]

/-- What the two buffers hold after a point: the rows, and the shares of the experts so far. -/
theorem held (c : Dev nD) : ∀ (n : ℕ) (hn : n < cfg0.N) (r : Fin 512),
    (∀ k, (outsAt0 m c n hn).2.1 (ix2 r k) = A0 m c (ix2 ⟨512 * (n / 16) + r.val, by have := lt ⟨n, hn⟩; simp only at this; omega⟩ k))
    ∧ ∀ d, (outsAt0 m c n hn).2.2 (ix2 r d) = upto m c ⟨512 * (n / 16) + r.val, by have := lt ⟨n, hn⟩; simp only at this; omega⟩ d (n % 16 + 1) := by
  intro n
  induction n with
  | zero =>
    intro hn r
    have key := fun r k => (pay2_at (iblk m c 0 ⟨0, hn⟩) r k).trans (iblk0 m c ⟨0, hn⟩ r k)
    refine ⟨fun k => ?_, fun d => ?_⟩
    · rw [keepA m c ⟨0, hn⟩ rfl (fun h => absurd h (by show ¬(0 % 16 = 15); decide))]
      exact key r k
    · rw [accA m c ⟨0, hn⟩ rfl (fun h => absurd h (by show ¬(0 % 16 = 15); decide)), share m c ⟨0, hn⟩ _ _ key, pay3_at]
      exact (upto_succ m c _ d 0 (by omega)).symm
  | succ n ih =>
    intro hn r
    by_cases h0 : (n + 1) % 16 = 0
    · have h1 : ¬(n + 1) % 16 = 15 := by omega
      have key := fun r k => (pay2_at (iblk m c 0 ⟨n + 1, hn⟩) r k).trans (iblk0 m c ⟨n + 1, hn⟩ r k)
      refine ⟨fun k => ?_, fun d => ?_⟩
      · rw [keepA m c ⟨n + 1, hn⟩ h0 h1]
        exact key r k
      · rw [accA m c ⟨n + 1, hn⟩ h0 h1, share m c ⟨n + 1, hn⟩ _ _ key, pay3_at, upto_succ m c _ d ((n + 1) % 16) (by omega)]
        refine congrArg (· + _) ?_
        rw [h0]
        rfl
    · have hn' : n < cfg0.N := by omega
      have hd : (n + 1) / 16 = n / 16 := by omega
      have hm : (n + 1) % 16 = n % 16 + 1 := by omega
      have key : ∀ (r : Fin 512) (k : Fin 1024), (outsAt0 m c n hn').2.1 (ix2 r k) = A0 m c (ix2 ⟨512 * ((n + 1) / 16) + r.val, by have := lt ⟨n + 1, hn⟩; simp only at this; omega⟩ k) := fun r k => by
        rw [(ih hn' r).1 k]
        congr 2
        exact Fin.ext (by simp only [hd])
      refine ⟨fun k => ?_, fun d => ?_⟩
      · rw [keepB m c ⟨n + 1, hn⟩ h0]
        exact key r k
      · rw [accB m c ⟨n + 1, hn⟩ h0]
        refine (share m c ⟨n + 1, hn⟩ (outsAt0 m c n hn').2.1 (outsAt0 m c n hn').2.2 key r d).trans ?_
        rw [upto_succ m c _ d ((n + 1) % 16) (by omega)]
        refine congrArg (· + _) (((ih hn' r).2 d).trans ?_)
        rw [hm]
        congr 1
        exact Fin.ext (by simp only [hd])

/-- The array the kernel leaves. -/
def result (c : Dev nD) : FVec Ideal S16384x1024 .f32 := fun i => G (A0 m c) (A1 m c) (A2 m c) (A3 m c) (A4 m c) (A5 m c) (A6 m c) (i 0) (i 1)

theorem point (c : Dev nD) (t : Fin cfg0.N) (h1 : t.val % 16 = 15) (r : Fin 512) (d : Fin 1024) :
    (outsAt0 m c t.val t.isLt).1 (ix2 r d)
      = G (A0 m c) (A1 m c) (A2 m c) (A3 m c) (A4 m c) (A5 m c) (A6 m c) ⟨512 * (t.val / 16) + r.val, by have := lt t; omega⟩ d := by
  rw [outC m c t (by omega) h1]
  refine (pay1_at (iblk m c 0 t) _ (iblk m c 5 t) (iblk m c 6 t) r d).trans ?_
  unfold G
  have e : (fun k => Ideal.ofBits .f32 0x3F9837F0#32 * (show FVec Ideal S512x1024 .f32 from iblk m c 0 t) (ix2 r k) + (outsAt0 m c t.val t.isLt).2.2 (ix2 r k))
      = fun k => Ideal.ofBits .f32 0x3F9837F0#32 * A0 m c (ix2 ⟨512 * (t.val / 16) + r.val, by have := lt t; omega⟩ k)
        + ∑ e : Fin 16, term (A0 m c) (A1 m c) (A2 m c) (A3 m c) (A4 m c) ⟨512 * (t.val / 16) + r.val, by have := lt t; omega⟩ k e := funext fun k => by
    rw [iblk0 m c t r k, (held m c t.val t.isLt r).2 k, h1, ← upto_full]
  exact congrFun (congr (congr (congrArg ln e) (iblk5 m c t d)) (iblk6 m c t d)) d

theorem final (c : Dev nD) : (dats m 0 c).arrAt 7 (cfgs 0).N = result m c := by
  refine (dats m 0 c).arrAt_eq_of_covers 7 _ (by decide +kernel) fun t hf y => ?_
  blk_simp
  rw [after0_7]
  have h1 : t.val % 16 = 15 := (flush0_7 t).mp hf
  idx_vars y
  refine (point m c t h1 _ _).trans ?_
  unfold result
  congr 1 <;> exact Fin.ext (by blk_simp [idx t] <;> ring)

end Cert.ExpertsIdeal.Out
-- ==== Proof.ExpertsRef.lean ====
module

public import proofs.«01_k».proof.Proof.ExpertsSpec
public import proofs.«01_k».proof.Proof.Gen.ExpertsRefIdeal.Run
public import proofs.«01_k».proof.Proof.Gen.ExpertsRefIdeal.Read
public import Idealize.ShloMosaic.Lib.Pointwise

@[expose] public section

set_option maxRecDepth 16384
noncomputable section

open Idealize.ShloMosaic Idealize.ShloMosaic.TcCoe Idealize.SL.Sem

namespace Cert.ExpertsRefIdeal.Closed

open Cert.ExpertsRefIdeal Cert.ExpertsRefIdeal.Gen Cert.ExpertsRefIdeal.Read Cert.ExpertsSpec

variable (x0 : (⟨S16384x1024, .f32⟩ : BufTy).Contents (Elt Ideal)) (x1 : (⟨S16384x128, .f32⟩ : BufTy).Contents (Elt Ideal))
  (x2 x3 : (⟨S1x16x1024x512, .f32⟩ : BufTy).Contents (Elt Ideal)) (x4 : (⟨S1x16x512x1024, .f32⟩ : BufTy).Contents (Elt Ideal))
  (x5 x6 : (⟨S1x1024, .f32⟩ : BufTy).Contents (Elt Ideal))

/-! Each expert's share, as the reference computes it. -/

theorem e0 (r : Fin 16384) (d : Fin 1024) :
    val_main_v17 (F := Ideal) x0 x1 x2 x3 x4 (ix2 r d) = term x0 x1 x2 x3 x4 r d 0 := by
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_call0_v0, val_main_call0_v1, val_main_call0_cst, val_main_call0_v2, val_main_call0_v3, val_main_call0_cst_0, val_main_call0_v4, val_main_call0_v5, term, hid, Ideal.logistic]

theorem e1 (r : Fin 16384) (d : Fin 1024) :
    val_main_v35 (F := Ideal) x0 x1 x2 x3 x4 (ix2 r d) = term x0 x1 x2 x3 x4 r d 1 := by
  pointwise [val_main_v19, val_main_v20, val_main_v21, val_main_v22, val_main_v23, val_main_v24, val_main_v25, val_main_v26, val_main_v27, val_main_v28, val_main_v29, val_main_v30, val_main_v31, val_main_v32, val_main_v33, val_main_v34, val_main_v35, val_main_call1_v0, val_main_call1_v1, val_main_call1_cst, val_main_call1_v2, val_main_call1_v3, val_main_call1_cst_0, val_main_call1_v4, val_main_call1_v5, term, hid, Ideal.logistic]

theorem e2 (r : Fin 16384) (d : Fin 1024) :
    val_main_v53 (F := Ideal) x0 x1 x2 x3 x4 (ix2 r d) = term x0 x1 x2 x3 x4 r d 2 := by
  pointwise [val_main_v37, val_main_v38, val_main_v39, val_main_v40, val_main_v41, val_main_v42, val_main_v43, val_main_v44, val_main_v45, val_main_v46, val_main_v47, val_main_v48, val_main_v49, val_main_v50, val_main_v51, val_main_v52, val_main_v53, val_main_call2_v0, val_main_call2_v1, val_main_call2_cst, val_main_call2_v2, val_main_call2_v3, val_main_call2_cst_0, val_main_call2_v4, val_main_call2_v5, term, hid, Ideal.logistic]

theorem e3 (r : Fin 16384) (d : Fin 1024) :
    val_main_v71 (F := Ideal) x0 x1 x2 x3 x4 (ix2 r d) = term x0 x1 x2 x3 x4 r d 3 := by
  pointwise [val_main_v55, val_main_v56, val_main_v57, val_main_v58, val_main_v59, val_main_v60, val_main_v61, val_main_v62, val_main_v63, val_main_v64, val_main_v65, val_main_v66, val_main_v67, val_main_v68, val_main_v69, val_main_v70, val_main_v71, val_main_call3_v0, val_main_call3_v1, val_main_call3_cst, val_main_call3_v2, val_main_call3_v3, val_main_call3_cst_0, val_main_call3_v4, val_main_call3_v5, term, hid, Ideal.logistic]

theorem e4 (r : Fin 16384) (d : Fin 1024) :
    val_main_v89 (F := Ideal) x0 x1 x2 x3 x4 (ix2 r d) = term x0 x1 x2 x3 x4 r d 4 := by
  pointwise [val_main_v73, val_main_v74, val_main_v75, val_main_v76, val_main_v77, val_main_v78, val_main_v79, val_main_v80, val_main_v81, val_main_v82, val_main_v83, val_main_v84, val_main_v85, val_main_v86, val_main_v87, val_main_v88, val_main_v89, val_main_call4_v0, val_main_call4_v1, val_main_call4_cst, val_main_call4_v2, val_main_call4_v3, val_main_call4_cst_0, val_main_call4_v4, val_main_call4_v5, term, hid, Ideal.logistic]

theorem e5 (r : Fin 16384) (d : Fin 1024) :
    val_main_v107 (F := Ideal) x0 x1 x2 x3 x4 (ix2 r d) = term x0 x1 x2 x3 x4 r d 5 := by
  pointwise [val_main_v91, val_main_v92, val_main_v93, val_main_v94, val_main_v95, val_main_v96, val_main_v97, val_main_v98, val_main_v99, val_main_v100, val_main_v101, val_main_v102, val_main_v103, val_main_v104, val_main_v105, val_main_v106, val_main_v107, val_main_call5_v0, val_main_call5_v1, val_main_call5_cst, val_main_call5_v2, val_main_call5_v3, val_main_call5_cst_0, val_main_call5_v4, val_main_call5_v5, term, hid, Ideal.logistic]

theorem e6 (r : Fin 16384) (d : Fin 1024) :
    val_main_v125 (F := Ideal) x0 x1 x2 x3 x4 (ix2 r d) = term x0 x1 x2 x3 x4 r d 6 := by
  pointwise [val_main_v109, val_main_v110, val_main_v111, val_main_v112, val_main_v113, val_main_v114, val_main_v115, val_main_v116, val_main_v117, val_main_v118, val_main_v119, val_main_v120, val_main_v121, val_main_v122, val_main_v123, val_main_v124, val_main_v125, val_main_call6_v0, val_main_call6_v1, val_main_call6_cst, val_main_call6_v2, val_main_call6_v3, val_main_call6_cst_0, val_main_call6_v4, val_main_call6_v5, term, hid, Ideal.logistic]

theorem e7 (r : Fin 16384) (d : Fin 1024) :
    val_main_v143 (F := Ideal) x0 x1 x2 x3 x4 (ix2 r d) = term x0 x1 x2 x3 x4 r d 7 := by
  pointwise [val_main_v127, val_main_v128, val_main_v129, val_main_v130, val_main_v131, val_main_v132, val_main_v133, val_main_v134, val_main_v135, val_main_v136, val_main_v137, val_main_v138, val_main_v139, val_main_v140, val_main_v141, val_main_v142, val_main_v143, val_main_call7_v0, val_main_call7_v1, val_main_call7_cst, val_main_call7_v2, val_main_call7_v3, val_main_call7_cst_0, val_main_call7_v4, val_main_call7_v5, term, hid, Ideal.logistic]

theorem e8 (r : Fin 16384) (d : Fin 1024) :
    val_main_v161 (F := Ideal) x0 x1 x2 x3 x4 (ix2 r d) = term x0 x1 x2 x3 x4 r d 8 := by
  pointwise [val_main_v145, val_main_v146, val_main_v147, val_main_v148, val_main_v149, val_main_v150, val_main_v151, val_main_v152, val_main_v153, val_main_v154, val_main_v155, val_main_v156, val_main_v157, val_main_v158, val_main_v159, val_main_v160, val_main_v161, val_main_call8_v0, val_main_call8_v1, val_main_call8_cst, val_main_call8_v2, val_main_call8_v3, val_main_call8_cst_0, val_main_call8_v4, val_main_call8_v5, term, hid, Ideal.logistic]

theorem e9 (r : Fin 16384) (d : Fin 1024) :
    val_main_v179 (F := Ideal) x0 x1 x2 x3 x4 (ix2 r d) = term x0 x1 x2 x3 x4 r d 9 := by
  pointwise [val_main_v163, val_main_v164, val_main_v165, val_main_v166, val_main_v167, val_main_v168, val_main_v169, val_main_v170, val_main_v171, val_main_v172, val_main_v173, val_main_v174, val_main_v175, val_main_v176, val_main_v177, val_main_v178, val_main_v179, val_main_call9_v0, val_main_call9_v1, val_main_call9_cst, val_main_call9_v2, val_main_call9_v3, val_main_call9_cst_0, val_main_call9_v4, val_main_call9_v5, term, hid, Ideal.logistic]

theorem e10 (r : Fin 16384) (d : Fin 1024) :
    val_main_v197 (F := Ideal) x0 x1 x2 x3 x4 (ix2 r d) = term x0 x1 x2 x3 x4 r d 10 := by
  pointwise [val_main_v181, val_main_v182, val_main_v183, val_main_v184, val_main_v185, val_main_v186, val_main_v187, val_main_v188, val_main_v189, val_main_v190, val_main_v191, val_main_v192, val_main_v193, val_main_v194, val_main_v195, val_main_v196, val_main_v197, val_main_call10_v0, val_main_call10_v1, val_main_call10_cst, val_main_call10_v2, val_main_call10_v3, val_main_call10_cst_0, val_main_call10_v4, val_main_call10_v5, term, hid, Ideal.logistic]

theorem e11 (r : Fin 16384) (d : Fin 1024) :
    val_main_v215 (F := Ideal) x0 x1 x2 x3 x4 (ix2 r d) = term x0 x1 x2 x3 x4 r d 11 := by
  pointwise [val_main_v199, val_main_v200, val_main_v201, val_main_v202, val_main_v203, val_main_v204, val_main_v205, val_main_v206, val_main_v207, val_main_v208, val_main_v209, val_main_v210, val_main_v211, val_main_v212, val_main_v213, val_main_v214, val_main_v215, val_main_call11_v0, val_main_call11_v1, val_main_call11_cst, val_main_call11_v2, val_main_call11_v3, val_main_call11_cst_0, val_main_call11_v4, val_main_call11_v5, term, hid, Ideal.logistic]

theorem e12 (r : Fin 16384) (d : Fin 1024) :
    val_main_v233 (F := Ideal) x0 x1 x2 x3 x4 (ix2 r d) = term x0 x1 x2 x3 x4 r d 12 := by
  pointwise [val_main_v217, val_main_v218, val_main_v219, val_main_v220, val_main_v221, val_main_v222, val_main_v223, val_main_v224, val_main_v225, val_main_v226, val_main_v227, val_main_v228, val_main_v229, val_main_v230, val_main_v231, val_main_v232, val_main_v233, val_main_call12_v0, val_main_call12_v1, val_main_call12_cst, val_main_call12_v2, val_main_call12_v3, val_main_call12_cst_0, val_main_call12_v4, val_main_call12_v5, term, hid, Ideal.logistic]

theorem e13 (r : Fin 16384) (d : Fin 1024) :
    val_main_v251 (F := Ideal) x0 x1 x2 x3 x4 (ix2 r d) = term x0 x1 x2 x3 x4 r d 13 := by
  pointwise [val_main_v235, val_main_v236, val_main_v237, val_main_v238, val_main_v239, val_main_v240, val_main_v241, val_main_v242, val_main_v243, val_main_v244, val_main_v245, val_main_v246, val_main_v247, val_main_v248, val_main_v249, val_main_v250, val_main_v251, val_main_call13_v0, val_main_call13_v1, val_main_call13_cst, val_main_call13_v2, val_main_call13_v3, val_main_call13_cst_0, val_main_call13_v4, val_main_call13_v5, term, hid, Ideal.logistic]

theorem e14 (r : Fin 16384) (d : Fin 1024) :
    val_main_v269 (F := Ideal) x0 x1 x2 x3 x4 (ix2 r d) = term x0 x1 x2 x3 x4 r d 14 := by
  pointwise [val_main_v253, val_main_v254, val_main_v255, val_main_v256, val_main_v257, val_main_v258, val_main_v259, val_main_v260, val_main_v261, val_main_v262, val_main_v263, val_main_v264, val_main_v265, val_main_v266, val_main_v267, val_main_v268, val_main_v269, val_main_call14_v0, val_main_call14_v1, val_main_call14_cst, val_main_call14_v2, val_main_call14_v3, val_main_call14_cst_0, val_main_call14_v4, val_main_call14_v5, term, hid, Ideal.logistic]

theorem e15 (r : Fin 16384) (d : Fin 1024) :
    val_main_v287 (F := Ideal) x0 x1 x2 x3 x4 (ix2 r d) = term x0 x1 x2 x3 x4 r d 15 := by
  pointwise [val_main_v271, val_main_v272, val_main_v273, val_main_v274, val_main_v275, val_main_v276, val_main_v277, val_main_v278, val_main_v279, val_main_v280, val_main_v281, val_main_v282, val_main_v283, val_main_v284, val_main_v285, val_main_v286, val_main_v287, val_main_call15_v0, val_main_call15_v1, val_main_call15_cst, val_main_call15_v2, val_main_call15_v3, val_main_call15_cst_0, val_main_call15_v4, val_main_call15_v5, term, hid, Ideal.logistic]

/-- The sum of the sixteen shares. -/
theorem total (r : Fin 16384) (d : Fin 1024) :
    val_main_v288 (F := Ideal) x0 x1 x2 x3 x4 (ix2 r d) = ∑ e : Fin 16, term x0 x1 x2 x3 x4 r d e := by
  have hz : val_main_v0 (F := Ideal) (ix2 r d) = 0 := by pointwise [val_main_v0, val_main_cst]
  rw [val_main_v288_apply, val_main_v270_apply, val_main_v252_apply, val_main_v234_apply, val_main_v216_apply, val_main_v198_apply, val_main_v180_apply, val_main_v162_apply, val_main_v144_apply, val_main_v126_apply, val_main_v108_apply, val_main_v90_apply, val_main_v72_apply, val_main_v54_apply, val_main_v36_apply, val_main_v18_apply, hz, e0, e1, e2, e3, e4, e5, e6, e7, e8, e9, e10, e11, e12, e13, e14, e15]
  simp only [Fin.sum_univ_succ, Fin.sum_univ_zero, add_zero]
  change (((((((((((((((((0 : EReal) + _) + _) + _) + _) + _) + _) + _) + _) + _) + _) + _) + _) + _) + _) + _) + _) = _
  rw [zero_add]
  simp only [add_assoc]
  rfl

/-- The reference's result, at an index. -/
theorem closed (r : Fin 16384) (d : Fin 1024) :
    val_main_v317 (F := Ideal) x0 x1 x2 x3 x4 x5 x6 (ix2 r d) = G x0 x1 x2 x3 x4 x5 x6 r d := by
  unfold G
  simp only [← total]
  generalize hy : val_main_v288 (F := Ideal) x0 x1 x2 x3 x4 = Y
  pointwise [val_main_v289, val_main_v290, val_main_v291, val_main_v292, val_main_v293, val_main_v294, val_main_v295, val_main_v296, val_main_v297, val_main_v298, val_main_v299, val_main_v300, val_main_v301, val_main_v302, val_main_v303, val_main_v304, val_main_v305, val_main_v306, val_main_v307, val_main_v308, val_main_v309, val_main_v310, val_main_v311, val_main_v312, val_main_v313, val_main_v314, val_main_v315, val_main_v316, val_main_v317, val_main_cst_0, val_main_cst_1, val_main_cst_2, val_main_cst_3, val_main_cst_4, val_main_cst_5, hy, ln]

end Cert.ExpertsRefIdeal.Closed
-- ==== Proof.ExpertsClaim.lean ====
module

public import proofs.«01_k».proof.Defs
public import proofs.«01_k».proof.Proof.ExpertsOut
public import proofs.«01_k».proof.Proof.ExpertsRef

@[expose] public section

set_option maxRecDepth 16384
noncomputable section

open Idealize.ShloMosaic Idealize.ShloMosaic.TcCoe Idealize.SL.Sem

namespace Cert.ExpertsClaim

open Cert.ExpertsIdeal.Out in
theorem algebraic : Cert.algebraic_ExpertsIdeal_ExpertsRefIdeal
    (hExpertsIdeal := Cert.ExpertsIdeal.Gen.facts) (hExpertsRefIdeal := Cert.ExpertsRefIdeal.Gen.facts) := by
  intro m ρ m' ρ' _ hag
  refine ⟨fun c => result m c, (θ_run _ _ _).mono (fun _ h c => ⟨(h c).1.trans (final m c), (h c).2⟩) (Cert.ExpertsIdeal.Value.run_blocks m ρ),
    (θ_run _ _ _).mono (fun _ h c => ⟨(h c).1.trans ?_, (h c).2⟩) (Cert.ExpertsRefIdeal.Value.run m' ρ')⟩
  have h0 : StableHlo.launchContents m' c (Proc.tc.devRef Cert.ExpertsRefIdeal.main_arg0) = A0 m c := (hag c).1
  have h1 : StableHlo.launchContents m' c (Proc.tc.devRef Cert.ExpertsRefIdeal.main_arg1) = A1 m c := (hag c).2.1
  have h2 : StableHlo.launchContents m' c (Proc.tc.devRef Cert.ExpertsRefIdeal.main_arg2) = A2 m c := (hag c).2.2.1
  have h3 : StableHlo.launchContents m' c (Proc.tc.devRef Cert.ExpertsRefIdeal.main_arg3) = A3 m c := (hag c).2.2.2.1
  have h4 : StableHlo.launchContents m' c (Proc.tc.devRef Cert.ExpertsRefIdeal.main_arg4) = A4 m c := (hag c).2.2.2.2.1
  have h5 : StableHlo.launchContents m' c (Proc.tc.devRef Cert.ExpertsRefIdeal.main_arg5) = A5 m c := (hag c).2.2.2.2.2.1
  have h6 : StableHlo.launchContents m' c (Proc.tc.devRef Cert.ExpertsRefIdeal.main_arg6) = A6 m c := (hag c).2.2.2.2.2.2
  rw [Cert.ExpertsRefIdeal.Read.val_main_v317_eq, h0, h1, h2, h3, h4, h5, h6]
  funext i
  idx_vars i
  exact Cert.ExpertsRefIdeal.Closed.closed _ _ _ _ _ _ _ _ _

end Cert.ExpertsClaim
-- ==== Proof.InprojSpec.lean ====
module

public import Idealize.ShloMosaic.Lib.Pointwise

@[expose] public section

noncomputable section

open Idealize.ShloMosaic

namespace Cert.InprojSpec

/-- One row of the input projection: a row of the input against the columns of the weights. -/
def row (x : Fin 1024 → EReal) (w : Fin 1024 → Fin 5128 → EReal) (j : Fin 5128) : EReal := ∑ k : Fin 1024, x k * w k j

/-- The gated input of the short convolution. -/
def gated (h : Fin 5128 → EReal) (j : Fin 512) : EReal := h ⟨1024 + j.val, by omega⟩ * h ⟨j.val, by omega⟩

def keys (h : Fin 5128 → EReal) (j : Fin 512) : EReal := h ⟨2048 + j.val, by omega⟩

def vals (h : Fin 5128 → EReal) (j : Fin 512) : EReal := h ⟨2560 + j.val, by omega⟩

/-- The logarithm of the logistic function. -/
def lsig (z : EReal) : EReal := min z 0 - Ideal.log1p (Ideal.exp (0 - max z (-z)))

def forget (h : Fin 5128 → EReal) (b : Fin 8 → EReal) (i : Fin 8) : EReal := lsig (h ⟨3072 + i.val, by omega⟩ + b i)

/-- The short convolution of a row and the two rows before it, times its gate. -/
def conv (h : Fin 5128 → EReal) (cw : Fin 3 → Fin 512 → EReal) (p2 p1 : Fin 512 → EReal) (j : Fin 512) : EReal :=
  h ⟨512 + j.val, by omega⟩ * (cw 0 j * p2 j + cw 1 j * p1 j + cw 2 j * gated h j)

/-- The convolution branch, times the first output gate. -/
def branch (h : Fin 5128 → EReal) (cw : Fin 3 → Fin 512 → EReal) (p2 p1 : Fin 512 → EReal) (wo : Fin 512 → Fin 1024 → EReal) (d : Fin 1024) : EReal :=
  Ideal.logistic (h ⟨3080 + d.val, by omega⟩) * ∑ j : Fin 512, conv h cw p2 p1 j * wo j d

def gateB (h : Fin 5128 → EReal) (d : Fin 1024) : EReal := Ideal.logistic (h ⟨4104 + d.val, by omega⟩)

theorem log1p_exp_ne_bot (z : EReal) : Ideal.log1p (Ideal.exp z) ≠ ⊥ := by
  induction z with
  | bot =>
    show Ideal.log (1 + 0) ≠ ⊥
    rw [add_zero]
    show (if (1 : ℝ) ≤ 0 then (⊥ : EReal) else (Real.log 1 : ℝ)) ≠ ⊥
    rw [if_neg (by norm_num)]
    exact EReal.coe_ne_bot _
  | top =>
    show Ideal.log (1 + ⊤) ≠ ⊥
    rw [EReal.add_top_of_ne_bot (show (1 : EReal) ≠ ⊥ from EReal.coe_ne_bot 1)]
    exact (bot_ne_top (α := EReal)).symm
  | coe r =>
    have h : (1 : EReal) + ((Real.exp r : ℝ) : EReal) = ((1 + Real.exp r : ℝ) : EReal) := by norm_cast
    have p := Real.exp_pos r
    show Ideal.log (1 + ((Real.exp r : ℝ) : EReal)) ≠ ⊥
    rw [h]
    show (if 1 + Real.exp r ≤ 0 then (⊥ : EReal) else (Real.log (1 + Real.exp r) : ℝ)) ≠ ⊥
    rw [if_neg (by linarith)]
    exact EReal.coe_ne_bot _

/-- The other way of writing it: minus the logarithm of one plus the exponential of the negated argument. -/
theorem lsig_eq (z : EReal) : -(max (-z) 0 + Ideal.log1p (Ideal.exp (-(max (-z) (-(-z)))))) = lsig z := by
  have hm : max (-z) 0 ≠ ⊥ := fun h => by
    have := le_max_right (-z) (0 : EReal)
    rw [h] at this
    simp at this
  have hn : -(max (-z) 0) = min z 0 := by
    rw [EReal.neg_strictAnti.antitone.map_max, neg_neg, neg_zero]
  rw [EReal.neg_add (Or.inl hm) (Or.inr (log1p_exp_ne_bot _)), hn, neg_neg, max_comm (-z) z]
  unfold lsig
  rw [zero_sub]

end Cert.InprojSpec
-- ==== Proof.InprojBlocks.lean ====
module

public import proofs.«01_k».proof.Proof.InprojSpec
public import proofs.«01_k».proof.Proof.Gen.InprojIdeal.Value
public import Idealize.ShloMosaic.Lib.Pipeline.ValueKit
public import Idealize.ShloMosaic.Lib.Pointwise

@[expose] public section

set_option maxRecDepth 16384
noncomputable section

open Idealize.ShloMosaic Idealize.ShloMosaic.TcCoe Idealize.SL.Sem
open Idealize.ShloMosaic.Pipeline (Dat)

namespace Cert.InprojIdeal.Out

open Cert.InprojIdeal Cert.InprojIdeal.Gen Cert.InprojSpec

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![0, 0]
    ∧ win0_15.index t = ![t.val, 0] ∧ win0_16.index t = ![t.val, 0] ∧ win0_19.index t = ![t.val, 0]
    ∧ win0_20.index t = ![t.val, 0] ∧ win0_21.index t = ![t.val, 0] ∧ win0_22.index t = ![t.val / 16, 0, 0] :=
  (by decide +kernel : ∀ t : Fin grid0.N, _)

theorem lt (t : Fin cfg0.N) : t.val < 64 := t.isLt

abbrev A0 (c : Dev nD) : FVec Ideal S4x4096x1024 .f32 := m ((c : Thread nD τ).loc main_arg0)
abbrev A1 (c : Dev nD) : FVec Ideal S1x1024x5128 .f32 := m ((c : Thread nD τ).loc main_arg1)
abbrev A2 (c : Dev nD) : FVec Ideal S1x8 .f32 := m ((c : Thread nD τ).loc main_arg2)
abbrev A3 (c : Dev nD) : FVec Ideal S1x3x512 .f32 := m ((c : Thread nD τ).loc main_arg3)
abbrev A4 (c : Dev nD) : FVec Ideal S1x512x1024 .f32 := m ((c : Thread nD τ).loc main_arg4)

theorem v7 (c : Dev nD) : V m c main_v7 = concatenate S1024x2560 1 [⟨S1024x1536, (extractStridedSlice S1024x1536 ![0, 0] (truncf .bf16 (shapeCast S1024x5128 (A1 m c) shapeCasts_S1x1024x5128_S1024x5128) bitsLt_bf16_f32) slices_S1024x5128_S1024x1536_0_0 : FVec Ideal S1024x1536 .bf16)⟩,
      ⟨S1024x1024, (extractStridedSlice S1024x1024 ![0, 2048] (truncf .bf16 (shapeCast S1024x5128 (A1 m c) shapeCasts_S1x1024x5128_S1024x5128) bitsLt_bf16_f32) slices_S1024x5128_S1024x1024_0_2048 : FVec Ideal S1024x1024 .bf16)⟩] concatenates_S1024x1536_S1024x1024_S1024x2560_d1 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  refine congrArg₂ (fun a b => concatenate S1024x2560 1 [⟨S1024x1536, a⟩, ⟨S1024x1024, b⟩] concatenates_S1024x1536_S1024x1024_S1024x2560_d1) ?_ ?_
  · after_results_simp
    rfl
  · after_results_simp
    rfl

theorem v13 (c : Dev nD) : V m c main_v13 = pad S1024x128 ![0, 0] ![0, 120] ![0, 0] (extractStridedSlice S1024x8 ![0, 3072] (truncf .bf16 (shapeCast S1024x5128 (A1 m c) shapeCasts_S1x1024x5128_S1024x5128) bitsLt_bf16_f32) slices_S1024x5128_S1024x8_0_3072 : FVec Ideal S1024x8 .bf16)
      (sitofp .bf16 (constantI S_ 32 0#32)) pads_S1024x8_S1024x128_000_01200 h_S_ := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  rfl

theorem v14 (c : Dev nD) : V m c main_v14 = extractStridedSlice S1024x2048 ![0, 3080] (truncf .bf16 (shapeCast S1024x5128 (A1 m c) shapeCasts_S1x1024x5128_S1024x5128) bitsLt_bf16_f32) slices_S1024x5128_S1024x2048_0_3080 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  rfl

theorem v16 (c : Dev nD) : V m c main_v16 = shapeCast S1x128 (pad S128 ![0] ![120] ![0] (shapeCast S8 (A2 m c) shapeCasts_S1x8_S8) (sitofp .f32 (constantI S_ 32 0#32)) pads_S8_S128_01200 h_S_ : FVec Ideal S128 .f32) shapeCasts_S128_S1x128 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  rfl

theorem v88 (c : Dev nD) : V m c main_v88 = shapeCast S16384x1024 (A0 m c) shapeCasts_S4x4096x1024_S16384x1024 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  rfl

theorem v2 (c : Dev nD) : V m c main_v2 = shapeCast S3x512 (A3 m c) shapeCasts_S1x3x512_S3x512 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  rfl

theorem v84 (c : Dev nD) : V m c main_v84 = truncf .bf16 (shapeCast S512x1024 (A4 m c) shapeCasts_S1x512x1024_S512x1024) bitsLt_bf16_f32 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  rfl

theorem iblk0 (c : Dev nD) (t : Fin cfg0.N) (r : Fin 256) (k : Fin 1024) :
    (show FVec Ideal S256x1024 .f32 from iblk m c 0 t) (ix2 r k) = A0 m c (ix3 ⟨(256 * t.val + r.val) / 4096, by have := lt t; omega⟩ ⟨(256 * t.val + r.val) % 4096, by omega⟩ k) := by
  have e : (show FVec Ideal S256x1024 .f32 from iblk m c 0 t) (ix2 r k) = (show FVec Ideal S16384x1024 .f32 from V m c main_v88) (ix2 ⟨256 * t.val + r.val, by have := lt t; omega⟩ k) := by
    show _ = (V m c main_v88) (ix2 _ _)
    blk_ext [iblk, idx t]
  rw [e, v88]
  pointwise

theorem iblk1 (c : Dev nD) (t : Fin cfg0.N) (k : Fin 1024) (j : Fin 2560) :
    (show FVec Ideal S1024x2560 .bf16 from iblk m c 1 t) (ix2 k j) = A1 m c (ix3 0 k (if h : j.val < 1536 then ⟨j.val, by omega⟩ else ⟨512 + j.val, by omega⟩)) := by
  have e : (show FVec Ideal S1024x2560 .bf16 from iblk m c 1 t) (ix2 k j) = (show FVec Ideal S1024x2560 .bf16 from V m c main_v7) (ix2 k j) := by
    show _ = (V m c main_v7) (ix2 _ _)
    blk_ext [iblk, idx t]
  rw [e, v7]
  pointwise
  split
  · rfl
  · congr 2
    exact Fin.ext (by simp only; omega)

theorem iblk3 (c : Dev nD) (t : Fin cfg0.N) (k : Fin 1024) (j : Fin 8) :
    (show FVec Ideal S1024x128 .bf16 from iblk m c 3 t) (ix2 k ⟨j.val, by omega⟩) = A1 m c (ix3 0 k ⟨3072 + j.val, by omega⟩) := by
  have e : (show FVec Ideal S1024x128 .bf16 from iblk m c 3 t) (ix2 k ⟨j.val, by omega⟩) = (show FVec Ideal S1024x128 .bf16 from V m c main_v13) (ix2 k ⟨j.val, by omega⟩) := by
    show _ = (V m c main_v13) (ix2 _ _)
    blk_ext [iblk, idx t]
  rw [e, v13]
  pointwise

theorem iblk4 (c : Dev nD) (t : Fin cfg0.N) (k : Fin 1024) (j : Fin 2048) :
    (show FVec Ideal S1024x2048 .bf16 from iblk m c 4 t) (ix2 k j) = A1 m c (ix3 0 k ⟨3080 + j.val, by omega⟩) := by
  have e : (show FVec Ideal S1024x2048 .bf16 from iblk m c 4 t) (ix2 k j) = (show FVec Ideal S1024x2048 .bf16 from V m c main_v14) (ix2 k j) := by
    show _ = (V m c main_v14) (ix2 _ _)
    blk_ext [iblk, idx t]
  rw [e, v14]
  pointwise

theorem iblk5 (c : Dev nD) (t : Fin cfg0.N) (j : Fin 8) :
    (show FVec Ideal S1x128 .f32 from iblk m c 5 t) (ix2 0 ⟨j.val, by omega⟩) = A2 m c (ix2 0 j) := by
  have e : (show FVec Ideal S1x128 .f32 from iblk m c 5 t) (ix2 0 ⟨j.val, by omega⟩) = (show FVec Ideal S1x128 .f32 from V m c main_v16) (ix2 0 ⟨j.val, by omega⟩) := by
    show _ = (V m c main_v16) (ix2 _ _)
    blk_ext [iblk, idx t]
  rw [e, v16]
  pointwise

theorem iblk6 (c : Dev nD) (t : Fin cfg0.N) (a : Fin 3) (j : Fin 512) :
    (show FVec Ideal S3x512 .f32 from iblk m c 6 t) (ix2 a j) = A3 m c (ix3 0 a j) := by
  have e : (show FVec Ideal S3x512 .f32 from iblk m c 6 t) (ix2 a j) = (show FVec Ideal S3x512 .f32 from V m c main_v2) (ix2 a j) := by
    show _ = (V m c main_v2) (ix2 _ _)
    blk_ext [iblk, idx t]
  rw [e, v2]
  pointwise

theorem iblk7 (c : Dev nD) (t : Fin cfg0.N) (j : Fin 512) (d : Fin 1024) :
    (show FVec Ideal S512x1024 .bf16 from iblk m c 7 t) (ix2 j d) = A4 m c (ix3 0 j d) := by
  have e : (show FVec Ideal S512x1024 .bf16 from iblk m c 7 t) (ix2 j d) = (show FVec Ideal S512x1024 .bf16 from V m c main_v84) (ix2 j d) := by
    show _ = (V m c main_v84) (ix2 _ _)
    blk_ext [iblk, idx t]
  rw [e, v84]
  pointwise

/-- The projected row of a row of a block. -/
def H (c : Dev nD) (t : Fin cfg0.N) (r : Fin 256) : Fin 5128 → EReal :=
  row (fun k => A0 m c (ix3 ⟨(256 * t.val + r.val) / 4096, by have := lt t; omega⟩ ⟨(256 * t.val + r.val) % 4096, by omega⟩ k)) (fun k j => A1 m c (ix3 0 k j))

theorem ld1 (c : Dev nD) (t : Fin cfg0.N) (o : ℕ) (inb : ∀ a, (![0, o] : Fin 2 → ℕ) a + (![1024, 512] : Fin 2 → ℕ) a ≤ S1024x2560.size a) (k : Fin 1024) (j : Fin 512) (ho : o + 512 ≤ 2560) :
    View.ld (iblk m c 1 t) (Rect.unit (s := S1024x2560) ![0, o] ![1024, 512] inb) (ix2 k j) = (show FVec Ideal S1024x2560 .bf16 from iblk m c 1 t) (ix2 k ⟨o + j.val, by omega⟩) := by
  pointwise

theorem ld4 (c : Dev nD) (t : Fin cfg0.N) (o : ℕ) (inb : ∀ a, (![0, o] : Fin 2 → ℕ) a + (![1024, 1024] : Fin 2 → ℕ) a ≤ S1024x2048.size a) (k : Fin 1024) (j : Fin 1024) (ho : o + 1024 ≤ 2048) :
    View.ld (iblk m c 4 t) (Rect.unit (s := S1024x2048) ![0, o] ![1024, 1024] inb) (ix2 k j) = (show FVec Ideal S1024x2048 .bf16 from iblk m c 4 t) (ix2 k ⟨o + j.val, by omega⟩) := by
  pointwise

end Cert.InprojIdeal.Out
-- ==== Proof.InprojRef.lean ====
module

public import proofs.«01_k».proof.Proof.InprojSpec
public import proofs.«01_k».proof.Proof.Gen.InprojRefIdeal.Read

@[expose] public section

set_option maxRecDepth 16384
noncomputable section

open Idealize.ShloMosaic

namespace Cert.InprojRefIdeal.Closed

open Cert.InprojRefIdeal Cert.InprojRefIdeal.Read Cert.InprojSpec

variable (x0 : FVec Ideal S4x4096x1024 .f32) (x1 : FVec Ideal S1x1024x5128 .f32) (x2 : FVec Ideal S1x8 .f32)
  (x3 : FVec Ideal S1x3x512 .f32) (x4 : FVec Ideal S1x512x1024 .f32)

/-- The projected row of a new token of a sequence. -/
def hrow (s : Fin 4) (p : Fin 4096) : Fin 5128 → EReal := row (fun k => x0 (ix3 s p k)) (fun k j => x1 (ix3 0 k j))

/-- The gated inputs of a sequence, after two rows of zeros. -/
def ext (s : Fin 4) (q : ℕ) (j : Fin 512) : EReal :=
  if h : 2 ≤ q ∧ q < 4098 then gated (hrow x0 x1 s ⟨q - 2, by omega⟩) j else 0

abbrev sq (r : Fin 16384) : Fin 4 := ⟨r.val / 4096, by omega⟩
abbrev po (r : Fin 16384) : Fin 4096 := ⟨r.val % 4096, by omega⟩

theorem v1_at (s : Fin 4) (p : Fin 4096) (j : Fin 5128) : val_main_v1 (F := Ideal) x0 x1 (ix3 s p j) = hrow x0 x1 s p j := by
  pointwise [val_main_v1, val_main_v0, hrow, row]

theorem v11_at (s : Fin 4) (p : Fin 4096) (j : Fin 512) : val_main_v11 (F := Ideal) x0 x1 (ix3 s p j) = gated (hrow x0 x1 s p) j := by
  pointwise [val_main_v11, val_main_v4, val_main_v2]
  rw [v1_at, v1_at]
  rfl

theorem v13_at (s : Fin 4) (q : Fin 4098) (j : Fin 512) : val_main_v13 (F := Ideal) x0 x1 (ix3 s q j) = ext x0 x1 s q.val j := by
  pointwise [val_main_v13, val_main_v12, val_main_cst]
  unfold ext
  split
  · rw [dif_neg (by omega)]
  · rw [v11_at, dif_pos (by omega)]

theorem keys_at (r : Fin 16384) (j : Fin 512) : val_main_v43 (F := Ideal) x0 x1 (ix2 r j) = keys (hrow x0 x1 (sq r) (po r)) j := by
  pointwise [val_main_v43, val_main_v6]
  rw [v1_at]
  rfl

theorem vals_at (r : Fin 16384) (j : Fin 512) : val_main_v44 (F := Ideal) x0 x1 (ix2 r j) = vals (hrow x0 x1 (sq r) (po r)) j := by
  pointwise [val_main_v44, val_main_v7]
  rw [v1_at]
  rfl

theorem forget_at (r : Fin 16384) (j : Fin 8) : val_main_v45 (F := Ideal) x0 x1 x2 (ix2 r j) = forget (hrow x0 x1 (sq r) (po r)) (fun i => x2 (ix2 0 i)) j := by
  pointwise [val_main_v45, val_main_v42, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v41, val_main_v40, val_main_v39, val_main_v38, val_main_v8]
  rw [v1_at, if_neg (by simp)]
  exact lsig_eq _

theorem v35_at (s : Fin 4) (p : Fin 4096) (j : Fin 512) : val_main_v35 (F := Ideal) x0 x1 x3 (ix3 s p j)
    = conv (hrow x0 x1 s p) (fun a j => x3 (ix3 0 a j)) (ext x0 x1 s p.val) (ext x0 x1 s (p.val + 1)) j := by
  pointwise [val_main_v35, val_main_v34, val_main_v33, val_main_v27, val_main_v26, val_main_v20, val_main_v30, val_main_v23, val_main_v17, val_main_v3,
    val_main_v32, val_main_v31, val_main_v29, val_main_v28, val_main_v25, val_main_v24, val_main_v22, val_main_v21, val_main_v19, val_main_v18, val_main_v16, val_main_v15, val_main_v14]
  rw [v1_at, v13_at, v13_at, v13_at]
  unfold conv
  refine congrArg (_ * ·) (congrArg₂ (· + ·) (congrArg₂ (· + ·) rfl (congrArg (_ * ·) ?_)) (congrArg (_ * ·) ?_))
  · show ext x0 x1 s (1 + p.val) j = _
    rw [Nat.add_comm]
  · have h := p.isLt
    unfold ext
    rw [dif_pos (by show 2 ≤ 2 + p.val ∧ 2 + p.val < 4098; omega)]
    congr 2
    exact Fin.ext (by simp)

theorem branch_at (r : Fin 16384) (d : Fin 1024) : val_main_v53 (F := Ideal) x0 x1 x3 x4 (ix2 r d)
    = branch (hrow x0 x1 (sq r) (po r)) (fun a j => x3 (ix3 0 a j)) (ext x0 x1 (sq r) (r.val % 4096)) (ext x0 x1 (sq r) (r.val % 4096 + 1)) (fun j d => x4 (ix3 0 j d)) d := by
  pointwise [val_main_v53, val_main_v52, val_main_v51, val_main_v50, val_main_v49, val_main_v48, val_main_v47, val_main_v46, val_main_v9, val_main_v37, val_main_v36]
  unfold branch
  refine congrArg₂ (· * ·) ?_ (Finset.sum_congr rfl fun j _ => ?_)
  · rw [v1_at]
    pointwise [val_main_cst_0, val_main_cst_1]
    rfl
  · rw [v35_at]

theorem gate_at (r : Fin 16384) (d : Fin 1024) : val_main_v60 (F := Ideal) x0 x1 (ix2 r d) = gateB (hrow x0 x1 (sq r) (po r)) d := by
  pointwise [val_main_v60, val_main_v59, val_main_v58, val_main_v57, val_main_v56, val_main_v55, val_main_v54, val_main_v10]
  rw [v1_at]
  pointwise [val_main_cst_2, val_main_cst_3]
  rfl

theorem tail_at (s : Fin 4) (e : Fin 8) (d : Fin 512) : val_main_v61 (F := Ideal) x0 x1 (ix3 s e d) = gated (hrow x0 x1 s ⟨4088 + e.val, by omega⟩) d := by
  pointwise [val_main_v61]
  rw [v11_at]

end Cert.InprojRefIdeal.Closed
-- ==== Proof.InprojBuf.lean ====
module

public import Idealize.ShloMosaic.Lib.Pipeline.ValueKit
public import Idealize.ShloMosaic.Lib.Pointwise

@[expose] public section

noncomputable section

open Idealize.ShloMosaic Idealize.SL.Sem

namespace Cert.InprojBuf

abbrev SB : Shape := ⟨2, ![264, 512]⟩

/-- The buffer of rows, read some rows up: eight rows below, the block's own rows above. -/
theorem low (P8 : (⟨2, ![256, 512]⟩ : Shape).Idx → Elt Ideal .f32) (L : List (View.Piece (Elt Ideal) SB .f32)) (inb8 : ∀ a, (![8, 0] : Fin 2 → ℕ) a + (![256, 512] : Fin 2 → ℕ) a ≤ SB.size a)
    (i : SB.Idx) (h : (i 0).val < 8) :
    View.canon ((⟨Rect.unit (s := SB) ![8, 0] ![256, 512] inb8, P8⟩ : View.Piece (Elt Ideal) SB .f32) :: L) i = View.canon L i := by
  refine View.canon_cons_of_not_mem _ _ fun hm => ?_
  have h8 : 8 ≤ (i 0).val := ((Rect.mem_set_unit (inb := inb8)).1 hm 0).1
  omega

theorem high (P8 : (⟨2, ![256, 512]⟩ : Shape).Idx → Elt Ideal .f32) (L : List (View.Piece (Elt Ideal) SB .f32)) (inb8 : ∀ a, (![8, 0] : Fin 2 → ℕ) a + (![256, 512] : Fin 2 → ℕ) a ≤ SB.size a)
    (i : SB.Idx) (r : Fin 256) (j : Fin 512) (h0 : (i 0).val = 8 + r.val) (h1 : (i 1).val = j.val) :
    View.canon ((⟨Rect.unit (s := SB) ![8, 0] ![256, 512] inb8, P8⟩ : View.Piece (Elt Ideal) SB .f32) :: L) i = P8 (ix2 r j) := by
  have he : i = (Rect.unit (s := SB) ![8, 0] ![256, 512] inb8).emb (ix2 r j) := by
    funext a
    refine Fin.ext ?_
    match a with
    | 0 => exact h0.trans (by show _ = 8 + 1 * r.val; omega)
    | 1 => exact h1.trans (by show _ = 0 + 1 * j.val; omega)
  rw [he]
  exact View.canon_cons_emb _ _ _ _

theorem first (P0 : (⟨2, ![8, 512]⟩ : Shape).Idx → Elt Ideal .f32) (L : List (View.Piece (Elt Ideal) SB .f32)) (inb0 : ∀ a, (![0, 0] : Fin 2 → ℕ) a + (![8, 512] : Fin 2 → ℕ) a ≤ SB.size a)
    (i : SB.Idx) (r : Fin 8) (j : Fin 512) (h0 : (i 0).val = r.val) (h1 : (i 1).val = j.val) :
    View.canon ((⟨Rect.unit (s := SB) ![0, 0] ![8, 512] inb0, P0⟩ : View.Piece (Elt Ideal) SB .f32) :: L) i = P0 (ix2 r j) := by
  have he : i = (Rect.unit (s := SB) ![0, 0] ![8, 512] inb0).emb (ix2 r j) := by
    funext a
    refine Fin.ext ?_
    match a with
    | 0 => exact h0.trans (by show _ = 0 + 1 * r.val; omega)
    | 1 => exact h1.trans (by show _ = 0 + 1 * j.val; omega)
  rw [he]
  exact View.canon_cons_emb _ _ _ _

end Cert.InprojBuf
-- ==== Proof.InprojOut.lean ====
module

public import proofs.«01_k».proof.Proof.InprojBlocks
public import proofs.«01_k».proof.Proof.InprojRef
public import proofs.«01_k».proof.Proof.InprojBuf
public import Idealize.ShloMosaic.Lib.WritesUnit

@[expose] public section

set_option maxRecDepth 16384
noncomputable section

open Idealize.ShloMosaic Idealize.ShloMosaic.TcCoe Idealize.SL.Sem
open Idealize.ShloMosaic.Pipeline (Dat)

namespace Cert.InprojIdeal.Out

open Cert.InprojIdeal Cert.InprojIdeal.Gen Cert.InprojSpec
open Cert.InprojRefIdeal.Closed (hrow ext sq po)

variable (m : (ℓ : Loc nD τ sig) → Buf (Elt Ideal) ℓ)

theorem pay13_at (x : Vec Ideal S256x1024 .f32) (w : Vec Ideal S1024x512 .bf16) (r : Fin 256) (j : Fin 512) :
    k0_pay13 (k0_pay3 x) (k0_pay12 w) (ix2 r j) = ∑ k : Fin 1024, x (ix2 r k) * w (ix2 k j) := by
  pointwise [k0_pay13, k0_pay3, k0_pay12]

theorem pay14_at (x : Vec Ideal S256x1024 .f32) (w : Vec Ideal S1024x512 .bf16) (r : Fin 256) (j : Fin 512) :
    k0_pay14 (k0_pay3 x) w (ix2 r j) = ∑ k : Fin 1024, x (ix2 r k) * w (ix2 k j) := by
  pointwise [k0_pay14, k0_pay3]

theorem pay4_at (x : Vec Ideal S256x1024 .f32) (w : Vec Ideal S1024x512 .bf16) (r : Fin 256) (j : Fin 512) :
    k0_pay4 x w (ix2 r j) = ∑ k : Fin 1024, x (ix2 r k) * w (ix2 k j) := by
  pointwise [k0_pay4, k0_pay3]

theorem pay5_at (x : Vec Ideal S256x1024 .f32) (w w' : Vec Ideal S1024x512 .bf16) (r : Fin 256) (j : Fin 512) :
    k0_pay5 x w w' (ix2 r j) = (∑ k : Fin 1024, x (ix2 r k) * w' (ix2 k j)) * ∑ k : Fin 1024, x (ix2 r k) * w (ix2 k j) := by
  pointwise [k0_pay5, k0_pay3]

theorem pay7_at (x : Vec Ideal S256x1024 .f32) (w w' : Vec Ideal S1024x512 .bf16) (r : Fin 256) (j : Fin 512) :
    k0_pay7 x w w' (ix2 r j) = k0_pay5 x w w' (ix2 r j) := by
  pointwise [k0_pay7]

theorem pay9_at (x : Vec Ideal S256x1024 .f32) (w w' : Vec Ideal S1024x512 .bf16) (e : Fin 8) (j : Fin 512) :
    k0_pay9 (k0_pay8 x w w') (ix2 e j) = k0_pay5 x w w' (ix2 ⟨248 + e.val, by omega⟩ j) := by
  pointwise [k0_pay9, k0_pay8]

theorem pay10_at (u : FVec Ideal S256x512 .f32) (e : Fin 8) (j : Fin 512) :
    k0_pay10 u (ix3 0 e j) = u (ix2 ⟨248 + e.val, by omega⟩ j) := by
  pointwise [k0_pay10]

theorem pay6_at (r : Fin 8) (j : Fin 512) : k0_pay6 (F := Ideal) (ix2 r j) = 0 := by
  pointwise [k0_pay6]

theorem forget_at (x : Vec Ideal S256x1024 .f32) (w : Vec Ideal S1024x128 .bf16) (b : Vec Ideal S1x128 .f32) (r : Fin 256) (j : Fin 8) :
    k0_pay17 (k0_pay3 x) w b (ix2 r j)
      = lsig ((∑ k : Fin 1024, x (ix2 r k) * w (ix2 k ⟨j.val, by omega⟩)) + b (ix2 0 ⟨j.val, by omega⟩)) := by
  pointwise [k0_pay17, k0_pay16, k0_pay3, lsig]
  have h : ∀ j : Fin 8, IntOp.cmpi CmpIPredicate.slt (BitVec.ofNat 32 j.val) 8#32 = 1#1 := by decide
  rw [h j]
  rfl

theorem branch_at (x : Vec Ideal S256x1024 .f32) (b u p1 p2 : Vec Ideal S256x512 .f32) (c0 c1 c2 : Vec Ideal S1x512 .f32) (wo : Vec Ideal S512x1024 .bf16) (g : Vec Ideal S1024x1024 .bf16)
    (r : Fin 256) (d : Fin 1024) :
    k0_pay1 (k0_pay11 b u p1 p2 c0 c1 c2 wo) (k0_pay27 (k0_pay3 x) g) (ix2 r d)
      = Ideal.logistic (∑ k : Fin 1024, x (ix2 r k) * g (ix2 k d))
        * ∑ j : Fin 512, b (ix2 r j) * (c0 (ix2 0 j) * p2 (ix2 r j) + c1 (ix2 0 j) * p1 (ix2 r j) + c2 (ix2 0 j) * u (ix2 r j)) * wo (ix2 j d) := by
  pointwise [k0_pay1, k0_pay3, k0_pay11, k0_pay27]

theorem gate_at (x : Vec Ideal S256x1024 .f32) (g : Vec Ideal S1024x1024 .bf16) (r : Fin 256) (d : Fin 1024) :
    k0_pay2 (k0_pay28 (k0_pay3 x) g) (ix2 r d) = Ideal.logistic (∑ k : Fin 1024, x (ix2 r k) * g (ix2 k d)) := by
  pointwise [k0_pay2, k0_pay28, k0_pay3]

/-- The row of all tokens a block's row is. -/
abbrev R (t : Fin cfg0.N) (r : Fin 256) : Fin 16384 := ⟨256 * t.val + r.val, by have := lt t; omega⟩

theorem proj1 (c : Dev nD) (t : Fin cfg0.N) (o : ℕ) (inb : ∀ a, (![0, o] : Fin 2 → ℕ) a + (![1024, 512] : Fin 2 → ℕ) a ≤ S1024x2560.size a) (ho : o + 512 ≤ 2560)
    (r : Fin 256) (j : Fin 512) (q : Fin 5128) (hq : q.val = if o + j.val < 1536 then o + j.val else 512 + (o + j.val)) :
    ∑ k : Fin 1024, (show FVec Ideal S256x1024 .f32 from iblk m c 0 t) (ix2 r k) * View.ld (iblk m c 1 t) (Rect.unit (s := S1024x2560) ![0, o] ![1024, 512] inb) (ix2 k j)
      = hrow (A0 m c) (A1 m c) (sq (R t r)) (po (R t r)) q := by
  unfold hrow row
  refine Finset.sum_congr rfl fun k _ => congrArg₂ (· * ·) (iblk0 m c t r k) ?_
  rw [ld1 m c t o inb k j ho, iblk1]
  refine congrArg (fun y => A1 m c (ix3 0 k y)) (Fin.ext ?_)
  rw [hq]
  show (dite (o + j.val < 1536) _ _ : Fin 5128).val = _
  split <;> rfl

theorem proj4 (c : Dev nD) (t : Fin cfg0.N) (o : ℕ) (inb : ∀ a, (![0, o] : Fin 2 → ℕ) a + (![1024, 1024] : Fin 2 → ℕ) a ≤ S1024x2048.size a) (ho : o + 1024 ≤ 2048)
    (r : Fin 256) (j : Fin 1024) (q : Fin 5128) (hq : q.val = 3080 + (o + j.val)) :
    ∑ k : Fin 1024, (show FVec Ideal S256x1024 .f32 from iblk m c 0 t) (ix2 r k) * View.ld (iblk m c 4 t) (Rect.unit (s := S1024x2048) ![0, o] ![1024, 1024] inb) (ix2 k j)
      = hrow (A0 m c) (A1 m c) (sq (R t r)) (po (R t r)) q := by
  unfold hrow row
  refine Finset.sum_congr rfl fun k _ => congrArg₂ (· * ·) (iblk0 m c t r k) ?_
  rw [ld4 m c t o inb k j ho, iblk4]
  exact congrArg (fun y => A1 m c (ix3 0 k y)) (Fin.ext hq.symm)

/-- The three places of a block in its sequence: the first, one in the middle, the last. -/
theorem three (t : Fin cfg0.N) : (t.val % 16 = 0 ∧ ¬t.val % 16 = 15) ∨ (¬t.val % 16 = 0 ∧ ¬t.val % 16 = 15) ∨ (¬t.val % 16 = 0 ∧ t.val % 16 = 15) := by omega

theorem keys_at (c : Dev nD) (t : Fin cfg0.N) (inb) (r : Fin 256) (j : Fin 512) :
    k0_pay13 (k0_pay3 (iblk m c 0 t)) (k0_pay12 (View.ld (iblk m c 1 t) (Rect.unit (s := S1024x2560) ![0, 1536] ![1024, 512] inb))) (ix2 r j)
      = keys (hrow (A0 m c) (A1 m c) (sq (R t r)) (po (R t r))) j :=
  (pay13_at _ _ r j).trans (proj1 m c t 1536 _ (by omega) r j _ (by rw [if_neg (by omega)]; show 2048 + j.val = _; omega))

theorem vals_at (c : Dev nD) (t : Fin cfg0.N) (inb) (r : Fin 256) (j : Fin 512) :
    k0_pay14 (k0_pay3 (iblk m c 0 t)) (View.ld (iblk m c 1 t) (Rect.unit (s := S1024x2560) ![0, 2048] ![1024, 512] inb)) (ix2 r j)
      = vals (hrow (A0 m c) (A1 m c) (sq (R t r)) (po (R t r))) j :=
  (pay14_at _ _ r j).trans (proj1 m c t 2048 _ (by omega) r j _ (by rw [if_neg (by omega)]; show 2560 + j.val = _; omega))

theorem logf_at (c : Dev nD) (t : Fin cfg0.N) (r : Fin 256) (j : Fin 8) :
    k0_pay17 (k0_pay3 (iblk m c 0 t)) (iblk m c 3 t) (iblk m c 5 t) (ix2 r j)
      = forget (hrow (A0 m c) (A1 m c) (sq (R t r)) (po (R t r))) (fun i => A2 m c (ix2 0 i)) j :=
  (forget_at _ _ _ r j).trans (congrArg lsig (congrArg₂ (· + ·) (Finset.sum_congr rfl fun k _ => congrArg₂ (· * ·) (iblk0 m c t r k) (iblk3 m c t k j)) (iblk5 m c t j)))

theorem gateB_at (c : Dev nD) (t : Fin cfg0.N) (inb) (r : Fin 256) (d : Fin 1024) :
    k0_pay2 (k0_pay28 (k0_pay3 (iblk m c 0 t)) (View.ld (iblk m c 4 t) (Rect.unit (s := S1024x2048) ![0, 1024] ![1024, 1024] inb))) (ix2 r d)
      = gateB (hrow (A0 m c) (A1 m c) (sq (R t r)) (po (R t r))) d :=
  (gate_at _ _ r d).trans (congrArg Ideal.logistic (proj4 m c t 1024 _ (by omega) r d _ (by show 4104 + d.val = _; omega)))

theorem u_at (c : Dev nD) (t : Fin cfg0.N) (inb0 inb1) (r : Fin 256) (j : Fin 512) :
    k0_pay5 (iblk m c 0 t) (View.ld (iblk m c 1 t) (Rect.unit (s := S1024x2560) ![0, 0] ![1024, 512] inb0)) (View.ld (iblk m c 1 t) (Rect.unit (s := S1024x2560) ![0, 1024] ![1024, 512] inb1)) (ix2 r j)
      = gated (hrow (A0 m c) (A1 m c) (sq (R t r)) (po (R t r))) j :=
  (pay5_at _ _ _ r j).trans (congrArg₂ (· * ·)
    (proj1 m c t 1024 _ (by omega) r j _ (by rw [if_pos (by omega)]))
    (proj1 m c t 0 _ (by omega) r j _ (by rw [if_pos (by omega)]; show j.val = _; omega)))

theorem o15 (c : Dev nD) (t : Fin cfg0.N) (r : Fin 256) (j : Fin 512) :
    (outsAt0 m c t.val t.isLt).2.1 (ix2 r j) = keys (hrow (A0 m c) (A1 m c) (sq (R t r)) (po (R t r))) j := by
  rcases three t with ⟨h0, h1⟩ | ⟨h0, h1⟩ | ⟨h0, h1⟩
  · rw [outsAt0_A m c t h0 h1 h0]
    frame_out
    exact keys_at m c t _ r j
  · rw [outsAt0_B m c t h0 h1 h0]
    frame_out
    exact keys_at m c t _ r j
  · rw [outsAt0_C m c t h0 h1 h0]
    frame_out
    exact keys_at m c t _ r j

theorem o16 (c : Dev nD) (t : Fin cfg0.N) (r : Fin 256) (j : Fin 512) :
    (outsAt0 m c t.val t.isLt).2.2.1 (ix2 r j) = vals (hrow (A0 m c) (A1 m c) (sq (R t r)) (po (R t r))) j := by
  rcases three t with ⟨h0, h1⟩ | ⟨h0, h1⟩ | ⟨h0, h1⟩
  · rw [outsAt0_A m c t h0 h1 h0]
    frame_out
    exact vals_at m c t _ r j
  · rw [outsAt0_B m c t h0 h1 h0]
    frame_out
    exact vals_at m c t _ r j
  · rw [outsAt0_C m c t h0 h1 h0]
    frame_out
    exact vals_at m c t _ r j

theorem o19 (c : Dev nD) (t : Fin cfg0.N) (r : Fin 256) (j : Fin 8) :
    (outsAt0 m c t.val t.isLt).2.2.2.2.2.1 (ix2 r j) = forget (hrow (A0 m c) (A1 m c) (sq (R t r)) (po (R t r))) (fun i => A2 m c (ix2 0 i)) j := by
  rcases three t with ⟨h0, h1⟩ | ⟨h0, h1⟩ | ⟨h0, h1⟩
  · rw [outsAt0_A m c t h0 h1 h0]
    frame_out
    exact logf_at m c t r j
  · rw [outsAt0_B m c t h0 h1 h0]
    frame_out
    exact logf_at m c t r j
  · rw [outsAt0_C m c t h0 h1 h0]
    frame_out
    exact logf_at m c t r j

theorem o21 (c : Dev nD) (t : Fin cfg0.N) (r : Fin 256) (d : Fin 1024) :
    (outsAt0 m c t.val t.isLt).2.2.2.2.2.2.2.1 (ix2 r d) = gateB (hrow (A0 m c) (A1 m c) (sq (R t r)) (po (R t r))) d := by
  rcases three t with ⟨h0, h1⟩ | ⟨h0, h1⟩ | ⟨h0, h1⟩
  · rw [outsAt0_A m c t h0 h1 h0]
    frame_out
    exact gateB_at m c t _ r d
  · rw [outsAt0_B m c t h0 h1 h0]
    frame_out
    exact gateB_at m c t _ r d
  · rw [outsAt0_C m c t h0 h1 h0]
    frame_out
    exact gateB_at m c t _ r d

theorem o22 (c : Dev nD) (t : Fin cfg0.N) (h1 : t.val % 16 = 15) (e : Fin 8) (j : Fin 512) :
    (outsAt0 m c t.val t.isLt).2.2.2.2.2.2.2.2.1 (ix3 0 e j) = gated (hrow (A0 m c) (A1 m c) ⟨t.val / 16, by have := lt t; omega⟩ ⟨4088 + e.val, by omega⟩) j := by
  have h0 : ¬t.val % 16 = 0 := by omega
  rw [outsAt0_C m c t h0 h1 h0]
  frame_out
  refine (pay10_at _ e j).trans ((u_at m c t _ _ _ j).trans ?_)
  congr 2
  · exact Fin.ext (by show (256 * t.val + (248 + e.val)) / 4096 = t.val / 16; omega)
  · exact Fin.ext (by show (256 * t.val + (248 + e.val)) % 4096 = 4088 + e.val; omega)

/-- What a block leaves in the first rows of the buffer: its own last rows. -/
theorem carry_at (c : Dev nD) (t : Fin cfg0.N) (h1 : ¬t.val % 16 = 15) (i : S264x512.Idx) (e : Fin 8) (j : Fin 512) (hi0 : (i 0).val = e.val) (hi1 : (i 1).val = j.val) :
    (outsAt0 m c t.val t.isLt).2.2.2.2.2.2.2.2.2.1 i = gated (hrow (A0 m c) (A1 m c) (sq (R t ⟨248 + e.val, by omega⟩)) (po (R t ⟨248 + e.val, by omega⟩))) j := by
  by_cases h0 : t.val % 16 = 0
  · rw [outsAt0_A m c t h0 h1 h0]
    frame_out
    exact (Cert.InprojBuf.first _ _ _ i e j hi0 hi1).trans ((pay9_at _ _ _ e j).trans (u_at m c t _ _ _ j))
  · rw [outsAt0_B m c t h0 h1 h0]
    frame_out
    exact (Cert.InprojBuf.first _ _ _ i e j hi0 hi1).trans ((pay9_at _ _ _ e j).trans (u_at m c t _ _ _ j))

/-- A row of gated inputs some rows up, seen from a row of the same sequence. -/
theorem up_ext (c : Dev nD) (t t' : Fin cfg0.N) (r r' : Fin 256) (j : Fin 512) (q : ℕ) (hs : (256 * t'.val + r'.val) / 4096 = (256 * t.val + r.val) / 4096) (hq : (256 * t'.val + r'.val) % 4096 + 2 = q) :
    gated (hrow (A0 m c) (A1 m c) (sq (R t' r')) (po (R t' r'))) j = ext (A0 m c) (A1 m c) (sq (R t r)) q j := by
  unfold ext
  rw [dif_pos ⟨by omega, by omega⟩]
  congr 2
  · exact Fin.ext hs
  · exact Fin.ext (by show (256 * t'.val + r'.val) % 4096 = q - 2; omega)

/-- The rows above, for the first block of a sequence. -/
theorem up_first (c : Dev nD) (t : Fin cfg0.N) (h0 : t.val % 16 = 0) (inb0 inb1) (o : ℕ) (inb) (ho : o = 6 ∨ o = 7) (r : Fin 256) (j : Fin 512) :
    (View.whole cc0_scratch0).readCov (Val := Elt Ideal) [⟨Rect.unit (s := S264x512) ![8, 0] ![256, 512] inb_S264x512_S256x512_8_0,
          k0_pay7 (iblk m c 0 t) (View.ld (iblk m c 1 t) (Rect.unit (s := S1024x2560) ![0, 0] ![1024, 512] inb0)) (View.ld (iblk m c 1 t) (Rect.unit (s := S1024x2560) ![0, 1024] ![1024, 512] inb1))⟩,
          ⟨Rect.unit (s := S264x512) ![0, 0] ![8, 512] inb_S264x512_S8x512_0_0, k0_pay6 (F := Ideal)⟩]
        (Rect.unit (s := S264x512) ![o, 0] ![256, 512] inb).toLoadRect (ix2 r j)
      = ext (A0 m c) (A1 m c) (sq (R t r)) ((R t r).val % 4096 + (o - 6)) j := by
  have hR : (R t r).val % 4096 = r.val := by show (256 * t.val + r.val) % 4096 = r.val; omega
  rw [View.readCov_eq_canon', hR]
  by_cases h : o + r.val < 8
  · refine (Cert.InprojBuf.low _ _ _ _ (by show o + 1 * r.val < 8; omega)).trans ((Cert.InprojBuf.first _ _ _ _ ⟨o + r.val, h⟩ j (by show o + 1 * r.val = o + r.val; omega) (by show 0 + 1 * j.val = j.val; omega)).trans ((pay6_at _ j).trans ?_))
    unfold ext
    rw [dif_neg (by omega)]
  · refine (Cert.InprojBuf.high _ _ _ _ ⟨o + r.val - 8, by omega⟩ j (by show o + 1 * r.val = 8 + (o + r.val - 8); omega) (by show 0 + 1 * j.val = j.val; omega)).trans ?_
    refine (pay7_at _ _ _ _ j).trans ((u_at m c t _ _ _ j).trans (up_ext m c t t r _ j _ ?_ ?_))
    · show (256 * t.val + (o + r.val - 8)) / 4096 = (256 * t.val + r.val) / 4096
      omega
    · show (256 * t.val + (o + r.val - 8)) % 4096 + 2 = r.val + (o - 6)
      omega

/-- The rows above, for a later block of a sequence. -/
theorem up_later (c : Dev nD) (t : Fin cfg0.N) (h0 : ¬t.val % 16 = 0) (h' : t.val - 1 < cfg0.N) (inb0 inb1) (o : ℕ) (inb) (ho : o = 6 ∨ o = 7) (r : Fin 256) (j : Fin 512) :
    View.ld (View.read (Elt Ideal) (View.whole cc0_scratch0) ((View.whole cc0_scratch0).writes (Elt Ideal)
        ((Memref.isWhole_whole cc0_scratch0).unread (outsAt0 m c (t.val - 1) h').2.2.2.2.2.2.2.2.2.1)
        [⟨Rect.unit (s := S264x512) ![8, 0] ![256, 512] inb_S264x512_S256x512_8_0,
          k0_pay7 (iblk m c 0 t) (View.ld (iblk m c 1 t) (Rect.unit (s := S1024x2560) ![0, 0] ![1024, 512] inb0)) (View.ld (iblk m c 1 t) (Rect.unit (s := S1024x2560) ![0, 1024] ![1024, 512] inb1))⟩]))
        (Rect.unit (s := S264x512) ![o, 0] ![256, 512] inb) (ix2 r j)
      = ext (A0 m c) (A1 m c) (sq (R t r)) ((R t r).val % 4096 + (o - 6)) j := by
  show View.read (Elt Ideal) (View.whole cc0_scratch0) _ ((Rect.unit (s := S264x512) ![o, 0] ![256, 512] inb).toLoadRect.idx (ix2 r j)) = _
  have ht := lt t
  by_cases h : o + r.val < 8
  · refine (View.read_writes_cons_rows_of_not_mem (o := 8) (W := 256) _ _ _ _ _ _ rfl rfl (Or.inl (by show o + 1 * r.val < 8; omega))).trans ?_
    rw [View.writes_nil, (Memref.isWhole_whole cc0_scratch0).read_unread]
    refine (carry_at m c ⟨t.val - 1, h'⟩ (by show ¬(t.val - 1) % 16 = 15; omega) _ ⟨o + r.val, h⟩ j (by show o + 1 * r.val = o + r.val; omega) (by show 0 + 1 * j.val = j.val; omega)).trans (up_ext m c t _ r _ j _ ?_ ?_)
    · show (256 * (t.val - 1) + (248 + (o + r.val))) / 4096 = (256 * t.val + r.val) / 4096
      omega
    · show (256 * (t.val - 1) + (248 + (o + r.val))) % 4096 + 2 = (256 * t.val + r.val) % 4096 + (o - 6)
      omega
  · refine (View.read_writes_cons_rows_of_mem (o := 8) _ _ _ _ _ _ (ix2 ⟨o + r.val - 8, by omega⟩ j) rfl (by show o + 1 * r.val = 8 + (o + r.val - 8); omega) (by show 0 + 1 * j.val = j.val; omega)).trans ?_
    refine (pay7_at _ _ _ _ j).trans ((u_at m c t _ _ _ j).trans (up_ext m c t t r _ j _ ?_ ?_))
    · show (256 * t.val + (o + r.val - 8)) / 4096 = (256 * t.val + r.val) / 4096
      omega
    · show (256 * t.val + (o + r.val - 8)) % 4096 + 2 = (256 * t.val + r.val) % 4096 + (o - 6)
      omega

/-- The gated convolution branch of a row of a block, once the two rows above it are known. -/
theorem branched (c : Dev nD) (t : Fin cfg0.N) (inb512 inb0 inb1024 inbc0 inbc1 inbc2 inbg) (p1 p2 : Vec Ideal S256x512 .f32) (r : Fin 256) (d : Fin 1024)
    (hp1 : ∀ j : Fin 512, p1 (ix2 r j) = ext (A0 m c) (A1 m c) (sq (R t r)) ((R t r).val % 4096 + 1) j)
    (hp2 : ∀ j : Fin 512, p2 (ix2 r j) = ext (A0 m c) (A1 m c) (sq (R t r)) ((R t r).val % 4096) j) :
    k0_pay1 (k0_pay11 (k0_pay4 (iblk m c 0 t) (View.ld (iblk m c 1 t) (Rect.unit (s := S1024x2560) ![0, 512] ![1024, 512] inb512)))
        (k0_pay5 (iblk m c 0 t) (View.ld (iblk m c 1 t) (Rect.unit (s := S1024x2560) ![0, 0] ![1024, 512] inb0)) (View.ld (iblk m c 1 t) (Rect.unit (s := S1024x2560) ![0, 1024] ![1024, 512] inb1024)))
        p1 p2 (View.ld (iblk m c 6 t) (Rect.unit (s := S3x512) ![0, 0] ![1, 512] inbc0)) (View.ld (iblk m c 6 t) (Rect.unit (s := S3x512) ![1, 0] ![1, 512] inbc1)) (View.ld (iblk m c 6 t) (Rect.unit (s := S3x512) ![2, 0] ![1, 512] inbc2)) (iblk m c 7 t))
        (k0_pay27 (k0_pay3 (iblk m c 0 t)) (View.ld (iblk m c 4 t) (Rect.unit (s := S1024x2048) ![0, 0] ![1024, 1024] inbg))) (ix2 r d)
      = branch (hrow (A0 m c) (A1 m c) (sq (R t r)) (po (R t r))) (fun a j => A3 m c (ix3 0 a j))
      (ext (A0 m c) (A1 m c) (sq (R t r)) ((R t r).val % 4096)) (ext (A0 m c) (A1 m c) (sq (R t r)) ((R t r).val % 4096 + 1)) (fun j d => A4 m c (ix3 0 j d)) d := by
  refine (branch_at _ _ _ _ _ _ _ _ _ _ r d).trans (congrArg₂ (· * ·) (congrArg Ideal.logistic (proj4 m c t 0 _ (by omega) r d _ (by show 3080 + d.val = _; omega)))
    (Finset.sum_congr rfl fun j _ => congrArg₂ (· * ·) (congrArg₂ (· * ·) ?_ (congrArg₂ (· + ·) (congrArg₂ (· + ·) (congrArg₂ (· * ·) ?_ (hp2 j)) (congrArg₂ (· * ·) ?_ (hp1 j))) (congrArg₂ (· * ·) ?_ (u_at m c t _ _ r j)))) (iblk7 m c t j d)))
  · exact (pay4_at _ _ r j).trans (proj1 m c t 512 _ (by omega) r j _ (by rw [if_pos (by omega)]))
  · refine Eq.trans ?_ (iblk6 m c t 0 j)
    pointwise
  · refine Eq.trans ?_ (iblk6 m c t 1 j)
    pointwise
  · refine Eq.trans ?_ (iblk6 m c t 2 j)
    pointwise

theorem o20 (c : Dev nD) (t : Fin cfg0.N) (r : Fin 256) (d : Fin 1024) :
    (outsAt0 m c t.val t.isLt).2.2.2.2.2.2.1 (ix2 r d) = branch (hrow (A0 m c) (A1 m c) (sq (R t r)) (po (R t r))) (fun a j => A3 m c (ix3 0 a j))
      (ext (A0 m c) (A1 m c) (sq (R t r)) ((R t r).val % 4096)) (ext (A0 m c) (A1 m c) (sq (R t r)) ((R t r).val % 4096 + 1)) (fun j d => A4 m c (ix3 0 j d)) d := by
  rcases three t with ⟨h0, h1⟩ | ⟨h0, h1⟩ | ⟨h0, h1⟩
  · rw [outsAt0_A m c t h0 h1 h0]
    frame_out
    exact branched m c t _ _ _ _ _ _ _ _ _ r d (fun j => up_first m c t h0 _ _ 7 _ (Or.inr rfl) r j) (fun j => up_first m c t h0 _ _ 6 _ (Or.inl rfl) r j)
  · rw [outsAt0_B m c t h0 h1 h0]
    frame_out
    exact branched m c t _ _ _ _ _ _ _ _ _ r d (fun j => up_later m c t h0 _ _ _ 7 _ (Or.inr rfl) r j) (fun j => up_later m c t h0 _ _ _ 6 _ (Or.inl rfl) r j)
  · rw [outsAt0_C m c t h0 h1 h0]
    frame_out
    exact branched m c t _ _ _ _ _ _ _ _ _ r d (fun j => up_later m c t h0 _ _ _ 7 _ (Or.inr rfl) r j) (fun j => up_later m c t h0 _ _ _ 6 _ (Or.inl rfl) r j)

end Cert.InprojIdeal.Out
-- ==== Proof.InprojClaim.lean ====
module

public import proofs.«01_k».proof.Defs
public import proofs.«01_k».proof.Proof.InprojOut
public import proofs.«01_k».proof.Proof.Gen.InprojRefIdeal.Run

@[expose] public section

set_option maxRecDepth 16384
noncomputable section

open Idealize.ShloMosaic Idealize.ShloMosaic.TcCoe Idealize.SL.Sem

namespace Cert.InprojClaim

section

open Cert.InprojIdeal Cert.InprojIdeal.Gen Cert.InprojIdeal.Out

variable (m : (ℓ : Loc nD τ sig) → Buf (Elt Ideal) ℓ)

theorem final15 (c : Dev nD) : (Cert.InprojIdeal.Gen.dats m 0 c).arrAt 15 (cfgs 0).N = Cert.InprojRefIdeal.Read.val_main_v43 (F := Ideal) (A0 m c) (A1 m c) := by
  refine (Cert.InprojIdeal.Gen.dats m 0 c).arrAt_eq_of_covers 15 _ (by decide +kernel) fun t hf y => ?_
  blk_simp
  rw [after0_15]
  idx_vars y
  refine (o15 m c t _ _).trans ((Cert.InprojRefIdeal.Closed.keys_at _ _ (R t _) _).symm.trans ?_)
  refine congrArg _ (funext fun a => Fin.ext ?_)
  match a with
  | 0 =>
    blk_simp [idx t]
    show 256 * t.val + y0.val = t.val * 256 + y0.val
    ring
  | 1 => blk_simp [idx t]

theorem final16 (c : Dev nD) : (Cert.InprojIdeal.Gen.dats m 0 c).arrAt 16 (cfgs 0).N = Cert.InprojRefIdeal.Read.val_main_v44 (F := Ideal) (A0 m c) (A1 m c) := by
  refine (Cert.InprojIdeal.Gen.dats m 0 c).arrAt_eq_of_covers 16 _ (by decide +kernel) fun t hf y => ?_
  blk_simp
  rw [after0_16]
  idx_vars y
  refine (o16 m c t _ _).trans ((Cert.InprojRefIdeal.Closed.vals_at _ _ (R t _) _).symm.trans ?_)
  refine congrArg _ (funext fun a => Fin.ext ?_)
  match a with
  | 0 =>
    blk_simp [idx t]
    show 256 * t.val + y0.val = t.val * 256 + y0.val
    ring
  | 1 => blk_simp [idx t]

theorem final19 (c : Dev nD) : (Cert.InprojIdeal.Gen.dats m 0 c).arrAt 19 (cfgs 0).N = Cert.InprojRefIdeal.Read.val_main_v45 (F := Ideal) (A0 m c) (A1 m c) (A2 m c) := by
  refine (Cert.InprojIdeal.Gen.dats m 0 c).arrAt_eq_of_covers 19 _ (by decide +kernel) fun t hf y => ?_
  blk_simp
  rw [after0_19]
  idx_vars y
  refine (o19 m c t _ _).trans ((Cert.InprojRefIdeal.Closed.forget_at _ _ _ (R t _) _).symm.trans ?_)
  refine congrArg _ (funext fun a => Fin.ext ?_)
  match a with
  | 0 =>
    blk_simp [idx t]
    show 256 * t.val + y0.val = t.val * 256 + y0.val
    ring
  | 1 => blk_simp [idx t]

theorem final20 (c : Dev nD) : (Cert.InprojIdeal.Gen.dats m 0 c).arrAt 20 (cfgs 0).N = Cert.InprojRefIdeal.Read.val_main_v53 (F := Ideal) (A0 m c) (A1 m c) (A3 m c) (A4 m c) := by
  refine (Cert.InprojIdeal.Gen.dats m 0 c).arrAt_eq_of_covers 20 _ (by decide +kernel) fun t hf y => ?_
  blk_simp
  rw [after0_20]
  idx_vars y
  refine (o20 m c t _ _).trans ((Cert.InprojRefIdeal.Closed.branch_at _ _ _ _ (R t _) _).symm.trans ?_)
  refine congrArg _ (funext fun a => Fin.ext ?_)
  match a with
  | 0 =>
    blk_simp [idx t]
    show 256 * t.val + y0.val = t.val * 256 + y0.val
    ring
  | 1 => blk_simp [idx t]

theorem final21 (c : Dev nD) : (Cert.InprojIdeal.Gen.dats m 0 c).arrAt 21 (cfgs 0).N = Cert.InprojRefIdeal.Read.val_main_v60 (F := Ideal) (A0 m c) (A1 m c) := by
  refine (Cert.InprojIdeal.Gen.dats m 0 c).arrAt_eq_of_covers 21 _ (by decide +kernel) fun t hf y => ?_
  blk_simp
  rw [after0_21]
  idx_vars y
  refine (o21 m c t _ _).trans ((Cert.InprojRefIdeal.Closed.gate_at _ _ (R t _) _).symm.trans ?_)
  refine congrArg _ (funext fun a => Fin.ext ?_)
  match a with
  | 0 =>
    blk_simp [idx t]
    show 256 * t.val + y0.val = t.val * 256 + y0.val
    ring
  | 1 => blk_simp [idx t]

theorem final22 (c : Dev nD) : (Cert.InprojIdeal.Gen.dats m 0 c).arrAt 22 (cfgs 0).N = Cert.InprojRefIdeal.Read.val_main_v61 (F := Ideal) (A0 m c) (A1 m c) := by
  refine (Cert.InprojIdeal.Gen.dats m 0 c).arrAt_eq_of_covers 22 _ (by decide +kernel) fun t hf y => ?_
  blk_simp
  rw [after0_22]
  have h1 : t.val % 16 = 15 := (flush0_22 t).mp hf
  idx_vars y
  obtain rfl : y0 = 0 := Subsingleton.elim _ _
  refine (o22 m c t h1 _ _).trans ((Cert.InprojRefIdeal.Closed.tail_at _ _ ⟨t.val / 16, by have := lt t; omega⟩ _ _).symm.trans ?_)
  refine congrArg _ (funext fun a => Fin.ext ?_)
  match a with
  | 0 =>
    blk_simp [idx t]
    rfl
  | 1 => blk_simp [idx t]
  | 2 => blk_simp [idx t]

end

theorem congr3 {α β γ δ : Type} (f : α → β → γ → δ) {a a' : α} {b b' : β} {c c' : γ} (ha : a = a') (hb : b = b') (hc : c = c') : f a b c = f a' b' c' := by
  rw [ha, hb, hc]

theorem congr4 {α β γ δ ε : Type} (f : α → β → γ → δ → ε) {a a' : α} {b b' : β} {c c' : γ} {d d' : δ} (ha : a = a') (hb : b = b') (hc : c = c') (hd : d = d') :
    f a b c d = f a' b' c' d' := by
  rw [ha, hb, hc, hd]

open Cert.InprojIdeal.Out Cert.InprojRefIdeal.Read in
theorem algebraic : Cert.algebraic_InprojIdeal_InprojRefIdeal
    (hInprojIdeal := Cert.InprojIdeal.Gen.facts) (hInprojRefIdeal := Cert.InprojRefIdeal.Gen.facts) := by
  intro m ρ m' ρ' _ hag
  refine ⟨fun c => val_main_v43 (F := Ideal) (A0 m c) (A1 m c), fun c => val_main_v44 (F := Ideal) (A0 m c) (A1 m c), fun c => val_main_v45 (F := Ideal) (A0 m c) (A1 m c) (A2 m c),
    fun c => val_main_v53 (F := Ideal) (A0 m c) (A1 m c) (A3 m c) (A4 m c), fun c => val_main_v60 (F := Ideal) (A0 m c) (A1 m c), fun c => val_main_v61 (F := Ideal) (A0 m c) (A1 m c),
    (θ_run _ _ _).mono (fun _ h c => ?_) (Cert.InprojIdeal.Value.run_blocks m ρ),
    (θ_run _ _ _).mono (fun _ h c => ?_) (Cert.InprojRefIdeal.Value.run m' ρ')⟩
  · obtain ⟨-, hk, hv, -, -, hl, ha, hg, ht, hkept⟩ := h c
    exact ⟨hk.trans (final15 m c), hv.trans (final16 m c), hl.trans (final19 m c), ha.trans (final20 m c), hg.trans (final21 m c), ht.trans (final22 m c), hkept⟩
  · obtain ⟨h0, h1, h2, h3, h4⟩ := hag c
    exact ⟨(h c).1.trans ((val_main_v43_eq _ _).trans (congrArg₂ (val_main_v43 (F := Ideal)) h0 h1)),
      (h c).2.1.trans ((val_main_v44_eq _ _).trans (congrArg₂ (val_main_v44 (F := Ideal)) h0 h1)),
      (h c).2.2.1.trans ((val_main_v45_eq _ _ _).trans (congr3 (val_main_v45 (F := Ideal)) h0 h1 h2)),
      (h c).2.2.2.1.trans ((val_main_v53_eq _ _).trans (congr4 (val_main_v53 (F := Ideal)) h0 h1 h3 h4)),
      (h c).2.2.2.2.1.trans ((val_main_v60_eq _ _).trans (congrArg₂ (val_main_v60 (F := Ideal)) h0 h1)),
      (h c).2.2.2.2.2.1.trans ((val_main_v61_eq _ _).trans (congrArg₂ (val_main_v61 (F := Ideal)) h0 h1)),
      (h c).2.2.2.2.2.2⟩

end Cert.InprojClaim
-- ==== Proof.SamplePays.lean ====
module

public import proofs.«01_k».proof.Proof.InprojSpec
public import proofs.«01_k».proof.Proof.Gen.SampleIdeal.Value
public import Idealize.ShloMosaic.Lib.Pipeline.ValueKit
public import Idealize.ShloMosaic.Lib.Pointwise

@[expose] public section

set_option maxRecDepth 16384
noncomputable section

open Idealize.ShloMosaic Idealize.ShloMosaic.TcCoe Idealize.SL.Sem
open Idealize.ShloMosaic.Pipeline (Dat)

namespace Cert.SampleIdeal.Out

open Cert.SampleIdeal Cert.SampleIdeal.Gen Cert.InprojSpec

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] :=
  (by decide +kernel : ∀ t : Fin grid0.N, _)

theorem lt (t : Fin cfg0.N) : t.val < 2 := t.isLt

abbrev A0 (c : Dev nD) : FVec Ideal S128x4x1024 .f32 := m ((c : Thread nD τ).loc main_arg0)
abbrev A1 (c : Dev nD) : FVec Ideal S1x128x2x512 .f32 := m ((c : Thread nD τ).loc main_arg1)
abbrev A2 (c : Dev nD) : FVec Ideal S1x1024x5128 .f32 := m ((c : Thread nD τ).loc main_arg2)
abbrev A3 (c : Dev nD) : FVec Ideal S1x8 .f32 := m ((c : Thread nD τ).loc main_arg3)
abbrev A4 (c : Dev nD) : FVec Ideal S1x3x512 .f32 := m ((c : Thread nD τ).loc main_arg4)
abbrev A5 (c : Dev nD) : FVec Ideal S1x512x1024 .f32 := m ((c : Thread nD τ).loc main_arg5)

theorem v7 (c : Dev nD) : V m c main_v7 = concatenate S1024x2560 1 [⟨S1024x1536, (extractStridedSlice S1024x1536 ![0, 0] (truncf .bf16 (shapeCast S1024x5128 (A2 m c) shapeCasts_S1x1024x5128_S1024x5128) bitsLt_bf16_f32) slices_S1024x5128_S1024x1536_0_0 : FVec Ideal S1024x1536 .bf16)⟩,
      ⟨S1024x1024, (extractStridedSlice S1024x1024 ![0, 2048] (truncf .bf16 (shapeCast S1024x5128 (A2 m c) shapeCasts_S1x1024x5128_S1024x5128) bitsLt_bf16_f32) slices_S1024x5128_S1024x1024_0_2048 : FVec Ideal S1024x1024 .bf16)⟩] concatenates_S1024x1536_S1024x1024_S1024x2560_d1 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  refine congrArg₂ (fun a b => concatenate S1024x2560 1 [⟨S1024x1536, a⟩, ⟨S1024x1024, b⟩] concatenates_S1024x1536_S1024x1024_S1024x2560_d1) ?_ ?_
  · after_results_simp
    rfl
  · after_results_simp
    rfl

theorem v13 (c : Dev nD) : V m c main_v13 = pad S1024x128 ![0, 0] ![0, 120] ![0, 0] (extractStridedSlice S1024x8 ![0, 3072] (truncf .bf16 (shapeCast S1024x5128 (A2 m c) shapeCasts_S1x1024x5128_S1024x5128) bitsLt_bf16_f32) slices_S1024x5128_S1024x8_0_3072 : FVec Ideal S1024x8 .bf16)
      (sitofp .bf16 (constantI S_ 32 0#32)) pads_S1024x8_S1024x128_000_01200 h_S_ := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  rfl

theorem v14 (c : Dev nD) : V m c main_v14 = extractStridedSlice S1024x2048 ![0, 3080] (truncf .bf16 (shapeCast S1024x5128 (A2 m c) shapeCasts_S1x1024x5128_S1024x5128) bitsLt_bf16_f32) slices_S1024x5128_S1024x2048_0_3080 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  rfl

theorem v16 (c : Dev nD) : V m c main_v16 = shapeCast S1x128 (pad S128 ![0] ![120] ![0] (shapeCast S8 (A3 m c) shapeCasts_S1x8_S8) (sitofp .f32 (constantI S_ 32 0#32)) pads_S8_S128_01200 h_S_ : FVec Ideal S128 .f32) shapeCasts_S128_S1x128 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  rfl

theorem v97 (c : Dev nD) : V m c main_v97 = shapeCast S512x1024 (A0 m c) shapeCasts_S128x4x1024_S512x1024 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  rfl

theorem v2 (c : Dev nD) : V m c main_v2 = shapeCast S3x512 (A4 m c) shapeCasts_S1x3x512_S3x512 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  rfl

theorem v84 (c : Dev nD) : V m c main_v84 = truncf .bf16 (shapeCast S512x1024 (A5 m c) shapeCasts_S1x512x1024_S512x1024) bitsLt_bf16_f32 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  rfl

theorem v92 (c : Dev nD) : V m c main_v92 = shapeCast S512x512 (broadcastInDim S128x4x512 ![0, 2] bcast_S128x512_S128x4x512_0_2 (shapeCast S128x512
      (extractStridedSlice S128x1x512 ![0, 0, 0] (shapeCast S128x2x512 (A1 m c) shapeCasts_S1x128x2x512_S128x2x512) slices_S128x2x512_S128x1x512_0_0_0) shapeCasts_S128x1x512_S128x512)) shapeCasts_S128x4x512_S512x512 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  rfl

theorem v96 (c : Dev nD) : V m c main_v96 = shapeCast S512x512 (broadcastInDim S128x4x512 ![0, 2] bcast_S128x512_S128x4x512_0_2 (shapeCast S128x512
      (extractStridedSlice S128x1x512 ![0, 1, 0] (shapeCast S128x2x512 (A1 m c) shapeCasts_S1x128x2x512_S128x2x512) slices_S128x2x512_S128x1x512_0_1_0) shapeCasts_S128x1x512_S128x512)) shapeCasts_S128x4x512_S512x512 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18,
    List.flatten_cons, List.flatten_nil, List.cons_append, List.nil_append, List.append_nil, StableHlo.after_cons, StableHlo.after_nil]
  after_results_simp
  rfl

theorem iblk0 (c : Dev nD) (t : Fin cfg0.N) (r : Fin 256) (k : Fin 1024) :
    (show FVec Ideal S256x1024 .f32 from iblk m c 0 t) (ix2 r k) = A0 m c (ix3 ⟨(256 * t.val + r.val) / 4, by have := lt t; omega⟩ ⟨(256 * t.val + r.val) % 4, by omega⟩ k) := by
  have e : (show FVec Ideal S256x1024 .f32 from iblk m c 0 t) (ix2 r k) = (show FVec Ideal S512x1024 .f32 from V m c main_v97) (ix2 ⟨256 * t.val + r.val, by have := lt t; omega⟩ k) := by
    show _ = (V m c main_v97) (ix2 _ _)
    blk_ext [iblk, idx t]
  rw [e, v97]
  pointwise

theorem iblk1 (c : Dev nD) (t : Fin cfg0.N) (k : Fin 1024) (j : Fin 2560) :
    (show FVec Ideal S1024x2560 .bf16 from iblk m c 1 t) (ix2 k j) = A2 m c (ix3 0 k (if h : j.val < 1536 then ⟨j.val, by omega⟩ else ⟨512 + j.val, by omega⟩)) := by
  have e : (show FVec Ideal S1024x2560 .bf16 from iblk m c 1 t) (ix2 k j) = (show FVec Ideal S1024x2560 .bf16 from V m c main_v7) (ix2 k j) := by
    show _ = (V m c main_v7) (ix2 _ _)
    blk_ext [iblk, idx t]
  rw [e, v7]
  pointwise
  split
  · rfl
  · congr 2
    exact Fin.ext (by simp only; omega)

theorem iblk3 (c : Dev nD) (t : Fin cfg0.N) (k : Fin 1024) (j : Fin 8) :
    (show FVec Ideal S1024x128 .bf16 from iblk m c 3 t) (ix2 k ⟨j.val, by omega⟩) = A2 m c (ix3 0 k ⟨3072 + j.val, by omega⟩) := by
  have e : (show FVec Ideal S1024x128 .bf16 from iblk m c 3 t) (ix2 k ⟨j.val, by omega⟩) = (show FVec Ideal S1024x128 .bf16 from V m c main_v13) (ix2 k ⟨j.val, by omega⟩) := by
    show _ = (V m c main_v13) (ix2 _ _)
    blk_ext [iblk, idx t]
  rw [e, v13]
  pointwise

theorem iblk4 (c : Dev nD) (t : Fin cfg0.N) (k : Fin 1024) (j : Fin 2048) :
    (show FVec Ideal S1024x2048 .bf16 from iblk m c 4 t) (ix2 k j) = A2 m c (ix3 0 k ⟨3080 + j.val, by omega⟩) := by
  have e : (show FVec Ideal S1024x2048 .bf16 from iblk m c 4 t) (ix2 k j) = (show FVec Ideal S1024x2048 .bf16 from V m c main_v14) (ix2 k j) := by
    show _ = (V m c main_v14) (ix2 _ _)
    blk_ext [iblk, idx t]
  rw [e, v14]
  pointwise

theorem iblk5 (c : Dev nD) (t : Fin cfg0.N) (j : Fin 8) :
    (show FVec Ideal S1x128 .f32 from iblk m c 5 t) (ix2 0 ⟨j.val, by omega⟩) = A3 m c (ix2 0 j) := by
  have e : (show FVec Ideal S1x128 .f32 from iblk m c 5 t) (ix2 0 ⟨j.val, by omega⟩) = (show FVec Ideal S1x128 .f32 from V m c main_v16) (ix2 0 ⟨j.val, by omega⟩) := by
    show _ = (V m c main_v16) (ix2 _ _)
    blk_ext [iblk, idx t]
  rw [e, v16]
  pointwise

theorem iblk6 (c : Dev nD) (t : Fin cfg0.N) (a : Fin 3) (j : Fin 512) :
    (show FVec Ideal S3x512 .f32 from iblk m c 6 t) (ix2 a j) = A4 m c (ix3 0 a j) := by
  have e : (show FVec Ideal S3x512 .f32 from iblk m c 6 t) (ix2 a j) = (show FVec Ideal S3x512 .f32 from V m c main_v2) (ix2 a j) := by
    show _ = (V m c main_v2) (ix2 _ _)
    blk_ext [iblk, idx t]
  rw [e, v2]
  pointwise

theorem iblk7 (c : Dev nD) (t : Fin cfg0.N) (j : Fin 512) (d : Fin 1024) :
    (show FVec Ideal S512x1024 .bf16 from iblk m c 7 t) (ix2 j d) = A5 m c (ix3 0 j d) := by
  have e : (show FVec Ideal S512x1024 .bf16 from iblk m c 7 t) (ix2 j d) = (show FVec Ideal S512x1024 .bf16 from V m c main_v84) (ix2 j d) := by
    show _ = (V m c main_v84) (ix2 _ _)
    blk_ext [iblk, idx t]
  rw [e, v84]
  pointwise

theorem iblk8 (c : Dev nD) (t : Fin cfg0.N) (r : Fin 256) (j : Fin 512) :
    (show FVec Ideal S256x512 .f32 from iblk m c 8 t) (ix2 r j) = A1 m c (ix4 0 ⟨(256 * t.val + r.val) / 4, by have := lt t; omega⟩ 0 j) := by
  have e : (show FVec Ideal S256x512 .f32 from iblk m c 8 t) (ix2 r j) = (show FVec Ideal S512x512 .f32 from V m c main_v92) (ix2 ⟨256 * t.val + r.val, by have := lt t; omega⟩ j) := by
    show _ = (V m c main_v92) (ix2 _ _)
    blk_ext [iblk, idx t]
  rw [e, v92]
  pointwise

theorem iblk9 (c : Dev nD) (t : Fin cfg0.N) (r : Fin 256) (j : Fin 512) :
    (show FVec Ideal S256x512 .f32 from iblk m c 9 t) (ix2 r j) = A1 m c (ix4 0 ⟨(256 * t.val + r.val) / 4, by have := lt t; omega⟩ 1 j) := by
  have e : (show FVec Ideal S256x512 .f32 from iblk m c 9 t) (ix2 r j) = (show FVec Ideal S512x512 .f32 from V m c main_v96) (ix2 ⟨256 * t.val + r.val, by have := lt t; omega⟩ j) := by
    show _ = (V m c main_v96) (ix2 _ _)
    blk_ext [iblk, idx t]
  rw [e, v96]
  pointwise

/-- The projected row of a row of a block. -/
def H (c : Dev nD) (t : Fin cfg0.N) (r : Fin 256) : Fin 5128 → EReal :=
  row (fun k => A0 m c (ix3 ⟨(256 * t.val + r.val) / 4, by have := lt t; omega⟩ ⟨(256 * t.val + r.val) % 4, by omega⟩ k)) (fun k j => A2 m c (ix3 0 k j))

theorem ld1 (c : Dev nD) (t : Fin cfg0.N) (o : ℕ) (inb : ∀ a, (![0, o] : Fin 2 → ℕ) a + (![1024, 512] : Fin 2 → ℕ) a ≤ S1024x2560.size a) (k : Fin 1024) (j : Fin 512) (ho : o + 512 ≤ 2560) :
    View.ld (iblk m c 1 t) (Rect.unit (s := S1024x2560) ![0, o] ![1024, 512] inb) (ix2 k j) = (show FVec Ideal S1024x2560 .bf16 from iblk m c 1 t) (ix2 k ⟨o + j.val, by omega⟩) := by
  pointwise

theorem ld4 (c : Dev nD) (t : Fin cfg0.N) (o : ℕ) (inb : ∀ a, (![0, o] : Fin 2 → ℕ) a + (![1024, 1024] : Fin 2 → ℕ) a ≤ S1024x2048.size a) (k : Fin 1024) (j : Fin 1024) (ho : o + 1024 ≤ 2048) :
    View.ld (iblk m c 4 t) (Rect.unit (s := S1024x2048) ![0, o] ![1024, 1024] inb) (ix2 k j) = (show FVec Ideal S1024x2048 .bf16 from iblk m c 4 t) (ix2 k ⟨o + j.val, by omega⟩) := by
  pointwise

theorem pay16_at (x : Vec Ideal S256x1024 .f32) (w : Vec Ideal S1024x512 .bf16) (r : Fin 256) (j : Fin 512) :
    k0_pay16 (k0_pay5 x) w (ix2 r j) = ∑ k : Fin 1024, x (ix2 r k) * w (ix2 k j) := by
  pointwise [k0_pay16, k0_pay5]

theorem pay17_at (x : Vec Ideal S256x1024 .f32) (w : Vec Ideal S1024x512 .bf16) (r : Fin 256) (j : Fin 512) :
    k0_pay17 (k0_pay5 x) w (ix2 r j) = ∑ k : Fin 1024, x (ix2 r k) * w (ix2 k j) := by
  pointwise [k0_pay17, k0_pay5]

theorem pay6_at (x : Vec Ideal S256x1024 .f32) (w : Vec Ideal S1024x512 .bf16) (r : Fin 256) (j : Fin 512) :
    k0_pay6 x w (ix2 r j) = ∑ k : Fin 1024, x (ix2 r k) * w (ix2 k j) := by
  pointwise [k0_pay6, k0_pay5]

theorem pay7_at (x : Vec Ideal S256x1024 .f32) (w w' : Vec Ideal S1024x512 .bf16) (r : Fin 256) (j : Fin 512) :
    k0_pay7 x w w' (ix2 r j) = (∑ k : Fin 1024, x (ix2 r k) * w' (ix2 k j)) * ∑ k : Fin 1024, x (ix2 r k) * w (ix2 k j) := by
  pointwise [k0_pay7, k0_pay5]

theorem pay9_at (x : Vec Ideal S256x1024 .f32) (w w' : Vec Ideal S1024x512 .bf16) (r : Fin 256) (j : Fin 512) :
    k0_pay9 x w w' (ix2 r j) = k0_pay7 x w w' (ix2 r j) := by
  pointwise [k0_pay9]

theorem pay8_at (r : Fin 8) (j : Fin 512) : k0_pay8 (F := Ideal) (ix2 r j) = 0 := by
  pointwise [k0_pay8]

theorem forget_at (x : Vec Ideal S256x1024 .f32) (w : Vec Ideal S1024x128 .bf16) (b : Vec Ideal S1x128 .f32) (r : Fin 256) (j : Fin 8) :
    k0_pay1 k0_pay20 (k0_pay21 (k0_pay5 x) w b) (k0_pay22 (k0_pay5 x) w b) (Scalar.ofBits .f32 0x00000000#32) (ix2 r j)
      = lsig ((∑ k : Fin 1024, x (ix2 r k) * w (ix2 k ⟨j.val, by omega⟩)) + b (ix2 0 ⟨j.val, by omega⟩)) := by
  pointwise [k0_pay1, k0_pay20, k0_pay21, k0_pay22, k0_pay19, k0_pay5, lsig]
  have h : ∀ j : Fin 8, IntOp.cmpi CmpIPredicate.slt (BitVec.ofNat 32 j.val) 8#32 = 1#1 := by decide
  rw [h j]
  rfl

/-- The place of a row in its sequence, as a word. -/
def place (w : BitVec 32) : BitVec 32 :=
  Scalar.select
    (IntOp.andi
      (IntOp.xori (IntOp.cmpi CmpIPredicate.slt (IntOp.remsi ArithUnit.vector w (Scalar.select (Scalar.cmpi CmpIPredicate.eq 4#32 0#32) 1#32 4#32)) 0#32)
        (Scalar.cmpi CmpIPredicate.slt 4#32 0#32))
      (IntOp.cmpi CmpIPredicate.ne (IntOp.remsi ArithUnit.vector w (Scalar.select (Scalar.cmpi CmpIPredicate.eq 4#32 0#32) 1#32 4#32)) 0#32))
    (IntOp.addi (IntOp.remsi ArithUnit.vector w (Scalar.select (Scalar.cmpi CmpIPredicate.eq 4#32 0#32) 1#32 4#32)) 4#32)
    (IntOp.remsi ArithUnit.vector w (Scalar.select (Scalar.cmpi CmpIPredicate.eq 4#32 0#32) 1#32 4#32))

theorem place0 : ∀ r : Fin 256, IntOp.cmpi CmpIPredicate.eq (place (BitVec.ofNat 32 r.val)) 0#32 = if r.val % 4 = 0 then 1#1 else 0#1 := by
  decide +kernel

theorem place1 : ∀ r : Fin 256, IntOp.cmpi CmpIPredicate.eq (place (BitVec.ofNat 32 r.val)) 1#32 = if r.val % 4 = 1 then 1#1 else 0#1 := by
  decide +kernel

theorem conv_at (p1 p2 : Vec Ideal S256x512 .f32) (s1 s0 : Vec Ideal S256x512 .f32) (c0 c1 : Vec Ideal S1x512 .f32) (r : Fin 256) (j : Fin 512) :
    k0_pay13 p1 p2 4#32 k0_pay10 k0_pay11 k0_pay12 0#32 s1 s0 s1 c0 c1 (ix2 r j)
      = c0 (ix2 0 j) * (if r.val % 4 = 0 then s0 (ix2 r j) else if r.val % 4 = 1 then s1 (ix2 r j) else p2 (ix2 r j))
        + c1 (ix2 0 j) * (if r.val % 4 = 0 then s1 (ix2 r j) else p1 (ix2 r j)) := by
  pointwise [k0_pay13, k0_pay10, k0_pay11, k0_pay12]
  change c0 (ix2 0 j) * Scalar.select (IntOp.cmpi CmpIPredicate.eq (place (BitVec.ofNat 32 r.val)) 0#32) (s0 (ix2 r j))
      (Scalar.select (IntOp.cmpi CmpIPredicate.eq (place (BitVec.ofNat 32 r.val)) 1#32) (s1 (ix2 r j)) (p2 (ix2 r j)))
    + c1 (ix2 0 j) * Scalar.select (IntOp.cmpi CmpIPredicate.eq (place (BitVec.ofNat 32 r.val)) 0#32) (s1 (ix2 r j)) (p1 (ix2 r j)) = _
  rw [place0 r, place1 r]
  by_cases h0 : r.val % 4 = 0
  · rw [if_pos h0, if_pos h0, if_pos h0]
    rfl
  · by_cases h1 : r.val % 4 = 1
    · rw [if_neg h0, if_neg h0, if_neg h0, if_pos h1, if_pos h1]
      rfl
    · rw [if_neg h0, if_neg h0, if_neg h0, if_neg h1, if_neg h1]
      rfl

theorem branch_at (x : Vec Ideal S256x1024 .f32) (b u cv : Vec Ideal S256x512 .f32) (c2 : Vec Ideal S1x512 .f32) (wo : Vec Ideal S512x1024 .bf16) (g : Vec Ideal S1024x1024 .bf16)
    (r : Fin 256) (d : Fin 1024) :
    k0_pay3 (k0_pay5 x) (k0_pay15 b u cv (k0_pay14 c2) wo) g (ix2 r d)
      = Ideal.logistic (∑ k : Fin 1024, x (ix2 r k) * g (ix2 k d)) * ∑ j : Fin 512, b (ix2 r j) * (cv (ix2 r j) + c2 (ix2 0 j) * u (ix2 r j)) * wo (ix2 j d) := by
  pointwise [k0_pay3, k0_pay5, k0_pay15, k0_pay14]

theorem gate_at (x : Vec Ideal S256x1024 .f32) (g : Vec Ideal S1024x1024 .bf16) (r : Fin 256) (d : Fin 1024) :
    k0_pay4 (k0_pay5 x) g (ix2 r d) = Ideal.logistic (∑ k : Fin 1024, x (ix2 r k) * g (ix2 k d)) := by
  pointwise [k0_pay4, k0_pay5]

end Cert.SampleIdeal.Out
-- ==== Proof.SampleRef.lean ====
module

public import proofs.«01_k».proof.Proof.InprojSpec
public import proofs.«01_k».proof.Proof.Gen.SampleRefIdeal.Read

@[expose] public section

set_option maxRecDepth 16384
noncomputable section

open Idealize.ShloMosaic

namespace Cert.SampleRefIdeal.Closed

open Cert.SampleRefIdeal Cert.SampleRefIdeal.Read Cert.InprojSpec

variable (x0 : FVec Ideal S128x4x1024 .f32) (x1 : FVec Ideal S1x128x2x512 .f32) (x2 : FVec Ideal S1x1024x5128 .f32) (x3 : FVec Ideal S1x8 .f32)
  (x4 : FVec Ideal S1x3x512 .f32) (x5 : FVec Ideal S1x512x1024 .f32)

/-- The projected row of a new token of a sequence. -/
def hrow (s : Fin 128) (p : Fin 4) : Fin 5128 → EReal := row (fun k => x0 (ix3 s p k)) (fun k j => x2 (ix3 0 k j))

/-- The gated inputs of a sequence, its two kept rows first. -/
def ext (s : Fin 128) (q : ℕ) (j : Fin 512) : EReal :=
  if h : q < 2 then x1 (ix4 0 s ⟨q, h⟩ j) else if h : q < 6 then gated (hrow x0 x2 s ⟨q - 2, by omega⟩) j else 0

abbrev sq (r : Fin 512) : Fin 128 := ⟨r.val / 4, by omega⟩
abbrev po (r : Fin 512) : Fin 4 := ⟨r.val % 4, by omega⟩

theorem v1_at (s : Fin 128) (p : Fin 4) (j : Fin 5128) : val_main_v1 (F := Ideal) x0 x2 (ix3 s p j) = hrow x0 x2 s p j := by
  pointwise [val_main_v1, val_main_v0, hrow, row]

theorem v11_at (s : Fin 128) (p : Fin 4) (j : Fin 512) : val_main_v11 (F := Ideal) x0 x2 (ix3 s p j) = gated (hrow x0 x2 s p) j := by
  pointwise [val_main_v11, val_main_v4, val_main_v2]
  rw [v1_at, v1_at]
  rfl

theorem v13_at (s : Fin 128) (q : Fin 6) (j : Fin 512) : val_main_v13 (F := Ideal) x0 x1 x2 (ix3 s q j) = ext x0 x1 x2 s q.val j := by
  pointwise [val_main_v13, val_main_v12]
  unfold ext
  split
  · rfl
  · rw [v11_at, dif_pos (by omega)]

theorem keys_at (r : Fin 512) (j : Fin 512) : val_main_v43 (F := Ideal) x0 x2 (ix2 r j) = keys (hrow x0 x2 (sq r) (po r)) j := by
  pointwise [val_main_v43, val_main_v6]
  rw [v1_at]
  rfl

theorem vals_at (r : Fin 512) (j : Fin 512) : val_main_v44 (F := Ideal) x0 x2 (ix2 r j) = vals (hrow x0 x2 (sq r) (po r)) j := by
  pointwise [val_main_v44, val_main_v7]
  rw [v1_at]
  rfl

theorem forget_at (r : Fin 512) (j : Fin 8) : val_main_v45 (F := Ideal) x0 x2 x3 (ix2 r j) = forget (hrow x0 x2 (sq r) (po r)) (fun i => x3 (ix2 0 i)) j := by
  pointwise [val_main_v45, val_main_v42, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v41, val_main_v40, val_main_v39, val_main_v38, val_main_v8]
  rw [v1_at, if_neg (by simp)]
  exact lsig_eq _

theorem v35_at (s : Fin 128) (p : Fin 4) (j : Fin 512) : val_main_v35 (F := Ideal) x0 x1 x2 x4 (ix3 s p j)
    = conv (hrow x0 x2 s p) (fun a j => x4 (ix3 0 a j)) (ext x0 x1 x2 s p.val) (ext x0 x1 x2 s (p.val + 1)) j := by
  pointwise [val_main_v35, val_main_v34, val_main_v33, val_main_v27, val_main_v26, val_main_v20, val_main_v30, val_main_v23, val_main_v17, val_main_v3,
    val_main_v32, val_main_v31, val_main_v29, val_main_v28, val_main_v25, val_main_v24, val_main_v22, val_main_v21, val_main_v19, val_main_v18, val_main_v16, val_main_v15, val_main_v14]
  rw [v1_at, v13_at, v13_at, v13_at]
  unfold conv
  refine congrArg (_ * ·) (congrArg₂ (· + ·) (congrArg₂ (· + ·) rfl (congrArg (_ * ·) ?_)) (congrArg (_ * ·) ?_))
  · show ext x0 x1 x2 s (1 + p.val) j = _
    rw [Nat.add_comm]
  · have h := p.isLt
    unfold ext
    rw [dif_neg (by show ¬(2 + p.val < 2); omega), dif_pos (by show 2 + p.val < 6; omega)]
    congr 2
    exact Fin.ext (by simp)

theorem branch_at (r : Fin 512) (d : Fin 1024) : val_main_v53 (F := Ideal) x0 x1 x2 x4 x5 (ix2 r d)
    = branch (hrow x0 x2 (sq r) (po r)) (fun a j => x4 (ix3 0 a j)) (ext x0 x1 x2 (sq r) (r.val % 4)) (ext x0 x1 x2 (sq r) (r.val % 4 + 1)) (fun j d => x5 (ix3 0 j d)) d := by
  pointwise [val_main_v53, val_main_v52, val_main_v51, val_main_v50, val_main_v49, val_main_v48, val_main_v47, val_main_v46, val_main_v9, val_main_v37, val_main_v36]
  unfold branch
  refine congrArg₂ (· * ·) ?_ (Finset.sum_congr rfl fun j _ => ?_)
  · rw [v1_at]
    pointwise [val_main_cst, val_main_cst_0]
    rfl
  · rw [v35_at]

theorem gate_at (r : Fin 512) (d : Fin 1024) : val_main_v60 (F := Ideal) x0 x2 (ix2 r d) = gateB (hrow x0 x2 (sq r) (po r)) d := by
  pointwise [val_main_v60, val_main_v59, val_main_v58, val_main_v57, val_main_v56, val_main_v55, val_main_v54, val_main_v10]
  rw [v1_at]
  pointwise [val_main_cst_1, val_main_cst_2]
  rfl

theorem gated_at (r : Fin 512) (d : Fin 512) : val_main_v61 (F := Ideal) x0 x2 (ix2 r d) = gated (hrow x0 x2 (sq r) (po r)) d := by
  pointwise [val_main_v61]
  rw [v11_at]

end Cert.SampleRefIdeal.Closed
-- ==== Proof.SampleOut.lean ====
module

public import proofs.«01_k».proof.Proof.SamplePays
public import proofs.«01_k».proof.Proof.SampleRef
public import proofs.«01_k».proof.Proof.InprojBuf

@[expose] public section

set_option maxRecDepth 16384
noncomputable section

open Idealize.ShloMosaic Idealize.ShloMosaic.TcCoe Idealize.SL.Sem
open Idealize.ShloMosaic.Pipeline (Dat)

namespace Cert.SampleIdeal.Out

open Cert.SampleIdeal Cert.SampleIdeal.Gen Cert.InprojSpec
open Cert.SampleRefIdeal.Closed (hrow ext sq po)

variable (m : (ℓ : Loc nD τ sig) → Buf (Elt Ideal) ℓ)

/-- The row of all tokens a block's row is. -/
abbrev R (t : Fin cfg0.N) (r : Fin 256) : Fin 512 := ⟨256 * t.val + r.val, by have := lt t; omega⟩

theorem proj1 (c : Dev nD) (t : Fin cfg0.N) (o : ℕ) (inb : ∀ a, (![0, o] : Fin 2 → ℕ) a + (![1024, 512] : Fin 2 → ℕ) a ≤ S1024x2560.size a) (ho : o + 512 ≤ 2560)
    (r : Fin 256) (j : Fin 512) (q : Fin 5128) (hq : q.val = if o + j.val < 1536 then o + j.val else 512 + (o + j.val)) :
    ∑ k : Fin 1024, (show FVec Ideal S256x1024 .f32 from iblk m c 0 t) (ix2 r k) * View.ld (iblk m c 1 t) (Rect.unit (s := S1024x2560) ![0, o] ![1024, 512] inb) (ix2 k j)
      = hrow (A0 m c) (A2 m c) (sq (R t r)) (po (R t r)) q := by
  unfold hrow row
  refine Finset.sum_congr rfl fun k _ => congrArg₂ (· * ·) (iblk0 m c t r k) ?_
  rw [ld1 m c t o inb k j ho, iblk1]
  refine congrArg (fun y => A2 m c (ix3 0 k y)) (Fin.ext ?_)
  rw [hq]
  show (dite (o + j.val < 1536) _ _ : Fin 5128).val = _
  split <;> rfl

theorem proj4 (c : Dev nD) (t : Fin cfg0.N) (o : ℕ) (inb : ∀ a, (![0, o] : Fin 2 → ℕ) a + (![1024, 1024] : Fin 2 → ℕ) a ≤ S1024x2048.size a) (ho : o + 1024 ≤ 2048)
    (r : Fin 256) (j : Fin 1024) (q : Fin 5128) (hq : q.val = 3080 + (o + j.val)) :
    ∑ k : Fin 1024, (show FVec Ideal S256x1024 .f32 from iblk m c 0 t) (ix2 r k) * View.ld (iblk m c 4 t) (Rect.unit (s := S1024x2048) ![0, o] ![1024, 1024] inb) (ix2 k j)
      = hrow (A0 m c) (A2 m c) (sq (R t r)) (po (R t r)) q := by
  unfold hrow row
  refine Finset.sum_congr rfl fun k _ => congrArg₂ (· * ·) (iblk0 m c t r k) ?_
  rw [ld4 m c t o inb k j ho, iblk4]
  exact congrArg (fun y => A2 m c (ix3 0 k y)) (Fin.ext hq.symm)

theorem o11 (c : Dev nD) (t : Fin cfg0.N) (r : Fin 256) (j : Fin 512) :
    (outsAt0 m c t).2.1 (ix2 r j) = keys (hrow (A0 m c) (A2 m c) (sq (R t r)) (po (R t r))) j := by
  rw [outsAt0]
  frame_out
  exact (pay16_at _ _ r j).trans (proj1 m c t 1536 _ (by omega) r j _ (by rw [if_neg (by omega)]; show 2048 + j.val = _; omega))

theorem o12 (c : Dev nD) (t : Fin cfg0.N) (r : Fin 256) (j : Fin 512) :
    (outsAt0 m c t).2.2.1 (ix2 r j) = vals (hrow (A0 m c) (A2 m c) (sq (R t r)) (po (R t r))) j := by
  rw [outsAt0]
  frame_out
  exact (pay17_at _ _ r j).trans (proj1 m c t 2048 _ (by omega) r j _ (by rw [if_neg (by omega)]; show 2560 + j.val = _; omega))

theorem o13 (c : Dev nD) (t : Fin cfg0.N) (r : Fin 256) (j : Fin 8) :
    (outsAt0 m c t).2.2.2.1 (ix2 r j) = forget (hrow (A0 m c) (A2 m c) (sq (R t r)) (po (R t r))) (fun i => A3 m c (ix2 0 i)) j := by
  rw [outsAt0]
  frame_out
  refine (forget_at _ _ _ r j).trans (congrArg lsig (congrArg₂ (· + ·) (Finset.sum_congr rfl fun k _ => congrArg₂ (· * ·) (iblk0 m c t r k) (iblk3 m c t k j)) (iblk5 m c t j)))

theorem o15 (c : Dev nD) (t : Fin cfg0.N) (r : Fin 256) (d : Fin 1024) :
    (outsAt0 m c t).2.2.2.2.2.1 (ix2 r d) = gateB (hrow (A0 m c) (A2 m c) (sq (R t r)) (po (R t r))) d := by
  rw [outsAt0]
  frame_out
  exact (gate_at _ _ r d).trans (congrArg Ideal.logistic (proj4 m c t 1024 _ (by omega) r d _ (by show 4104 + d.val = _; omega)))

theorem u_at (c : Dev nD) (t : Fin cfg0.N) (inb0 inb1) (r : Fin 256) (j : Fin 512) :
    k0_pay7 (iblk m c 0 t) (View.ld (iblk m c 1 t) (Rect.unit (s := S1024x2560) ![0, 0] ![1024, 512] inb0)) (View.ld (iblk m c 1 t) (Rect.unit (s := S1024x2560) ![0, 1024] ![1024, 512] inb1)) (ix2 r j)
      = gated (hrow (A0 m c) (A2 m c) (sq (R t r)) (po (R t r))) j :=
  (pay7_at _ _ _ r j).trans (congrArg₂ (· * ·)
    (proj1 m c t 1024 _ (by omega) r j _ (by rw [if_pos (by omega)]))
    (proj1 m c t 0 _ (by omega) r j _ (by rw [if_pos (by omega)]; show j.val = _; omega)))

theorem o16 (c : Dev nD) (t : Fin cfg0.N) (r : Fin 256) (j : Fin 512) :
    (outsAt0 m c t).2.2.2.2.2.2 (ix2 r j) = gated (hrow (A0 m c) (A2 m c) (sq (R t r)) (po (R t r))) j := by
  rw [outsAt0]
  frame_out
  exact u_at m c t _ _ r j

/-- A row above in the sequence, read from the buffer. -/
theorem up_at (c : Dev nD) (t : Fin cfg0.N) (inb0 inb1) (o : ℕ) (inb) (ho : o ≤ 8) (r : Fin 256) (j : Fin 512) (q : ℕ) (hr : 8 ≤ o + r.val) (hq : q + 8 = r.val % 4 + 2 + o) (h2 : 2 ≤ q) :
    (View.whole cc0_scratch0).readCov (Val := Elt Ideal) [⟨Rect.unit (s := S264x512) ![8, 0] ![256, 512] inb_S264x512_S256x512_8_0,
          k0_pay9 (iblk m c 0 t) (View.ld (iblk m c 1 t) (Rect.unit (s := S1024x2560) ![0, 0] ![1024, 512] inb0)) (View.ld (iblk m c 1 t) (Rect.unit (s := S1024x2560) ![0, 1024] ![1024, 512] inb1))⟩,
          ⟨Rect.unit (s := S264x512) ![0, 0] ![8, 512] inb_S264x512_S8x512_0_0, k0_pay8 (F := Ideal)⟩]
        (Rect.unit (s := S264x512) ![o, 0] ![256, 512] inb).toLoadRect (ix2 r j)
      = ext (A0 m c) (A1 m c) (A2 m c) (sq (R t r)) q j := by
  rw [View.readCov_eq_canon']
  refine (Cert.InprojBuf.high _ _ _ _ ⟨o + r.val - 8, by omega⟩ j (by show o + 1 * r.val = 8 + (o + r.val - 8); omega) (by show 0 + 1 * j.val = j.val; omega)).trans ?_
  refine (pay9_at _ _ _ _ j).trans ((u_at m c t _ _ _ j).trans ?_)
  unfold ext
  rw [dif_neg (by omega), dif_pos (by omega)]
  congr 2
  · exact Fin.ext (by show (256 * t.val + (o + r.val - 8)) / 4 = (256 * t.val + r.val) / 4; omega)
  · exact Fin.ext (by show (256 * t.val + (o + r.val - 8)) % 4 = q - 2; omega)

theorem o14 (c : Dev nD) (t : Fin cfg0.N) (r : Fin 256) (d : Fin 1024) :
    (outsAt0 m c t).2.2.2.2.1 (ix2 r d) = branch (hrow (A0 m c) (A2 m c) (sq (R t r)) (po (R t r))) (fun a j => A4 m c (ix3 0 a j))
      (ext (A0 m c) (A1 m c) (A2 m c) (sq (R t r)) ((R t r).val % 4)) (ext (A0 m c) (A1 m c) (A2 m c) (sq (R t r)) ((R t r).val % 4 + 1)) (fun j d => A5 m c (ix3 0 j d)) d := by
  have hR : (R t r).val % 4 = r.val % 4 := by show (256 * t.val + r.val) % 4 = _; omega
  rw [outsAt0]
  frame_out
  refine (branch_at _ _ _ _ _ _ _ r d).trans (congrArg₂ (· * ·) (congrArg Ideal.logistic (proj4 m c t 0 _ (by omega) r d _ (by show 3080 + d.val = _; omega)))
    (Finset.sum_congr rfl fun j _ => congrArg₂ (· * ·) (congrArg₂ (· * ·) ?_ ?_) (iblk7 m c t j d)))
  · exact (pay6_at _ _ r j).trans (proj1 m c t 512 _ (by omega) r j _ (by rw [if_pos (by omega)]))
  · refine congrArg₂ (· + ·) ((conv_at _ _ _ _ _ _ r j).trans (congrArg₂ (· + ·) (congrArg₂ (· * ·) ?_ ?_) (congrArg₂ (· * ·) ?_ ?_))) (congrArg₂ (· * ·) ?_ (u_at m c t _ _ r j))
    · refine Eq.trans ?_ (iblk6 m c t 0 j)
      pointwise
    · rw [hR]
      by_cases h0 : r.val % 4 = 0
      · rw [if_pos h0, h0]
        exact iblk8 m c t r j
      · rw [if_neg h0]
        by_cases h1 : r.val % 4 = 1
        · rw [if_pos h1, h1]
          exact iblk9 m c t r j
        · rw [if_neg h1]
          exact up_at m c t _ _ 6 _ (by omega) r j _ (by omega) (by omega) (by omega)
    · refine Eq.trans ?_ (iblk6 m c t 1 j)
      pointwise
    · rw [hR]
      by_cases h0 : r.val % 4 = 0
      · rw [if_pos h0, h0]
        exact iblk9 m c t r j
      · rw [if_neg h0]
        exact up_at m c t _ _ 7 _ (by omega) r j _ (by omega) (by omega) (by omega)
    · refine Eq.trans ?_ (iblk6 m c t 2 j)
      pointwise

end Cert.SampleIdeal.Out
-- ==== Proof.SampleClaim.lean ====
module

public import proofs.«01_k».proof.Defs
public import proofs.«01_k».proof.Proof.SampleOut
public import proofs.«01_k».proof.Proof.Gen.SampleRefIdeal.Run

@[expose] public section

set_option maxRecDepth 16384
noncomputable section

open Idealize.ShloMosaic Idealize.ShloMosaic.TcCoe Idealize.SL.Sem

namespace Cert.SampleClaim

section

open Cert.SampleIdeal Cert.SampleIdeal.Gen Cert.SampleIdeal.Out

variable (m : (ℓ : Loc nD τ sig) → Buf (Elt Ideal) ℓ)

theorem final11 (c : Dev nD) : (Cert.SampleIdeal.Gen.dats m 0 c).arrAt 11 (cfgs 0).N = Cert.SampleRefIdeal.Read.val_main_v43 (F := Ideal) (A0 m c) (A2 m c) := by
  refine (Cert.SampleIdeal.Gen.dats m 0 c).arrAt_eq_of_covers 11 _ (by decide +kernel) fun t hf y => ?_
  blk_simp
  rw [after0_11]
  idx_vars y
  refine (o11 m c t _ _).trans ((Cert.SampleRefIdeal.Closed.keys_at _ _ (R t _) _).symm.trans ?_)
  refine congrArg _ (funext fun a => Fin.ext ?_)
  match a with
  | 0 =>
    blk_simp [idx t]
    show 256 * t.val + y0.val = t.val * 256 + y0.val
    ring
  | 1 => blk_simp [idx t]

theorem final12 (c : Dev nD) : (Cert.SampleIdeal.Gen.dats m 0 c).arrAt 12 (cfgs 0).N = Cert.SampleRefIdeal.Read.val_main_v44 (F := Ideal) (A0 m c) (A2 m c) := by
  refine (Cert.SampleIdeal.Gen.dats m 0 c).arrAt_eq_of_covers 12 _ (by decide +kernel) fun t hf y => ?_
  blk_simp
  rw [after0_12]
  idx_vars y
  refine (o12 m c t _ _).trans ((Cert.SampleRefIdeal.Closed.vals_at _ _ (R t _) _).symm.trans ?_)
  refine congrArg _ (funext fun a => Fin.ext ?_)
  match a with
  | 0 =>
    blk_simp [idx t]
    show 256 * t.val + y0.val = t.val * 256 + y0.val
    ring
  | 1 => blk_simp [idx t]

theorem final13 (c : Dev nD) : (Cert.SampleIdeal.Gen.dats m 0 c).arrAt 13 (cfgs 0).N = Cert.SampleRefIdeal.Read.val_main_v45 (F := Ideal) (A0 m c) (A2 m c) (A3 m c) := by
  refine (Cert.SampleIdeal.Gen.dats m 0 c).arrAt_eq_of_covers 13 _ (by decide +kernel) fun t hf y => ?_
  blk_simp
  rw [after0_13]
  idx_vars y
  refine (o13 m c t _ _).trans ((Cert.SampleRefIdeal.Closed.forget_at _ _ _ (R t _) _).symm.trans ?_)
  refine congrArg _ (funext fun a => Fin.ext ?_)
  match a with
  | 0 =>
    blk_simp [idx t]
    show 256 * t.val + y0.val = t.val * 256 + y0.val
    ring
  | 1 => blk_simp [idx t]

theorem final14 (c : Dev nD) : (Cert.SampleIdeal.Gen.dats m 0 c).arrAt 14 (cfgs 0).N = Cert.SampleRefIdeal.Read.val_main_v53 (F := Ideal) (A0 m c) (A1 m c) (A2 m c) (A4 m c) (A5 m c) := by
  refine (Cert.SampleIdeal.Gen.dats m 0 c).arrAt_eq_of_covers 14 _ (by decide +kernel) fun t hf y => ?_
  blk_simp
  rw [after0_14]
  idx_vars y
  refine (o14 m c t _ _).trans ((Cert.SampleRefIdeal.Closed.branch_at _ _ _ _ _ (R t _) _).symm.trans ?_)
  refine congrArg _ (funext fun a => Fin.ext ?_)
  match a with
  | 0 =>
    blk_simp [idx t]
    show 256 * t.val + y0.val = t.val * 256 + y0.val
    ring
  | 1 => blk_simp [idx t]

theorem final15 (c : Dev nD) : (Cert.SampleIdeal.Gen.dats m 0 c).arrAt 15 (cfgs 0).N = Cert.SampleRefIdeal.Read.val_main_v60 (F := Ideal) (A0 m c) (A2 m c) := by
  refine (Cert.SampleIdeal.Gen.dats m 0 c).arrAt_eq_of_covers 15 _ (by decide +kernel) fun t hf y => ?_
  blk_simp
  rw [after0_15]
  idx_vars y
  refine (o15 m c t _ _).trans ((Cert.SampleRefIdeal.Closed.gate_at _ _ (R t _) _).symm.trans ?_)
  refine congrArg _ (funext fun a => Fin.ext ?_)
  match a with
  | 0 =>
    blk_simp [idx t]
    show 256 * t.val + y0.val = t.val * 256 + y0.val
    ring
  | 1 => blk_simp [idx t]

theorem final16 (c : Dev nD) : (Cert.SampleIdeal.Gen.dats m 0 c).arrAt 16 (cfgs 0).N = Cert.SampleRefIdeal.Read.val_main_v61 (F := Ideal) (A0 m c) (A2 m c) := by
  refine (Cert.SampleIdeal.Gen.dats m 0 c).arrAt_eq_of_covers 16 _ (by decide +kernel) fun t hf y => ?_
  blk_simp
  rw [after0_16]
  idx_vars y
  refine (o16 m c t _ _).trans ((Cert.SampleRefIdeal.Closed.gated_at _ _ (R t _) _).symm.trans ?_)
  refine congrArg _ (funext fun a => Fin.ext ?_)
  match a with
  | 0 =>
    blk_simp [idx t]
    show 256 * t.val + y0.val = t.val * 256 + y0.val
    ring
  | 1 => blk_simp [idx t]

end

theorem congr3 {α β γ δ : Type} (f : α → β → γ → δ) {a a' : α} {b b' : β} {c c' : γ} (ha : a = a') (hb : b = b') (hc : c = c') : f a b c = f a' b' c' := by
  rw [ha, hb, hc]

theorem congr5 {α β γ δ ε ζ : Type} (f : α → β → γ → δ → ε → ζ) {a a' : α} {b b' : β} {c c' : γ} {d d' : δ} {e e' : ε} (ha : a = a') (hb : b = b') (hc : c = c') (hd : d = d') (he : e = e') :
    f a b c d e = f a' b' c' d' e' := by
  rw [ha, hb, hc, hd, he]

open Cert.SampleIdeal.Out Cert.SampleRefIdeal.Read in
theorem algebraic : Cert.algebraic_SampleIdeal_SampleRefIdeal
    (hSampleIdeal := Cert.SampleIdeal.Gen.facts) (hSampleRefIdeal := Cert.SampleRefIdeal.Gen.facts) := by
  intro m ρ m' ρ' _ hag
  refine ⟨fun c => val_main_v43 (F := Ideal) (A0 m c) (A2 m c), fun c => val_main_v44 (F := Ideal) (A0 m c) (A2 m c), fun c => val_main_v45 (F := Ideal) (A0 m c) (A2 m c) (A3 m c),
    fun c => val_main_v53 (F := Ideal) (A0 m c) (A1 m c) (A2 m c) (A4 m c) (A5 m c), fun c => val_main_v60 (F := Ideal) (A0 m c) (A2 m c), fun c => val_main_v61 (F := Ideal) (A0 m c) (A2 m c),
    (θ_run _ _ _).mono (fun _ h c => ⟨(h c).2.1.trans (final11 m c), (h c).2.2.1.trans (final12 m c), (h c).2.2.2.1.trans (final13 m c), (h c).2.2.2.2.1.trans (final14 m c),
      (h c).2.2.2.2.2.1.trans (final15 m c), (h c).2.2.2.2.2.2.1.trans (final16 m c), (h c).2.2.2.2.2.2.2⟩) (Cert.SampleIdeal.Value.run_blocks m ρ),
    (θ_run _ _ _).mono (fun _ h c => ?_) (Cert.SampleRefIdeal.Value.run m' ρ')⟩
  obtain ⟨h0, h1, h2, h3, h4, h5⟩ := hag c
  exact ⟨(h c).1.trans ((val_main_v43_eq _ _).trans (congrArg₂ (val_main_v43 (F := Ideal)) h0 h2)),
    (h c).2.1.trans ((val_main_v44_eq _ _).trans (congrArg₂ (val_main_v44 (F := Ideal)) h0 h2)),
    (h c).2.2.1.trans ((val_main_v45_eq _ _ _).trans (congr3 (val_main_v45 (F := Ideal)) h0 h2 h3)),
    (h c).2.2.2.1.trans ((val_main_v53_eq _ _).trans (congr5 (val_main_v53 (F := Ideal)) h0 h1 h2 h4 h5)),
    (h c).2.2.2.2.1.trans ((val_main_v60_eq _ _).trans (congrArg₂ (val_main_v60 (F := Ideal)) h0 h2)),
    (h c).2.2.2.2.2.1.trans ((val_main_v61_eq _ _).trans (congrArg₂ (val_main_v61 (F := Ideal)) h0 h2)),
    (h c).2.2.2.2.2.2⟩

end Cert.SampleClaim
-- ==== Proof.lean ====
module

public import proofs.«01_k».proof.Defs
public import proofs.«01_k».proof.Proof.Gen.Attention
public import proofs.«01_k».proof.Proof.Gen.Attention.Skeleton
public import proofs.«01_k».proof.Proof.Gen.Attention.Loops
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Loops
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.AttentionIdeal.Value
public import proofs.«01_k».proof.Proof.Gen.ExpertsIdeal.Value
public import proofs.«01_k».proof.Proof.Gen.AttentionRefIdeal.Run
public import proofs.«01_k».proof.Proof.Gen.ExpertsRefIdeal.Run
public import proofs.«01_k».proof.Proof.Gen.AttentionRefIdeal.Read
public import proofs.«01_k».proof.Proof.Gen.ExpertsRefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.InprojIdeal.Value
public import proofs.«01_k».proof.Proof.Gen.SampleIdeal.Value
public import proofs.«01_k».proof.Proof.Gen.InprojRefIdeal.Run
public import proofs.«01_k».proof.Proof.Gen.InprojRefIdeal.Read
public import proofs.«01_k».proof.Proof.Gen.SampleRefIdeal.Run
public import proofs.«01_k».proof.Proof.Gen.SampleRefIdeal.Read
public import proofs.«01_k».proof.Proof.AttnClaim
public import proofs.«01_k».proof.Proof.ExpertsClaim
public import proofs.«01_k».proof.Proof.InprojClaim
public import proofs.«01_k».proof.Proof.SampleClaim
public import Idealize.ShloMosaic.Adequacy
public import Idealize.ShloMosaic.Init

@[expose] public section

noncomputable section

namespace Cert.Proof

open Idealize.ShloMosaic Idealize.SL.Sem

theorem frameAR : Cert.quiescent_AttentionRefIdeal (hAttentionRefIdeal := Cert.AttentionRefIdeal.Gen.facts) := fun m g _ =>
  (θ_run (Cert.AttentionRefIdeal.defs (F := Ideal)) _ _).mono (fun r h => And.intro (fun c => (h c).2) (sem_eq_zero_of_no_sems (by decide) r.2))
    (Cert.AttentionRefIdeal.Value.run m g)

theorem frameER : Cert.quiescent_ExpertsRefIdeal (hExpertsRefIdeal := Cert.ExpertsRefIdeal.Gen.facts) := fun m g _ =>
  (θ_run (Cert.ExpertsRefIdeal.defs (F := Ideal)) _ _).mono (fun r h => And.intro (fun c => (h c).2) (sem_eq_zero_of_no_sems (by decide) r.2))
    (Cert.ExpertsRefIdeal.Value.run m g)

theorem frameIR : Cert.quiescent_InprojRefIdeal (hInprojRefIdeal := Cert.InprojRefIdeal.Gen.facts) := fun m g _ =>
  (θ_run (Cert.InprojRefIdeal.defs (F := Ideal)) _ _).mono (fun r h => And.intro (fun c => (h c).2.2.2.2.2.2) (sem_eq_zero_of_no_sems (by decide) r.2))
    (Cert.InprojRefIdeal.Value.run m g)

theorem frameSR : Cert.quiescent_SampleRefIdeal (hSampleRefIdeal := Cert.SampleRefIdeal.Gen.facts) := fun m g _ =>
  (θ_run (Cert.SampleRefIdeal.defs (F := Ideal)) _ _).mono (fun r h => And.intro (fun c => (h c).2.2.2.2.2.2) (sem_eq_zero_of_no_sems (by decide) r.2))
    (Cert.SampleRefIdeal.Value.run m g)

theorem claim : Cert.Claim :=
  ⟨Cert.Attention.Gen.facts, Cert.AttentionIdeal.Gen.facts, Cert.AttentionRefIdeal.Gen.facts, Cert.Experts.Gen.facts, Cert.ExpertsIdeal.Gen.facts,
    Cert.ExpertsRefIdeal.Gen.facts, Cert.Inproj.Gen.facts, Cert.InprojIdeal.Gen.facts, Cert.InprojRefIdeal.Gen.facts, Cert.Sample.Gen.facts, Cert.SampleIdeal.Gen.facts,
    Cert.SampleRefIdeal.Gen.facts, Cert.AttnClaim.facts,
    fun m g _ => Cert.Attention.Gen.frame m g,
    fun m g _ => Cert.AttentionIdeal.Gen.frame m g,
    fun m g _ => Cert.AttentionIdeal.Gen.frame m g,
    frameAR,
    fun m g _ => frameAR m g trivial,
    fun m g _ => Cert.Experts.Gen.frame m g,
    fun m g _ => Cert.ExpertsIdeal.Gen.frame m g,
    frameER,
    fun m g _ => Cert.Inproj.Gen.frame m g,
    fun m g _ => Cert.InprojIdeal.Gen.frame m g,
    frameIR,
    fun m g _ => Cert.Sample.Gen.frame m g,
    fun m g _ => Cert.SampleIdeal.Gen.frame m g,
    frameSR,
    IdealRules.named_const.statement Cert.AttentionIdeal.κ "mask" _ _ _ rfl,
    Cert.AttnClaim.algebraic,
    trivial,
    Cert.ExpertsClaim.algebraic,
    trivial,
    Cert.InprojClaim.algebraic,
    trivial,
    Cert.SampleClaim.algebraic⟩

end Cert.Proof
